-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cut_untied [hPre_cut_untied : Cert.Pre_cut_untied.Facts] (m : (ℓ : Loc Cert.KernelIdeal.nD Cert.KernelIdeal.τ Cert.KernelIdeal.sig) → Buf (Elt Ideal) ℓ) : Prop :=
  ∀ c : Dev Cert.KernelIdeal.nD,
    (Cert.Pre_cut_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cut_untied [hPre_cut_untied : Cert.Pre_cut_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cut_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_cut_untied [hKernelIdeal : Cert.KernelIdeal.Facts] [hPre_cut_untied : Cert.Pre_cut_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cut_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_cut_untied [hReferenceIdeal : Cert.ReferenceIdeal.Facts] [hPre_cut_untied : Cert.Pre_cut_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cut_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_cut_untied [hKernelIdeal : Cert.KernelIdeal.Facts] [hReferenceIdeal : Cert.ReferenceIdeal.Facts] [hPre_cut_untied : Cert.Pre_cut_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cut_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_cut_untied : Cert.Pre_cut_untied.Facts),
    quiescent_Kernel (hKernel := hKernel)
    ∧ quiescent_KernelIdeal (hKernelIdeal := hKernelIdeal)
    ∧ quiescent_KernelIdeal_pre_cut_untied (hKernelIdeal := hKernelIdeal) (hPre_cut_untied := hPre_cut_untied)
    ∧ quiescent_ReferenceIdeal (hReferenceIdeal := hReferenceIdeal)
    ∧ quiescent_ReferenceIdeal_pre_cut_untied (hReferenceIdeal := hReferenceIdeal) (hPre_cut_untied := hPre_cut_untied)
    ∧ preserves_Kernel_KernelIdeal
    ∧ algebraic_KernelIdeal_ReferenceIdeal_pre_cut_untied (hKernelIdeal := hKernelIdeal) (hReferenceIdeal := hReferenceIdeal) (hPre_cut_untied := hPre_cut_untied)
-- ==== Pre_cut_untied.lean ====
abbrev S8x80x80x3x85 : Shape := ⟨5, ![8, 80, 80, 3, 85]⟩
abbrev S8x40x40x3x85 : Shape := ⟨5, ![8, 40, 40, 3, 85]⟩
abbrev S8x20x20x3x85 : Shape := ⟨5, ![8, 20, 20, 3, 85]⟩
abbrev S8 : Shape := ⟨1, ![8]⟩
abbrev S3x2 : Shape := ⟨2, ![3, 2]⟩
abbrev S_ : Shape := ⟨0, ![]⟩
abbrev S80 : Shape := ⟨1, ![80]⟩
abbrev S80x80 : Shape := ⟨2, ![80, 80]⟩
abbrev S80x80x1 : Shape := ⟨3, ![80, 80, 1]⟩
abbrev S80x80x2 : Shape := ⟨3, ![80, 80, 2]⟩
abbrev S1x80x80x1x2 : Shape := ⟨5, ![1, 80, 80, 1, 2]⟩
abbrev S8x80x80x3x2 : Shape := ⟨5, ![8, 80, 80, 3, 2]⟩
abbrev S1x1x1x3x2 : Shape := ⟨5, ![1, 1, 1, 3, 2]⟩
abbrev S8x80x80x3x1 : Shape := ⟨5, ![8, 80, 80, 3, 1]⟩
abbrev S8x80x80x3x80 : Shape := ⟨5, ![8, 80, 80, 3, 80]⟩
abbrev S8x80x80x3x4 : Shape := ⟨5, ![8, 80, 80, 3, 4]⟩
abbrev S8x19200x4 : Shape := ⟨3, ![8, 19200, 4]⟩
abbrev S8x19200x80 : Shape := ⟨3, ![8, 19200, 80]⟩
abbrev S40 : Shape := ⟨1, ![40]⟩
abbrev S40x40 : Shape := ⟨2, ![40, 40]⟩
abbrev S40x40x1 : Shape := ⟨3, ![40, 40, 1]⟩
abbrev S40x40x2 : Shape := ⟨3, ![40, 40, 2]⟩
abbrev S1x40x40x1x2 : Shape := ⟨5, ![1, 40, 40, 1, 2]⟩
abbrev S8x40x40x3x2 : Shape := ⟨5, ![8, 40, 40, 3, 2]⟩
abbrev S8x40x40x3x1 : Shape := ⟨5, ![8, 40, 40, 3, 1]⟩
abbrev S8x40x40x3x80 : Shape := ⟨5, ![8, 40, 40, 3, 80]⟩
abbrev S8x40x40x3x4 : Shape := ⟨5, ![8, 40, 40, 3, 4]⟩
abbrev S8x4800x4 : Shape := ⟨3, ![8, 4800, 4]⟩
abbrev S8x4800x80 : Shape := ⟨3, ![8, 4800, 80]⟩
abbrev S20 : Shape := ⟨1, ![20]⟩
abbrev S20x20 : Shape := ⟨2, ![20, 20]⟩
abbrev S20x20x1 : Shape := ⟨3, ![20, 20, 1]⟩
abbrev S20x20x2 : Shape := ⟨3, ![20, 20, 2]⟩
abbrev S1x20x20x1x2 : Shape := ⟨5, ![1, 20, 20, 1, 2]⟩
abbrev S8x20x20x3x2 : Shape := ⟨5, ![8, 20, 20, 3, 2]⟩
abbrev S8x20x20x3x1 : Shape := ⟨5, ![8, 20, 20, 3, 1]⟩
abbrev S8x20x20x3x80 : Shape := ⟨5, ![8, 20, 20, 3, 80]⟩
abbrev S8x20x20x3x4 : Shape := ⟨5, ![8, 20, 20, 3, 4]⟩
abbrev S8x1200x4 : Shape := ⟨3, ![8, 1200, 4]⟩
abbrev S8x1200x80 : Shape := ⟨3, ![8, 1200, 80]⟩
abbrev S8x25200x80 : Shape := ⟨3, ![8, 25200, 80]⟩
abbrev S8x2016000 : Shape := ⟨2, ![8, 2016000]⟩
abbrev S8x1001 : Shape := ⟨2, ![8, 1001]⟩
abbrev S8x1 : Shape := ⟨2, ![8, 1]⟩

class Facts : Prop where
  bcast_S_S8x80x80x3x85 : S_.BroadcastsInDim S8x80x80x3x85 (![] : Fin 0 → Fin S8x80x80x3x85.rank)
  bcast_S80_S80x80_0 : S80.BroadcastsInDim S80x80 (![0] : Fin 1 → Fin S80x80.rank)
  bcast_S80_S80x80_1 : S80.BroadcastsInDim S80x80 (![1] : Fin 1 → Fin S80x80.rank)
  bcast_S80x80_S80x80x1_0_1 : S80x80.BroadcastsInDim S80x80x1 (![0, 1] : Fin 2 → Fin S80x80x1.rank)
  concatenates_S80x80x1_S80x80x1_S80x80x2_d2 : Shape.Concatenates [S80x80x1, S80x80x1] S80x80x2 2
  bcast_S80x80x2_S1x80x80x1x2_1_2_4 : S80x80x2.BroadcastsInDim S1x80x80x1x2 (![1, 2, 4] : Fin 3 → Fin S1x80x80x1x2.rank)
  slices_S8x80x80x3x85_S8x80x80x3x2_0_0_0_0_0 : S8x80x80x3x85.Slices ![0, 0, 0, 0, 0] S8x80x80x3x2
  bcast_S_S8x80x80x3x2 : S_.BroadcastsInDim S8x80x80x3x2 (![] : Fin 0 → Fin S8x80x80x3x2.rank)
  bcast_S1x80x80x1x2_S8x80x80x3x2_0_1_2_3_4 : S1x80x80x1x2.BroadcastsInDim S8x80x80x3x2 (![0, 1, 2, 3, 4] : Fin 5 → Fin S8x80x80x3x2.rank)
  slices_S8x80x80x3x85_S8x80x80x3x2_0_0_0_0_2 : S8x80x80x3x85.Slices ![0, 0, 0, 0, 2] S8x80x80x3x2
  bcast_S3x2_S1x1x1x3x2_3_4 : S3x2.BroadcastsInDim S1x1x1x3x2 (![3, 4] : Fin 2 → Fin S1x1x1x3x2.rank)
  bcast_S1x1x1x3x2_S8x80x80x3x2_0_1_2_3_4 : S1x1x1x3x2.BroadcastsInDim S8x80x80x3x2 (![0, 1, 2, 3, 4] : Fin 5 → Fin S8x80x80x3x2.rank)
  slices_S8x80x80x3x85_S8x80x80x3x1_0_0_0_0_4 : S8x80x80x3x85.Slices ![0, 0, 0, 0, 4] S8x80x80x3x1
  slices_S8x80x80x3x85_S8x80x80x3x80_0_0_0_0_5 : S8x80x80x3x85.Slices ![0, 0, 0, 0, 5] S8x80x80x3x80
  bcast_S_S8x80x80x3x1 : S_.BroadcastsInDim S8x80x80x3x1 (![] : Fin 0 → Fin S8x80x80x3x1.rank)
  bcast_S8x80x80x3x1_S8x80x80x3x80_0_1_2_3_4 : S8x80x80x3x1.BroadcastsInDim S8x80x80x3x80 (![0, 1, 2, 3, 4] : Fin 5 → Fin S8x80x80x3x80.rank)
  concatenates_S8x80x80x3x2_S8x80x80x3x2_S8x80x80x3x4_d4 : Shape.Concatenates [S8x80x80x3x2, S8x80x80x3x2] S8x80x80x3x4 4
  shapeCasts_S8x80x80x3x4_S8x19200x4 : S8x80x80x3x4.ShapeCasts S8x19200x4
  shapeCasts_S8x80x80x3x80_S8x19200x80 : S8x80x80x3x80.ShapeCasts S8x19200x80
  bcast_S_S8x40x40x3x85 : S_.BroadcastsInDim S8x40x40x3x85 (![] : Fin 0 → Fin S8x40x40x3x85.rank)
  bcast_S40_S40x40_0 : S40.BroadcastsInDim S40x40 (![0] : Fin 1 → Fin S40x40.rank)
  bcast_S40_S40x40_1 : S40.BroadcastsInDim S40x40 (![1] : Fin 1 → Fin S40x40.rank)
  bcast_S40x40_S40x40x1_0_1 : S40x40.BroadcastsInDim S40x40x1 (![0, 1] : Fin 2 → Fin S40x40x1.rank)
  concatenates_S40x40x1_S40x40x1_S40x40x2_d2 : Shape.Concatenates [S40x40x1, S40x40x1] S40x40x2 2
  bcast_S40x40x2_S1x40x40x1x2_1_2_4 : S40x40x2.BroadcastsInDim S1x40x40x1x2 (![1, 2, 4] : Fin 3 → Fin S1x40x40x1x2.rank)
  slices_S8x40x40x3x85_S8x40x40x3x2_0_0_0_0_0 : S8x40x40x3x85.Slices ![0, 0, 0, 0, 0] S8x40x40x3x2
  bcast_S_S8x40x40x3x2 : S_.BroadcastsInDim S8x40x40x3x2 (![] : Fin 0 → Fin S8x40x40x3x2.rank)
  bcast_S1x40x40x1x2_S8x40x40x3x2_0_1_2_3_4 : S1x40x40x1x2.BroadcastsInDim S8x40x40x3x2 (![0, 1, 2, 3, 4] : Fin 5 → Fin S8x40x40x3x2.rank)
  slices_S8x40x40x3x85_S8x40x40x3x2_0_0_0_0_2 : S8x40x40x3x85.Slices ![0, 0, 0, 0, 2] S8x40x40x3x2
  bcast_S1x1x1x3x2_S8x40x40x3x2_0_1_2_3_4 : S1x1x1x3x2.BroadcastsInDim S8x40x40x3x2 (![0, 1, 2, 3, 4] : Fin 5 → Fin S8x40x40x3x2.rank)
  slices_S8x40x40x3x85_S8x40x40x3x1_0_0_0_0_4 : S8x40x40x3x85.Slices ![0, 0, 0, 0, 4] S8x40x40x3x1
  slices_S8x40x40x3x85_S8x40x40x3x80_0_0_0_0_5 : S8x40x40x3x85.Slices ![0, 0, 0, 0, 5] S8x40x40x3x80
  bcast_S_S8x40x40x3x1 : S_.BroadcastsInDim S8x40x40x3x1 (![] : Fin 0 → Fin S8x40x40x3x1.rank)
  bcast_S8x40x40x3x1_S8x40x40x3x80_0_1_2_3_4 : S8x40x40x3x1.BroadcastsInDim S8x40x40x3x80 (![0, 1, 2, 3, 4] : Fin 5 → Fin S8x40x40x3x80.rank)
  concatenates_S8x40x40x3x2_S8x40x40x3x2_S8x40x40x3x4_d4 : Shape.Concatenates [S8x40x40x3x2, S8x40x40x3x2] S8x40x40x3x4 4
  shapeCasts_S8x40x40x3x4_S8x4800x4 : S8x40x40x3x4.ShapeCasts S8x4800x4
  shapeCasts_S8x40x40x3x80_S8x4800x80 : S8x40x40x3x80.ShapeCasts S8x4800x80
  bcast_S_S8x20x20x3x85 : S_.BroadcastsInDim S8x20x20x3x85 (![] : Fin 0 → Fin S8x20x20x3x85.rank)
  bcast_S20_S20x20_0 : S20.BroadcastsInDim S20x20 (![0] : Fin 1 → Fin S20x20.rank)
  bcast_S20_S20x20_1 : S20.BroadcastsInDim S20x20 (![1] : Fin 1 → Fin S20x20.rank)
  bcast_S20x20_S20x20x1_0_1 : S20x20.BroadcastsInDim S20x20x1 (![0, 1] : Fin 2 → Fin S20x20x1.rank)
  concatenates_S20x20x1_S20x20x1_S20x20x2_d2 : Shape.Concatenates [S20x20x1, S20x20x1] S20x20x2 2
  bcast_S20x20x2_S1x20x20x1x2_1_2_4 : S20x20x2.BroadcastsInDim S1x20x20x1x2 (![1, 2, 4] : Fin 3 → Fin S1x20x20x1x2.rank)
  slices_S8x20x20x3x85_S8x20x20x3x2_0_0_0_0_0 : S8x20x20x3x85.Slices ![0, 0, 0, 0, 0] S8x20x20x3x2
  bcast_S_S8x20x20x3x2 : S_.BroadcastsInDim S8x20x20x3x2 (![] : Fin 0 → Fin S8x20x20x3x2.rank)
  bcast_S1x20x20x1x2_S8x20x20x3x2_0_1_2_3_4 : S1x20x20x1x2.BroadcastsInDim S8x20x20x3x2 (![0, 1, 2, 3, 4] : Fin 5 → Fin S8x20x20x3x2.rank)
  slices_S8x20x20x3x85_S8x20x20x3x2_0_0_0_0_2 : S8x20x20x3x85.Slices ![0, 0, 0, 0, 2] S8x20x20x3x2
  bcast_S1x1x1x3x2_S8x20x20x3x2_0_1_2_3_4 : S1x1x1x3x2.BroadcastsInDim S8x20x20x3x2 (![0, 1, 2, 3, 4] : Fin 5 → Fin S8x20x20x3x2.rank)
  slices_S8x20x20x3x85_S8x20x20x3x1_0_0_0_0_4 : S8x20x20x3x85.Slices ![0, 0, 0, 0, 4] S8x20x20x3x1
  slices_S8x20x20x3x85_S8x20x20x3x80_0_0_0_0_5 : S8x20x20x3x85.Slices ![0, 0, 0, 0, 5] S8x20x20x3x80
  bcast_S_S8x20x20x3x1 : S_.BroadcastsInDim S8x20x20x3x1 (![] : Fin 0 → Fin S8x20x20x3x1.rank)
  bcast_S8x20x20x3x1_S8x20x20x3x80_0_1_2_3_4 : S8x20x20x3x1.BroadcastsInDim S8x20x20x3x80 (![0, 1, 2, 3, 4] : Fin 5 → Fin S8x20x20x3x80.rank)
  concatenates_S8x20x20x3x2_S8x20x20x3x2_S8x20x20x3x4_d4 : Shape.Concatenates [S8x20x20x3x2, S8x20x20x3x2] S8x20x20x3x4 4
  shapeCasts_S8x20x20x3x4_S8x1200x4 : S8x20x20x3x4.ShapeCasts S8x1200x4
  shapeCasts_S8x20x20x3x80_S8x1200x80 : S8x20x20x3x80.ShapeCasts S8x1200x80
  concatenates_S8x19200x80_S8x4800x80_S8x1200x80_S8x25200x80_d1 : Shape.Concatenates [S8x19200x80, S8x4800x80, S8x1200x80] S8x25200x80 1
  shapeCasts_S8x25200x80_S8x2016000 : S8x25200x80.ShapeCasts S8x2016000
  bcast_S_S8x2016000 : S_.BroadcastsInDim S8x2016000 (![] : Fin 0 → Fin S8x2016000.rank)
  sliceFits_S8x2016000_S8x1001 : S8x2016000.Slices (fun _ => 0) S8x1001
  slices_S8x1001_S8x1_0_1000 : S8x1001.Slices ![0, 1000] S8x1
  slices_S8x1001_S8x1_0_999 : S8x1001.Slices ![0, 999] S8x1
  bcast_S_S8x1 : S_.BroadcastsInDim S8x1 (![] : Fin 0 → Fin S8x1.rank)

variable [Facts]

noncomputable abbrev lit0 : Fin 6 → BitVec 32 := fun
  | 0 => 0x41200000#32 | 1 => 0x41500000#32 | 2 => 0x41800000#32 | 3 => 0x41F00000#32 | 4 => 0x42040000#32 | 5 => 0x41B80000#32
  | _ => 0#32

noncomputable abbrev lit1 : Fin 6 → BitVec 32 := fun
  | 0 => 0x41F00000#32 | 1 => 0x42740000#32 | 2 => 0x42780000#32 | 3 => 0x42340000#32 | 4 => 0x426C0000#32 | 5 => 0x42EE0000#32
  | _ => 0#32

noncomputable abbrev lit2 : Fin 6 → BitVec 32 := fun
  | 0 => 0x42E80000#32 | 1 => 0x42B40000#32 | 2 => 0x431C0000#32 | 3 => 0x43460000#32 | 4 => 0x43BA8000#32 | 5 => 0x43A30000#32
  | _ => 0#32

def fn_where {F : FTy → Type} [FloatOps F] (arg0 : IVec S8x2016000 1) (arg1 : FVec F S8x2016000 .f32) (arg2 : FVec F S_ .f32) : FVec F S8x2016000 .f32 :=
  let v0 : FVec F S_ .f32 := id arg2
  let v1 : FVec F S8x2016000 .f32 := broadcastInDim S8x2016000 ![] bcast_S_S8x2016000 v0
  let v2 : FVec F S8x2016000 .f32 := select arg0 arg1 v1
  v2

def fn_part6 {F : FTy → Type} [FloatOps F] (main_v41 : FVec F S8x19200x80 .f32) (main_v83 : FVec F S8x4800x80 .f32) (main_v106 : FVec F S8x20x20x3x2 .f32) (main_v113 : FVec F S8x20x20x3x2 .f32) (main_v115 : FVec F S8x20x20x3x80 .f32) (main_v118 : FVec F S8x20x20x3x1 .f32) (main_v119 : FVec F S8x20x20x3x80 .f32) : IVec S8x1 1 :=
  let main_v120 : FVec F S8x20x20x3x80 .f32 := mulf main_v119 main_v115
  let main_v121 : FVec F S8x20x20x3x80 .f32 := broadcastInDim S8x20x20x3x80 ![0, 1, 2, 3, 4] bcast_S8x20x20x3x1_S8x20x20x3x80_0_1_2_3_4 main_v118
  let main_v122 : FVec F S8x20x20x3x80 .f32 := mulf main_v120 main_v121
  let main_v123 : FVec F S8x20x20x3x4 .f32 := (fun a b => concatenate S8x20x20x3x4 4 [⟨S8x20x20x3x2, a⟩, ⟨S8x20x20x3x2, b⟩] concatenates_S8x20x20x3x2_S8x20x20x3x2_S8x20x20x3x4_d4) main_v106 main_v113
  let main_v124 : FVec F S8x1200x4 .f32 := shapeCast S8x1200x4 main_v123 shapeCasts_S8x20x20x3x4_S8x1200x4
  let main_v125 : FVec F S8x1200x80 .f32 := shapeCast S8x1200x80 main_v122 shapeCasts_S8x20x20x3x80_S8x1200x80
  let main_v126 : FVec F S8x25200x80 .f32 := concatenate S8x25200x80 1 [⟨S8x19200x80, main_v41⟩, ⟨S8x4800x80, main_v83⟩, ⟨S8x1200x80, main_v125⟩] concatenates_S8x19200x80_S8x4800x80_S8x1200x80_S8x25200x80_d1
  let main_v127 : FVec F S8x2016000 .f32 := shapeCast S8x2016000 main_v126 shapeCasts_S8x25200x80_S8x2016000
  let main_cst_23 : FVec F S_ .f32 := constant S_ .f32 0x3E800000#32
  let main_v128 : FVec F S8x2016000 .f32 := broadcastInDim S8x2016000 ![] bcast_S_S8x2016000 main_cst_23
  let main_v129 : IVec S8x2016000 1 := cmpf .ogt main_v127 main_v128
  let main_cst_24 : FVec F S_ .f32 := constant S_ .f32 0xBF800000#32
  let main_v130 : FVec F S8x2016000 .f32 := fn_where (F := F) main_v129 main_v127 main_cst_24
  let main_values : FVec F S8x1001 .f32 := (fun x => (Host.topK S8x1001 1 (FloatOps.cmpfTotal .gt) x sliceFits_S8x2016000_S8x1001).1) main_v130
  let main_indices : IVec S8x1001 32 := (fun x => (Host.topK S8x1001 1 (FloatOps.cmpfTotal .gt) x sliceFits_S8x2016000_S8x1001).2) main_v130
  let main_v131 : FVec F S8x1 .f32 := (extractStridedSlice S8x1 ![0, 1000] · slices_S8x1001_S8x1_0_1000) main_values
  let main_v132 : FVec F S8x1 .f32 := (extractStridedSlice S8x1 ![0, 999] · slices_S8x1001_S8x1_0_999) main_values
  let main_v133 : IVec S8x1 1 := cmpf .olt main_v131 main_v132
  let main_v134 : FVec F S8x1 .f32 := (extractStridedSlice S8x1 ![0, 999] · slices_S8x1001_S8x1_0_999) main_values
  let main_cst_25 : FVec F S_ .f32 := constant S_ .f32 0x3E800000#32
  let main_v135 : FVec F S8x1 .f32 := broadcastInDim S8x1 ![] bcast_S_S8x1 main_cst_25
  let main_v136 : IVec S8x1 1 := cmpf .ole main_v134 main_v135
  let main_v137 : IVec S8x1 1 := ori main_v133 main_v136
  main_v137

def fn_part5 {F : FTy → Type} [FloatOps F] (main_cst_1 : FVec F S3x2 .f32) (main_v41 : FVec F S8x19200x80 .f32) (main_v83 : FVec F S8x4800x80 .f32) (main_v89 : FVec F S8x20x20x3x85 .f32) (main_v97 : FVec F S1x20x20x1x2 .f32) (main_v98 : FVec F S8x20x20x3x2 .f32) (main_v99 : FVec F S8x20x20x3x2 .f32) : IVec S8x1 1 :=
  let main_v100 : FVec F S8x20x20x3x2 .f32 := mulf main_v99 main_v98
  let main_cst_19 : FVec F S_ .f32 := constant S_ .f32 0x3F000000#32
  let main_v101 : FVec F S8x20x20x3x2 .f32 := broadcastInDim S8x20x20x3x2 ![] bcast_S_S8x20x20x3x2 main_cst_19
  let main_v102 : FVec F S8x20x20x3x2 .f32 := subf main_v100 main_v101
  let main_v103 : FVec F S8x20x20x3x2 .f32 := broadcastInDim S8x20x20x3x2 ![0, 1, 2, 3, 4] bcast_S1x20x20x1x2_S8x20x20x3x2_0_1_2_3_4 main_v97
  let main_v104 : FVec F S8x20x20x3x2 .f32 := addf main_v102 main_v103
  let main_cst_20 : FVec F S_ .f32 := constant S_ .f32 0x42000000#32
  let main_v105 : FVec F S8x20x20x3x2 .f32 := broadcastInDim S8x20x20x3x2 ![] bcast_S_S8x20x20x3x2 main_cst_20
  let main_v106 : FVec F S8x20x20x3x2 .f32 := mulf main_v104 main_v105
  let main_v107 : FVec F S8x20x20x3x2 .f32 := (extractStridedSlice S8x20x20x3x2 ![0, 0, 0, 0, 2] · slices_S8x20x20x3x85_S8x20x20x3x2_0_0_0_0_2) main_v89
  let main_v108 : FVec F S8x20x20x3x2 .f32 := mulf main_v107 main_v107
  let main_cst_21 : FVec F S_ .f32 := constant S_ .f32 0x40800000#32
  let main_v109 : FVec F S8x20x20x3x2 .f32 := broadcastInDim S8x20x20x3x2 ![] bcast_S_S8x20x20x3x2 main_cst_21
  let main_v110 : FVec F S8x20x20x3x2 .f32 := mulf main_v109 main_v108
  let main_v111 : FVec F S1x1x1x3x2 .f32 := broadcastInDim S1x1x1x3x2 ![3, 4] bcast_S3x2_S1x1x1x3x2_3_4 main_cst_1
  let main_v112 : FVec F S8x20x20x3x2 .f32 := broadcastInDim S8x20x20x3x2 ![0, 1, 2, 3, 4] bcast_S1x1x1x3x2_S8x20x20x3x2_0_1_2_3_4 main_v111
  let main_v113 : FVec F S8x20x20x3x2 .f32 := mulf main_v110 main_v112
  let main_v114 : FVec F S8x20x20x3x1 .f32 := (extractStridedSlice S8x20x20x3x1 ![0, 0, 0, 0, 4] · slices_S8x20x20x3x85_S8x20x20x3x1_0_0_0_0_4) main_v89
  let main_v115 : FVec F S8x20x20x3x80 .f32 := (extractStridedSlice S8x20x20x3x80 ![0, 0, 0, 0, 5] · slices_S8x20x20x3x85_S8x20x20x3x80_0_0_0_0_5) main_v89
  let main_cst_22 : FVec F S_ .f32 := constant S_ .f32 0x3E800000#32
  let main_v116 : FVec F S8x20x20x3x1 .f32 := broadcastInDim S8x20x20x3x1 ![] bcast_S_S8x20x20x3x1 main_cst_22
  let main_v117 : IVec S8x20x20x3x1 1 := cmpf .ogt main_v114 main_v116
  let main_v118 : FVec F S8x20x20x3x1 .f32 := uitofp .f32 main_v117
  let main_v119 : FVec F S8x20x20x3x80 .f32 := broadcastInDim S8x20x20x3x80 ![0, 1, 2, 3, 4] bcast_S8x20x20x3x1_S8x20x20x3x80_0_1_2_3_4 main_v114
  fn_part6 (F := F) main_v41 main_v83 main_v106 main_v113 main_v115 main_v118 main_v119

def fn_part4 {F : FTy → Type} [FloatOps F] (main_arg2 : FVec F S8x20x20x3x85 .f32) (main_cst_1 : FVec F S3x2 .f32) (main_v41 : FVec F S8x19200x80 .f32) (main_v64 : FVec F S8x40x40x3x2 .f32) (main_v71 : FVec F S8x40x40x3x2 .f32) (main_v76 : FVec F S8x40x40x3x1 .f32) (main_v78 : FVec F S8x40x40x3x80 .f32) : IVec S8x1 1 :=
  let main_v79 : FVec F S8x40x40x3x80 .f32 := broadcastInDim S8x40x40x3x80 ![0, 1, 2, 3, 4] bcast_S8x40x40x3x1_S8x40x40x3x80_0_1_2_3_4 main_v76
  let main_v80 : FVec F S8x40x40x3x80 .f32 := mulf main_v78 main_v79
  let main_v81 : FVec F S8x40x40x3x4 .f32 := (fun a b => concatenate S8x40x40x3x4 4 [⟨S8x40x40x3x2, a⟩, ⟨S8x40x40x3x2, b⟩] concatenates_S8x40x40x3x2_S8x40x40x3x2_S8x40x40x3x4_d4) main_v64 main_v71
  let main_v82 : FVec F S8x4800x4 .f32 := shapeCast S8x4800x4 main_v81 shapeCasts_S8x40x40x3x4_S8x4800x4
  let main_v83 : FVec F S8x4800x80 .f32 := shapeCast S8x4800x80 main_v80 shapeCasts_S8x40x40x3x80_S8x4800x80
  let main_v84 : FVec F S8x20x20x3x85 .f32 := Host.negf main_arg2
  let main_v85 : FVec F S8x20x20x3x85 .f32 := Host.exp main_v84
  let main_cst_16 : FVec F S_ .f32 := constant S_ .f32 0x3F800000#32
  let main_v86 : FVec F S8x20x20x3x85 .f32 := broadcastInDim S8x20x20x3x85 ![] bcast_S_S8x20x20x3x85 main_cst_16
  let main_v87 : FVec F S8x20x20x3x85 .f32 := addf main_v86 main_v85
  let main_cst_17 : FVec F S_ .f32 := constant S_ .f32 0x3F800000#32
  let main_v88 : FVec F S8x20x20x3x85 .f32 := broadcastInDim S8x20x20x3x85 ![] bcast_S_S8x20x20x3x85 main_cst_17
  let main_v89 : FVec F S8x20x20x3x85 .f32 := Host.divf main_v88 main_v87
  let main_v90 : FVec F S20 .f32 := sitofp .f32 (iotaInDim S20 32 0)
  let main_v91 : FVec F S20 .f32 := sitofp .f32 (iotaInDim S20 32 0)
  let main_v92 : FVec F S20x20 .f32 := broadcastInDim S20x20 ![0] bcast_S20_S20x20_0 main_v90
  let main_v93 : FVec F S20x20 .f32 := broadcastInDim S20x20 ![1] bcast_S20_S20x20_1 main_v91
  let main_v94 : FVec F S20x20x1 .f32 := broadcastInDim S20x20x1 ![0, 1] bcast_S20x20_S20x20x1_0_1 main_v93
  let main_v95 : FVec F S20x20x1 .f32 := broadcastInDim S20x20x1 ![0, 1] bcast_S20x20_S20x20x1_0_1 main_v92
  let main_v96 : FVec F S20x20x2 .f32 := (fun a b => concatenate S20x20x2 2 [⟨S20x20x1, a⟩, ⟨S20x20x1, b⟩] concatenates_S20x20x1_S20x20x1_S20x20x2_d2) main_v94 main_v95
  let main_v97 : FVec F S1x20x20x1x2 .f32 := broadcastInDim S1x20x20x1x2 ![1, 2, 4] bcast_S20x20x2_S1x20x20x1x2_1_2_4 main_v96
  let main_v98 : FVec F S8x20x20x3x2 .f32 := (extractStridedSlice S8x20x20x3x2 ![0, 0, 0, 0, 0] · slices_S8x20x20x3x85_S8x20x20x3x2_0_0_0_0_0) main_v89
  let main_cst_18 : FVec F S_ .f32 := constant S_ .f32 0x40000000#32
  let main_v99 : FVec F S8x20x20x3x2 .f32 := broadcastInDim S8x20x20x3x2 ![] bcast_S_S8x20x20x3x2 main_cst_18
  fn_part5 (F := F) main_cst_1 main_v41 main_v83 main_v89 main_v97 main_v98 main_v99

def fn_part3 {F : FTy → Type} [FloatOps F] (main_arg2 : FVec F S8x20x20x3x85 .f32) (main_cst_0 : FVec F S3x2 .f32) (main_cst_1 : FVec F S3x2 .f32) (main_v41 : FVec F S8x19200x80 .f32) (main_v47 : FVec F S8x40x40x3x85 .f32) (main_v55 : FVec F S1x40x40x1x2 .f32) (main_v58 : FVec F S8x40x40x3x2 .f32) : IVec S8x1 1 :=
  let main_cst_12 : FVec F S_ .f32 := constant S_ .f32 0x3F000000#32
  let main_v59 : FVec F S8x40x40x3x2 .f32 := broadcastInDim S8x40x40x3x2 ![] bcast_S_S8x40x40x3x2 main_cst_12
  let main_v60 : FVec F S8x40x40x3x2 .f32 := subf main_v58 main_v59
  let main_v61 : FVec F S8x40x40x3x2 .f32 := broadcastInDim S8x40x40x3x2 ![0, 1, 2, 3, 4] bcast_S1x40x40x1x2_S8x40x40x3x2_0_1_2_3_4 main_v55
  let main_v62 : FVec F S8x40x40x3x2 .f32 := addf main_v60 main_v61
  let main_cst_13 : FVec F S_ .f32 := constant S_ .f32 0x41800000#32
  let main_v63 : FVec F S8x40x40x3x2 .f32 := broadcastInDim S8x40x40x3x2 ![] bcast_S_S8x40x40x3x2 main_cst_13
  let main_v64 : FVec F S8x40x40x3x2 .f32 := mulf main_v62 main_v63
  let main_v65 : FVec F S8x40x40x3x2 .f32 := (extractStridedSlice S8x40x40x3x2 ![0, 0, 0, 0, 2] · slices_S8x40x40x3x85_S8x40x40x3x2_0_0_0_0_2) main_v47
  let main_v66 : FVec F S8x40x40x3x2 .f32 := mulf main_v65 main_v65
  let main_cst_14 : FVec F S_ .f32 := constant S_ .f32 0x40800000#32
  let main_v67 : FVec F S8x40x40x3x2 .f32 := broadcastInDim S8x40x40x3x2 ![] bcast_S_S8x40x40x3x2 main_cst_14
  let main_v68 : FVec F S8x40x40x3x2 .f32 := mulf main_v67 main_v66
  let main_v69 : FVec F S1x1x1x3x2 .f32 := broadcastInDim S1x1x1x3x2 ![3, 4] bcast_S3x2_S1x1x1x3x2_3_4 main_cst_0
  let main_v70 : FVec F S8x40x40x3x2 .f32 := broadcastInDim S8x40x40x3x2 ![0, 1, 2, 3, 4] bcast_S1x1x1x3x2_S8x40x40x3x2_0_1_2_3_4 main_v69
  let main_v71 : FVec F S8x40x40x3x2 .f32 := mulf main_v68 main_v70
  let main_v72 : FVec F S8x40x40x3x1 .f32 := (extractStridedSlice S8x40x40x3x1 ![0, 0, 0, 0, 4] · slices_S8x40x40x3x85_S8x40x40x3x1_0_0_0_0_4) main_v47
  let main_v73 : FVec F S8x40x40x3x80 .f32 := (extractStridedSlice S8x40x40x3x80 ![0, 0, 0, 0, 5] · slices_S8x40x40x3x85_S8x40x40x3x80_0_0_0_0_5) main_v47
  let main_cst_15 : FVec F S_ .f32 := constant S_ .f32 0x3E800000#32
  let main_v74 : FVec F S8x40x40x3x1 .f32 := broadcastInDim S8x40x40x3x1 ![] bcast_S_S8x40x40x3x1 main_cst_15
  let main_v75 : IVec S8x40x40x3x1 1 := cmpf .ogt main_v72 main_v74
  let main_v76 : FVec F S8x40x40x3x1 .f32 := uitofp .f32 main_v75
  let main_v77 : FVec F S8x40x40x3x80 .f32 := broadcastInDim S8x40x40x3x80 ![0, 1, 2, 3, 4] bcast_S8x40x40x3x1_S8x40x40x3x80_0_1_2_3_4 main_v72
  let main_v78 : FVec F S8x40x40x3x80 .f32 := mulf main_v77 main_v73
  fn_part4 (F := F) main_arg2 main_cst_1 main_v41 main_v64 main_v71 main_v76 main_v78

def fn_part2 {F : FTy → Type} [FloatOps F] (main_arg1 : FVec F S8x40x40x3x85 .f32) (main_arg2 : FVec F S8x20x20x3x85 .f32) (main_cst_0 : FVec F S3x2 .f32) (main_cst_1 : FVec F S3x2 .f32) (main_v22 : FVec F S8x80x80x3x2 .f32) (main_v29 : FVec F S8x80x80x3x2 .f32) (main_v36 : FVec F S8x80x80x3x80 .f32) (main_v37 : FVec F S8x80x80x3x80 .f32) : IVec S8x1 1 :=
  let main_v38 : FVec F S8x80x80x3x80 .f32 := mulf main_v36 main_v37
  let main_v39 : FVec F S8x80x80x3x4 .f32 := (fun a b => concatenate S8x80x80x3x4 4 [⟨S8x80x80x3x2, a⟩, ⟨S8x80x80x3x2, b⟩] concatenates_S8x80x80x3x2_S8x80x80x3x2_S8x80x80x3x4_d4) main_v22 main_v29
  let main_v40 : FVec F S8x19200x4 .f32 := shapeCast S8x19200x4 main_v39 shapeCasts_S8x80x80x3x4_S8x19200x4
  let main_v41 : FVec F S8x19200x80 .f32 := shapeCast S8x19200x80 main_v38 shapeCasts_S8x80x80x3x80_S8x19200x80
  let main_v42 : FVec F S8x40x40x3x85 .f32 := Host.negf main_arg1
  let main_v43 : FVec F S8x40x40x3x85 .f32 := Host.exp main_v42
  let main_cst_9 : FVec F S_ .f32 := constant S_ .f32 0x3F800000#32
  let main_v44 : FVec F S8x40x40x3x85 .f32 := broadcastInDim S8x40x40x3x85 ![] bcast_S_S8x40x40x3x85 main_cst_9
  let main_v45 : FVec F S8x40x40x3x85 .f32 := addf main_v44 main_v43
  let main_cst_10 : FVec F S_ .f32 := constant S_ .f32 0x3F800000#32
  let main_v46 : FVec F S8x40x40x3x85 .f32 := broadcastInDim S8x40x40x3x85 ![] bcast_S_S8x40x40x3x85 main_cst_10
  let main_v47 : FVec F S8x40x40x3x85 .f32 := Host.divf main_v46 main_v45
  let main_v48 : FVec F S40 .f32 := sitofp .f32 (iotaInDim S40 32 0)
  let main_v49 : FVec F S40 .f32 := sitofp .f32 (iotaInDim S40 32 0)
  let main_v50 : FVec F S40x40 .f32 := broadcastInDim S40x40 ![0] bcast_S40_S40x40_0 main_v48
  let main_v51 : FVec F S40x40 .f32 := broadcastInDim S40x40 ![1] bcast_S40_S40x40_1 main_v49
  let main_v52 : FVec F S40x40x1 .f32 := broadcastInDim S40x40x1 ![0, 1] bcast_S40x40_S40x40x1_0_1 main_v51
  let main_v53 : FVec F S40x40x1 .f32 := broadcastInDim S40x40x1 ![0, 1] bcast_S40x40_S40x40x1_0_1 main_v50
  let main_v54 : FVec F S40x40x2 .f32 := (fun a b => concatenate S40x40x2 2 [⟨S40x40x1, a⟩, ⟨S40x40x1, b⟩] concatenates_S40x40x1_S40x40x1_S40x40x2_d2) main_v52 main_v53
  let main_v55 : FVec F S1x40x40x1x2 .f32 := broadcastInDim S1x40x40x1x2 ![1, 2, 4] bcast_S40x40x2_S1x40x40x1x2_1_2_4 main_v54
  let main_v56 : FVec F S8x40x40x3x2 .f32 := (extractStridedSlice S8x40x40x3x2 ![0, 0, 0, 0, 0] · slices_S8x40x40x3x85_S8x40x40x3x2_0_0_0_0_0) main_v47
  let main_cst_11 : FVec F S_ .f32 := constant S_ .f32 0x40000000#32
  let main_v57 : FVec F S8x40x40x3x2 .f32 := broadcastInDim S8x40x40x3x2 ![] bcast_S_S8x40x40x3x2 main_cst_11
  let main_v58 : FVec F S8x40x40x3x2 .f32 := mulf main_v57 main_v56
  fn_part3 (F := F) main_arg2 main_cst_0 main_cst_1 main_v41 main_v47 main_v55 main_v58

def fn_part1 {F : FTy → Type} [FloatOps F] (main_arg1 : FVec F S8x40x40x3x85 .f32) (main_arg2 : FVec F S8x20x20x3x85 .f32) (main_cst : FVec F S3x2 .f32) (main_cst_0 : FVec F S3x2 .f32) (main_cst_1 : FVec F S3x2 .f32) (main_v5 : FVec F S8x80x80x3x85 .f32) (main_v13 : FVec F S1x80x80x1x2 .f32) (main_v16 : FVec F S8x80x80x3x2 .f32) (main_cst_5 : FVec F S_ .f32) : IVec S8x1 1 :=
  let main_v17 : FVec F S8x80x80x3x2 .f32 := broadcastInDim S8x80x80x3x2 ![] bcast_S_S8x80x80x3x2 main_cst_5
  let main_v18 : FVec F S8x80x80x3x2 .f32 := subf main_v16 main_v17
  let main_v19 : FVec F S8x80x80x3x2 .f32 := broadcastInDim S8x80x80x3x2 ![0, 1, 2, 3, 4] bcast_S1x80x80x1x2_S8x80x80x3x2_0_1_2_3_4 main_v13
  let main_v20 : FVec F S8x80x80x3x2 .f32 := addf main_v18 main_v19
  let main_cst_6 : FVec F S_ .f32 := constant S_ .f32 0x41000000#32
  let main_v21 : FVec F S8x80x80x3x2 .f32 := broadcastInDim S8x80x80x3x2 ![] bcast_S_S8x80x80x3x2 main_cst_6
  let main_v22 : FVec F S8x80x80x3x2 .f32 := mulf main_v20 main_v21
  let main_v23 : FVec F S8x80x80x3x2 .f32 := (extractStridedSlice S8x80x80x3x2 ![0, 0, 0, 0, 2] · slices_S8x80x80x3x85_S8x80x80x3x2_0_0_0_0_2) main_v5
  let main_v24 : FVec F S8x80x80x3x2 .f32 := mulf main_v23 main_v23
  let main_cst_7 : FVec F S_ .f32 := constant S_ .f32 0x40800000#32
  let main_v25 : FVec F S8x80x80x3x2 .f32 := broadcastInDim S8x80x80x3x2 ![] bcast_S_S8x80x80x3x2 main_cst_7
  let main_v26 : FVec F S8x80x80x3x2 .f32 := mulf main_v25 main_v24
  let main_v27 : FVec F S1x1x1x3x2 .f32 := broadcastInDim S1x1x1x3x2 ![3, 4] bcast_S3x2_S1x1x1x3x2_3_4 main_cst
  let main_v28 : FVec F S8x80x80x3x2 .f32 := broadcastInDim S8x80x80x3x2 ![0, 1, 2, 3, 4] bcast_S1x1x1x3x2_S8x80x80x3x2_0_1_2_3_4 main_v27
  let main_v29 : FVec F S8x80x80x3x2 .f32 := mulf main_v26 main_v28
  let main_v30 : FVec F S8x80x80x3x1 .f32 := (extractStridedSlice S8x80x80x3x1 ![0, 0, 0, 0, 4] · slices_S8x80x80x3x85_S8x80x80x3x1_0_0_0_0_4) main_v5
  let main_v31 : FVec F S8x80x80x3x80 .f32 := (extractStridedSlice S8x80x80x3x80 ![0, 0, 0, 0, 5] · slices_S8x80x80x3x85_S8x80x80x3x80_0_0_0_0_5) main_v5
  let main_cst_8 : FVec F S_ .f32 := constant S_ .f32 0x3E800000#32
  let main_v32 : FVec F S8x80x80x3x1 .f32 := broadcastInDim S8x80x80x3x1 ![] bcast_S_S8x80x80x3x1 main_cst_8
  let main_v33 : IVec S8x80x80x3x1 1 := cmpf .ogt main_v30 main_v32
  let main_v34 : FVec F S8x80x80x3x1 .f32 := uitofp .f32 main_v33
  let main_v35 : FVec F S8x80x80x3x80 .f32 := broadcastInDim S8x80x80x3x80 ![0, 1, 2, 3, 4] bcast_S8x80x80x3x1_S8x80x80x3x80_0_1_2_3_4 main_v30
  let main_v36 : FVec F S8x80x80x3x80 .f32 := mulf main_v35 main_v31
  let main_v37 : FVec F S8x80x80x3x80 .f32 := broadcastInDim S8x80x80x3x80 ![0, 1, 2, 3, 4] bcast_S8x80x80x3x1_S8x80x80x3x80_0_1_2_3_4 main_v34
  fn_part2 (F := F) main_arg1 main_arg2 main_cst_0 main_cst_1 main_v22 main_v29 main_v36 main_v37

def fn {F : FTy → Type} [FloatOps F] (main_arg0 : FVec F S8x80x80x3x85 .f32) (main_arg1 : FVec F S8x40x40x3x85 .f32) (main_arg2 : FVec F S8x20x20x3x85 .f32) (main_arg3 : FVec F S8 .f32) : IVec S8x1 1 :=
  let main_cst : FVec F S3x2 .f32 := fun i => FloatOps.ofBits .f32 (lit0 (S3x2.rowMajor i))
  let main_cst_0 : FVec F S3x2 .f32 := fun i => FloatOps.ofBits .f32 (lit1 (S3x2.rowMajor i))
  let main_cst_1 : FVec F S3x2 .f32 := fun i => FloatOps.ofBits .f32 (lit2 (S3x2.rowMajor i))
  let main_v0 : FVec F S8x80x80x3x85 .f32 := Host.negf main_arg0
  let main_v1 : FVec F S8x80x80x3x85 .f32 := Host.exp main_v0
  let main_cst_2 : FVec F S_ .f32 := constant S_ .f32 0x3F800000#32
  let main_v2 : FVec F S8x80x80x3x85 .f32 := broadcastInDim S8x80x80x3x85 ![] bcast_S_S8x80x80x3x85 main_cst_2
  let main_v3 : FVec F S8x80x80x3x85 .f32 := addf main_v2 main_v1
  let main_cst_3 : FVec F S_ .f32 := constant S_ .f32 0x3F800000#32
  let main_v4 : FVec F S8x80x80x3x85 .f32 := broadcastInDim S8x80x80x3x85 ![] bcast_S_S8x80x80x3x85 main_cst_3
  let main_v5 : FVec F S8x80x80x3x85 .f32 := Host.divf main_v4 main_v3
  let main_v6 : FVec F S80 .f32 := sitofp .f32 (iotaInDim S80 32 0)
  let main_v7 : FVec F S80 .f32 := sitofp .f32 (iotaInDim S80 32 0)
  let main_v8 : FVec F S80x80 .f32 := broadcastInDim S80x80 ![0] bcast_S80_S80x80_0 main_v6
  let main_v9 : FVec F S80x80 .f32 := broadcastInDim S80x80 ![1] bcast_S80_S80x80_1 main_v7
  let main_v10 : FVec F S80x80x1 .f32 := broadcastInDim S80x80x1 ![0, 1] bcast_S80x80_S80x80x1_0_1 main_v9
  let main_v11 : FVec F S80x80x1 .f32 := broadcastInDim S80x80x1 ![0, 1] bcast_S80x80_S80x80x1_0_1 main_v8
  let main_v12 : FVec F S80x80x2 .f32 := (fun a b => concatenate S80x80x2 2 [⟨S80x80x1, a⟩, ⟨S80x80x1, b⟩] concatenates_S80x80x1_S80x80x1_S80x80x2_d2) main_v10 main_v11
  let main_v13 : FVec F S1x80x80x1x2 .f32 := broadcastInDim S1x80x80x1x2 ![1, 2, 4] bcast_S80x80x2_S1x80x80x1x2_1_2_4 main_v12
  let main_v14 : FVec F S8x80x80x3x2 .f32 := (extractStridedSlice S8x80x80x3x2 ![0, 0, 0, 0, 0] · slices_S8x80x80x3x85_S8x80x80x3x2_0_0_0_0_0) main_v5
  let main_cst_4 : FVec F S_ .f32 := constant S_ .f32 0x40000000#32
  let main_v15 : FVec F S8x80x80x3x2 .f32 := broadcastInDim S8x80x80x3x2 ![] bcast_S_S8x80x80x3x2 main_cst_4
  let main_v16 : FVec F S8x80x80x3x2 .f32 := mulf main_v15 main_v14
  let main_cst_5 : FVec F S_ .f32 := constant S_ .f32 0x3F000000#32
  fn_part1 (F := F) main_arg1 main_arg2 main_cst main_cst_0 main_cst_1 main_v5 main_v13 main_v16 main_cst_5
-- ==== Kernel.lean ====
abbrev S8x80x80x3x85 : Shape := ⟨5, ![8, 80, 80, 3, 85]⟩
abbrev S8x40x40x3x85 : Shape := ⟨5, ![8, 40, 40, 3, 85]⟩
abbrev S8x20x20x3x85 : Shape := ⟨5, ![8, 20, 20, 3, 85]⟩
abbrev S8 : Shape := ⟨1, ![8]⟩
abbrev S8x19200x85 : Shape := ⟨3, ![8, 19200, 85]⟩
abbrev S8x4800x85 : Shape := ⟨3, ![8, 4800, 85]⟩
abbrev S8x1200x85 : Shape := ⟨3, ![8, 1200, 85]⟩
abbrev S8x19200x80 : Shape := ⟨3, ![8, 19200, 80]⟩
abbrev S8x19200x1 : Shape := ⟨3, ![8, 19200, 1]⟩
abbrev S1x2400x85 : Shape := ⟨3, ![1, 2400, 85]⟩
abbrev S1x2400x80 : Shape := ⟨3, ![1, 2400, 80]⟩
abbrev S1x2400x1 : Shape := ⟨3, ![1, 2400, 1]⟩
abbrev S2400x85 : Shape := ⟨2, ![2400, 85]⟩
abbrev S2400x81 : Shape := ⟨2, ![2400, 81]⟩
abbrev S2400x1 : Shape := ⟨2, ![2400, 1]⟩
abbrev S2400x80 : Shape := ⟨2, ![2400, 80]⟩
abbrev S2400 : Shape := ⟨1, ![2400]⟩
abbrev S8x4800x80 : Shape := ⟨3, ![8, 4800, 80]⟩
abbrev S8x4800x1 : Shape := ⟨3, ![8, 4800, 1]⟩
abbrev S8x1200x80 : Shape := ⟨3, ![8, 1200, 80]⟩
abbrev S8x1200x1 : Shape := ⟨3, ![8, 1200, 1]⟩
abbrev S1x1200x85 : Shape := ⟨3, ![1, 1200, 85]⟩
abbrev S1x1200x80 : Shape := ⟨3, ![1, 1200, 80]⟩
abbrev S1x1200x1 : Shape := ⟨3, ![1, 1200, 1]⟩
abbrev S1200x85 : Shape := ⟨2, ![1200, 85]⟩
abbrev S1200x81 : Shape := ⟨2, ![1200, 81]⟩
abbrev S1200x1 : Shape := ⟨2, ![1200, 1]⟩
abbrev S1200x80 : Shape := ⟨2, ![1200, 80]⟩
abbrev S1200 : Shape := ⟨1, ![1200]⟩
abbrev S8x19200x4 : Shape := ⟨3, ![8, 19200, 4]⟩
abbrev S8x4800x4 : Shape := ⟨3, ![8, 4800, 4]⟩
abbrev S8x1200x4 : Shape := ⟨3, ![8, 1200, 4]⟩
abbrev S8x25200x4 : Shape := ⟨3, ![8, 25200, 4]⟩
abbrev S8x4x25200 : Shape := ⟨3, ![8, 4, 25200]⟩
abbrev S1x4x25200 : Shape := ⟨3, ![1, 4, 25200]⟩
abbrev S4x25200 : Shape := ⟨2, ![4, 25200]⟩
abbrev S1x25200 : Shape := ⟨2, ![1, 25200]⟩
abbrev S1x1x25200 : Shape := ⟨3, ![1, 1, 25200]⟩
abbrev S8x19200 : Shape := ⟨2, ![8, 19200]⟩
abbrev S8x1536 : Shape := ⟨2, ![8, 1536]⟩
abbrev S8x4800 : Shape := ⟨2, ![8, 4800]⟩
abbrev S8x1536x1 : Shape := ⟨3, ![8, 1536, 1]⟩
abbrev S_ : Shape := ⟨0, ![]⟩
abbrev S1 : Shape := ⟨1, ![1]⟩
abbrev S1x1x1 : Shape := ⟨3, ![1, 1, 1]⟩
abbrev S8x1536x80 : Shape := ⟨3, ![8, 1536, 80]⟩
abbrev S1x1200 : Shape := ⟨2, ![1, 1200]⟩
abbrev S8x1200 : Shape := ⟨2, ![8, 1200]⟩
abbrev S8x4272 : Shape := ⟨2, ![8, 4272]⟩
abbrev S8x4272x80 : Shape := ⟨3, ![8, 4272, 80]⟩
abbrev S8x341760 : Shape := ⟨2, ![8, 341760]⟩
abbrev S8x1000 : Shape := ⟨2, ![8, 1000]⟩
abbrev S8x1000x1 : Shape := ⟨3, ![8, 1000, 1]⟩
abbrev S8x1x1000 : Shape := ⟨3, ![8, 1, 1000]⟩
abbrev S8x4x1000 : Shape := ⟨3, ![8, 4, 1000]⟩
abbrev S8x4x1024 : Shape := ⟨3, ![8, 4, 1024]⟩
abbrev S8x1024 : Shape := ⟨2, ![8, 1024]⟩
abbrev S8x1x1024 : Shape := ⟨3, ![8, 1, 1024]⟩
abbrev S8x6x1024 : Shape := ⟨3, ![8, 6, 1024]⟩
abbrev S8x6x8x128 : Shape := ⟨4, ![8, 6, 8, 128]⟩
abbrev S8x1024x4 : Shape := ⟨3, ![8, 1024, 4]⟩
abbrev S8x1024x1 : Shape := ⟨3, ![8, 1024, 1]⟩
abbrev S8x1024x2 : Shape := ⟨3, ![8, 1024, 2]⟩
abbrev S8x1024x8 : Shape := ⟨3, ![8, 1024, 8]⟩
abbrev S8x8x128 : Shape := ⟨3, ![8, 8, 128]⟩
abbrev S8x1x8x128 : Shape := ⟨4, ![8, 1, 8, 128]⟩
abbrev S8x1x8 : Shape := ⟨3, ![8, 1, 8]⟩
abbrev S8x1x1 : Shape := ⟨3, ![8, 1, 1]⟩
abbrev S8x8 : Shape := ⟨2, ![8, 8]⟩
abbrev S8x8x1 : Shape := ⟨3, ![8, 8, 1]⟩
abbrev S8x1 : Shape := ⟨2, ![8, 1]⟩
abbrev S8x300 : Shape := ⟨2, ![8, 300]⟩
abbrev S8x1x300 : Shape := ⟨3, ![8, 1, 300]⟩
abbrev S8x300x1 : Shape := ⟨3, ![8, 300, 1]⟩
abbrev S8x4x300 : Shape := ⟨3, ![8, 4, 300]⟩
abbrev S8x300x4 : Shape := ⟨3, ![8, 300, 4]⟩
abbrev S8x300x6 : Shape := ⟨3, ![8, 300, 6]⟩

abbrev nBuf : Space → Nat
  | .hbm => 327
  | .vmem => 25
  | .smem => 0
  | _ => 0

abbrev hbmTy0_0 (i : Nat) : BufTy := match i % 128 with
  | 0 => ⟨S8x80x80x3x85, .f32⟩
  | 1 => ⟨S8x40x40x3x85, .f32⟩
  | 2 => ⟨S8x20x20x3x85, .f32⟩
  | 3 => ⟨S8, .f32⟩
  | 4 => ⟨S8x19200x85, .f32⟩
  | 5 => ⟨S8x4800x85, .f32⟩
  | 6 => ⟨S8x1200x85, .f32⟩
  | 7 => ⟨S8x19200x80, .f32⟩
  | 8 => ⟨S8x19200x1, .f32⟩
  | 9 => ⟨S8x4800x80, .f32⟩
  | 10 => ⟨S8x4800x1, .f32⟩
  | 11 => ⟨S8x1200x80, .f32⟩
  | 12 => ⟨S8x1200x1, .f32⟩
  | 13 => ⟨S8x19200x4, .f32⟩
  | 14 => ⟨S8x4800x4, .f32⟩
  | 15 => ⟨S8x1200x4, .f32⟩
  | 16 => ⟨S8x25200x4, .f32⟩
  | 17 => ⟨S8x4x25200, .f32⟩
  | 18 => ⟨S8x4x25200, .f32⟩
  | 19 => ⟨S8x19200, .f32⟩
  | 20 => ⟨S8x1536, .f32⟩
  | 21 => ⟨S8x1536, .i32⟩
  | 22 => ⟨S8x4800, .f32⟩
  | 23 => ⟨S8x1536, .f32⟩
  | 24 => ⟨S8x1536, .i32⟩
  | 25 => ⟨S8x1536x1, .i32⟩
  | 26 => ⟨S_, .i32⟩
  | 27 => ⟨S8x1536x1, .i32⟩
  | 28 => ⟨S8x1536x1, .i1⟩
  | 29 => ⟨S_, .i32⟩
  | 30 => ⟨S8x1536x1, .i32⟩
  | 31 => ⟨S8x1536x1, .i32⟩
  | 32 => ⟨S8x1536x1, .i32⟩
  | 33 => ⟨S1, .i32⟩
  | 34 => ⟨S_, .i32⟩
  | 35 => ⟨S8x1536x1, .i32⟩
  | 36 => ⟨S8x1536x1, .i1⟩
  | 37 => ⟨S1x1x1, .i32⟩
  | 38 => ⟨S8x1536x1, .i32⟩
  | 39 => ⟨S8x1536x1, .i1⟩
  | 40 => ⟨S8x1536x1, .i1⟩
  | 41 => ⟨S_, .i1⟩
  | 42 => ⟨S8x1536, .i1⟩
  | 43 => ⟨S8x1536x80, .f32⟩
  | 44 => ⟨S8x1536x80, .i1⟩
  | 45 => ⟨S_, .f32⟩
  | 46 => ⟨S8x1536x80, .f32⟩
  | 47 => ⟨S8x1536x80, .f32⟩
  | 48 => ⟨S8x1536x1, .i32⟩
  | 49 => ⟨S_, .i32⟩
  | 50 => ⟨S8x1536x1, .i32⟩
  | 51 => ⟨S8x1536x1, .i1⟩
  | 52 => ⟨S_, .i32⟩
  | 53 => ⟨S8x1536x1, .i32⟩
  | 54 => ⟨S8x1536x1, .i32⟩
  | 55 => ⟨S8x1536x1, .i32⟩
  | 56 => ⟨S1, .i32⟩
  | 57 => ⟨S_, .i32⟩
  | 58 => ⟨S8x1536x1, .i32⟩
  | 59 => ⟨S8x1536x1, .i1⟩
  | 60 => ⟨S1x1x1, .i32⟩
  | 61 => ⟨S8x1536x1, .i32⟩
  | 62 => ⟨S8x1536x1, .i1⟩
  | 63 => ⟨S8x1536x1, .i1⟩
  | 64 => ⟨S_, .i1⟩
  | 65 => ⟨S8x1536, .i1⟩
  | 66 => ⟨S8x1536x80, .f32⟩
  | 67 => ⟨S8x1536x80, .i1⟩
  | 68 => ⟨S_, .f32⟩
  | 69 => ⟨S8x1536x80, .f32⟩
  | 70 => ⟨S8x1536x80, .f32⟩
  | 71 => ⟨S_, .i32⟩
  | 72 => ⟨S8x1536, .i32⟩
  | 73 => ⟨S8x1536, .i32⟩
  | 74 => ⟨S1200, .i32⟩
  | 75 => ⟨S1x1200, .i32⟩
  | 76 => ⟨S_, .i32⟩
  | 77 => ⟨S1x1200, .i32⟩
  | 78 => ⟨S1x1200, .i32⟩
  | 79 => ⟨S_, .i32⟩
  | 80 => ⟨S1x1200, .i32⟩
  | 81 => ⟨S1x1200, .i32⟩
  | 82 => ⟨S8x1200, .i32⟩
  | 83 => ⟨S8x4272, .i32⟩
  | 84 => ⟨S8x4272x80, .f32⟩
  | 85 => ⟨S8x341760, .f32⟩
  | 86 => ⟨S8x1000, .f32⟩
  | 87 => ⟨S8x1000, .i32⟩
  | 88 => ⟨S_, .i32⟩
  | 89 => ⟨S_, .i32⟩
  | 90 => ⟨S8x1000, .i32⟩
  | 91 => ⟨S8x1000, .i32⟩
  | 92 => ⟨S8x1000, .i32⟩
  | 93 => ⟨S_, .i32⟩
  | 94 => ⟨S8x1000, .i32⟩
  | 95 => ⟨S8x1000, .i1⟩
  | 96 => ⟨S8x1000, .i32⟩
  | 97 => ⟨S8x1000, .i32⟩
  | 98 => ⟨S_, .i32⟩
  | 99 => ⟨S8x1000, .i32⟩
  | 100 => ⟨S8x1000, .i1⟩
  | 101 => ⟨S8x1000, .i1⟩
  | 102 => ⟨S_, .i32⟩
  | 103 => ⟨S8x1000, .i32⟩
  | 104 => ⟨S8x1000, .i32⟩
  | 105 => ⟨S8x1000, .i32⟩
  | 106 => ⟨S_, .i32⟩
  | 107 => ⟨S8x1000, .i32⟩
  | 108 => ⟨S8x1000, .i1⟩
  | 109 => ⟨S_, .i32⟩
  | 110 => ⟨S8x1000, .i32⟩
  | 111 => ⟨S8x1000, .i32⟩
  | 112 => ⟨S8x1000, .i32⟩
  | 113 => ⟨S8x1000x1, .i32⟩
  | 114 => ⟨S1, .i32⟩
  | 115 => ⟨S_, .i32⟩
  | 116 => ⟨S8x1000x1, .i32⟩
  | 117 => ⟨S8x1000x1, .i1⟩
  | 118 => ⟨S1x1x1, .i32⟩
  | 119 => ⟨S8x1000x1, .i32⟩
  | 120 => ⟨S8x1000x1, .i1⟩
  | 121 => ⟨S8x1000x1, .i1⟩
  | 122 => ⟨S_, .i1⟩
  | 123 => ⟨S8x1000, .i1⟩
  | 124 => ⟨S8x1000, .i32⟩
  | 125 => ⟨S_, .i32⟩
  | 126 => ⟨S8x1000, .i32⟩
  | 127 => ⟨S8x1000, .i32⟩
  | _ => ⟨S8x80x80x3x85, .f32⟩

abbrev hbmTy0_1 (i : Nat) : BufTy := match i % 128 with
  | 0 => ⟨S_, .i32⟩
  | 1 => ⟨S8x1000, .i32⟩
  | 2 => ⟨S8x1000, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S8x1000, .i32⟩
  | 10 => ⟨S8x1000, .i32⟩
  | 11 => ⟨S_, .i32⟩
  | 12 => ⟨S8x1000, .i32⟩
  | 13 => ⟨S8x1000, .i1⟩
  | 14 => ⟨S_, .i32⟩
  | 15 => ⟨S8x1000, .i32⟩
  | 16 => ⟨S8x1000, .i1⟩
  | 17 => ⟨S_, .i32⟩
  | 18 => ⟨S_, .i1⟩
  | 19 => ⟨S8x1000, .i1⟩
  | 20 => ⟨S8x1000, .i1⟩
  | 21 => ⟨S8x1000, .i1⟩
  | 22 => ⟨S8x1000, .i32⟩
  | 23 => ⟨S8x1000, .i32⟩
  | 24 => ⟨S8x1000, .i32⟩
  | 25 => ⟨S8x1000, .i32⟩
  | 26 => ⟨S8x1000, .f32⟩
  | 27 => ⟨S8x1000, .f32⟩
  | 28 => ⟨S8x1000, .i32⟩
  | 29 => ⟨S8x1000, .f32⟩
  | 30 => ⟨S_, .i32⟩
  | 31 => ⟨S_, .i32⟩
  | 32 => ⟨S8x1000, .i32⟩
  | 33 => ⟨S8x1000, .i32⟩
  | 34 => ⟨S8x1000, .i32⟩
  | 35 => ⟨S_, .i32⟩
  | 36 => ⟨S8x1000, .i32⟩
  | 37 => ⟨S8x1000, .i1⟩
  | 38 => ⟨S8x1000, .i32⟩
  | 39 => ⟨S8x1000, .i32⟩
  | 40 => ⟨S_, .i32⟩
  | 41 => ⟨S8x1000, .i32⟩
  | 42 => ⟨S8x1000, .i1⟩
  | 43 => ⟨S8x1000, .i1⟩
  | 44 => ⟨S_, .i32⟩
  | 45 => ⟨S8x1000, .i32⟩
  | 46 => ⟨S8x1000, .i32⟩
  | 47 => ⟨S8x1000, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S8x1000, .i32⟩
  | 55 => ⟨S8x1000, .i32⟩
  | 56 => ⟨S_, .i32⟩
  | 57 => ⟨S8x1000, .i32⟩
  | 58 => ⟨S8x1000, .i1⟩
  | 59 => ⟨S_, .i32⟩
  | 60 => ⟨S8x1000, .i32⟩
  | 61 => ⟨S8x1000, .i1⟩
  | 62 => ⟨S_, .i32⟩
  | 63 => ⟨S_, .i1⟩
  | 64 => ⟨S8x1000, .i1⟩
  | 65 => ⟨S8x1000, .i1⟩
  | 66 => ⟨S8x1000, .i1⟩
  | 67 => ⟨S8x1000, .i32⟩
  | 68 => ⟨S8x1000, .i32⟩
  | 69 => ⟨S8x1000, .i32⟩
  | 70 => ⟨S8x1x1000, .i32⟩
  | 71 => ⟨S_, .i32⟩
  | 72 => ⟨S8x1x1000, .i32⟩
  | 73 => ⟨S8x1x1000, .i1⟩
  | 74 => ⟨S_, .i32⟩
  | 75 => ⟨S8x1x1000, .i32⟩
  | 76 => ⟨S8x1x1000, .i32⟩
  | 77 => ⟨S8x1x1000, .i32⟩
  | 78 => ⟨S8x1000x1, .i32⟩
  | 79 => ⟨S1, .i32⟩
  | 80 => ⟨S_, .i32⟩
  | 81 => ⟨S8x1000x1, .i32⟩
  | 82 => ⟨S8x1000x1, .i1⟩
  | 83 => ⟨S1x1x1, .i32⟩
  | 84 => ⟨S8x1000x1, .i32⟩
  | 85 => ⟨S8x1000x1, .i1⟩
  | 86 => ⟨S8x1000x1, .i1⟩
  | 87 => ⟨S_, .i1⟩
  | 88 => ⟨S8x1000, .i1⟩
  | 89 => ⟨S8x4x1000, .f32⟩
  | 90 => ⟨S8x4x1000, .i1⟩
  | 91 => ⟨S_, .f32⟩
  | 92 => ⟨S8x4x1000, .f32⟩
  | 93 => ⟨S8x4x1000, .f32⟩
  | 94 => ⟨S8x1000, .f32⟩
  | 95 => ⟨S_, .f32⟩
  | 96 => ⟨S8x1000, .f32⟩
  | 97 => ⟨S8x1000, .f32⟩
  | 98 => ⟨S8x1x1000, .f32⟩
  | 99 => ⟨S8x4x1000, .f32⟩
  | 100 => ⟨S8x4x1000, .f32⟩
  | 101 => ⟨S8x1x1000, .f32⟩
  | 102 => ⟨S8x1000, .f32⟩
  | 103 => ⟨S8x1x1000, .f32⟩
  | 104 => ⟨S8x1000, .f32⟩
  | 105 => ⟨S8x1000, .f32⟩
  | 106 => ⟨S8x1x1000, .f32⟩
  | 107 => ⟨S8x1000, .f32⟩
  | 108 => ⟨S8x1x1000, .f32⟩
  | 109 => ⟨S8x1000, .f32⟩
  | 110 => ⟨S8x1000, .f32⟩
  | 111 => ⟨S8x1000, .f32⟩
  | 112 => ⟨S_, .i32⟩
  | 113 => ⟨S_, .f32⟩
  | 114 => ⟨S8x4x1024, .f32⟩
  | 115 => ⟨S_, .i32⟩
  | 116 => ⟨S_, .f32⟩
  | 117 => ⟨S8x1024, .f32⟩
  | 118 => ⟨S_, .f32⟩
  | 119 => ⟨S_, .f32⟩
  | 120 => ⟨S8x1024, .f32⟩
  | 121 => ⟨S8x1x1024, .f32⟩
  | 122 => ⟨S8x1x1024, .f32⟩
  | 123 => ⟨S8x6x1024, .f32⟩
  | 124 => ⟨S8x6x8x128, .f32⟩
  | 125 => ⟨S8x1024x4, .f32⟩
  | 126 => ⟨S8x1024x1, .f32⟩
  | 127 => ⟨S8x1024x1, .f32⟩
  | _ => ⟨S8x80x80x3x85, .f32⟩

abbrev hbmTy0_2 (i : Nat) : BufTy := match i % 128 with
  | 0 => ⟨S_, .f32⟩
  | 1 => ⟨S8x1024x2, .f32⟩
  | 2 => ⟨S8x1024x8, .f32⟩
  | 3 => ⟨S8x8x128, .f32⟩
  | 4 => ⟨S8x1024, .f32⟩
  | 5 => ⟨S8x1000, .f32⟩
  | 6 => ⟨S8x300, .f32⟩
  | 7 => ⟨S8x300, .i32⟩
  | 8 => ⟨S8x1x300, .i32⟩
  | 9 => ⟨S_, .i32⟩
  | 10 => ⟨S8x1x300, .i32⟩
  | 11 => ⟨S8x1x300, .i1⟩
  | 12 => ⟨S_, .i32⟩
  | 13 => ⟨S8x1x300, .i32⟩
  | 14 => ⟨S8x1x300, .i32⟩
  | 15 => ⟨S8x1x300, .i32⟩
  | 16 => ⟨S8x300x1, .i32⟩
  | 17 => ⟨S1, .i32⟩
  | 18 => ⟨S_, .i32⟩
  | 19 => ⟨S8x300x1, .i32⟩
  | 20 => ⟨S8x300x1, .i1⟩
  | 21 => ⟨S1x1x1, .i32⟩
  | 22 => ⟨S8x300x1, .i32⟩
  | 23 => ⟨S8x300x1, .i1⟩
  | 24 => ⟨S8x300x1, .i1⟩
  | 25 => ⟨S_, .i1⟩
  | 26 => ⟨S8x300, .i1⟩
  | 27 => ⟨S8x4x300, .f32⟩
  | 28 => ⟨S8x4x300, .i1⟩
  | 29 => ⟨S_, .f32⟩
  | 30 => ⟨S8x4x300, .f32⟩
  | 31 => ⟨S8x4x300, .f32⟩
  | 32 => ⟨S8x1x1, .f32⟩
  | 33 => ⟨S8x4x300, .f32⟩
  | 34 => ⟨S8x4x300, .f32⟩
  | 35 => ⟨S_, .i32⟩
  | 36 => ⟨S8x300, .i32⟩
  | 37 => ⟨S8x300, .i1⟩
  | 38 => ⟨S_, .i32⟩
  | 39 => ⟨S8x300, .i32⟩
  | 40 => ⟨S8x300, .i32⟩
  | 41 => ⟨S8x300, .i32⟩
  | 42 => ⟨S8x300x1, .i32⟩
  | 43 => ⟨S1, .i32⟩
  | 44 => ⟨S_, .i32⟩
  | 45 => ⟨S8x300x1, .i32⟩
  | 46 => ⟨S8x300x1, .i1⟩
  | 47 => ⟨S1x1x1, .i32⟩
  | 48 => ⟨S8x300x1, .i32⟩
  | 49 => ⟨S8x300x1, .i1⟩
  | 50 => ⟨S8x300x1, .i1⟩
  | 51 => ⟨S_, .i1⟩
  | 52 => ⟨S8x300, .i1⟩
  | 53 => ⟨S8x300, .i32⟩
  | 54 => ⟨S_, .i32⟩
  | 55 => ⟨S8x300, .i32⟩
  | 56 => ⟨S8x300, .i32⟩
  | 57 => ⟨S8x300, .f32⟩
  | 58 => ⟨S_, .f32⟩
  | 59 => ⟨S8x300, .f32⟩
  | 60 => ⟨S8x300, .i1⟩
  | 61 => ⟨S8x300, .f32⟩
  | 62 => ⟨S8x300x4, .f32⟩
  | 63 => ⟨S8x300x1, .f32⟩
  | 64 => ⟨S8x300x4, .f32⟩
  | 65 => ⟨S8x300x4, .f32⟩
  | 66 => ⟨S8x300, .f32⟩
  | 67 => ⟨S8x300x1, .f32⟩
  | 68 => ⟨S8x300, .f32⟩
  | 69 => ⟨S8x300x1, .f32⟩
  | 70 => ⟨S8x300x6, .f32⟩
  | _ => ⟨S8x80x80x3x85, .f32⟩

abbrev hbmTy (i : Nat) : BufTy := match i / 128 with
  | 0 => hbmTy0_0 i
  | 1 => hbmTy0_1 i
  | 2 => hbmTy0_2 i
  | _ => ⟨S8x80x80x3x85, .f32⟩

abbrev bufTy : (tb : Table) → Fin (tcTables nBuf tb) → BufTy
  | .hbm, ⟨i, _⟩ => hbmTy i
  | .local _ .vmem, ⟨0, _⟩ => ⟨S1x2400x85, .f32⟩
  | .local _ .vmem, ⟨1, _⟩ => ⟨S1x2400x85, .f32⟩
  | .local _ .vmem, ⟨2, _⟩ => ⟨S1x2400x80, .f32⟩
  | .local _ .vmem, ⟨3, _⟩ => ⟨S1x2400x80, .f32⟩
  | .local _ .vmem, ⟨4, _⟩ => ⟨S1x2400x1, .f32⟩
  | .local _ .vmem, ⟨5, _⟩ => ⟨S1x2400x1, .f32⟩
  | .local _ .vmem, ⟨6, _⟩ => ⟨S1x2400x85, .f32⟩
  | .local _ .vmem, ⟨7, _⟩ => ⟨S1x2400x85, .f32⟩
  | .local _ .vmem, ⟨8, _⟩ => ⟨S1x2400x80, .f32⟩
  | .local _ .vmem, ⟨9, _⟩ => ⟨S1x2400x80, .f32⟩
  | .local _ .vmem, ⟨10, _⟩ => ⟨S1x2400x1, .f32⟩
  | .local _ .vmem, ⟨11, _⟩ => ⟨S1x2400x1, .f32⟩
  | .local _ .vmem, ⟨12, _⟩ => ⟨S1x1200x85, .f32⟩
  | .local _ .vmem, ⟨13, _⟩ => ⟨S1x1200x85, .f32⟩
  | .local _ .vmem, ⟨14, _⟩ => ⟨S1x1200x80, .f32⟩
  | .local _ .vmem, ⟨15, _⟩ => ⟨S1x1200x80, .f32⟩
  | .local _ .vmem, ⟨16, _⟩ => ⟨S1x1200x1, .f32⟩
  | .local _ .vmem, ⟨17, _⟩ => ⟨S1x1200x1, .f32⟩
  | .local _ .vmem, ⟨18, _⟩ => ⟨S1x4x25200, .f32⟩
  | .local _ .vmem, ⟨19, _⟩ => ⟨S1x4x25200, .f32⟩
  | .local _ .vmem, ⟨20, _⟩ => ⟨S1x4x25200, .f32⟩
  | .local _ .vmem, ⟨21, _⟩ => ⟨S1x4x25200, .f32⟩
  | .local _ .vmem, ⟨22, _⟩ => ⟨S8x1024x8, .f32⟩
  | .local _ .vmem, ⟨23, _⟩ => ⟨S8x6x8x128, .f32⟩
  | .local _ .vmem, ⟨24, _⟩ => ⟨S8x8x128, .f32⟩
  | _, _ => ⟨S8x80x80x3x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩
abbrev main_v13 : Ref sig .tc := ⟨.hbm, 22, rfl⟩
abbrev main_values_0 : Ref sig .tc := ⟨.hbm, 23, rfl⟩
abbrev main_indices_1 : Ref sig .tc := ⟨.hbm, 24, rfl⟩
abbrev main_v14 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_c_2 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_c_3 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v15 : Ref sig .tc := ⟨.hbm, 47, rfl⟩
abbrev main_v16 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_c_2 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_c_3 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v17 : Ref sig .tc := ⟨.hbm, 70, rfl⟩
abbrev main_c : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_c_2 : Ref sig .tc := ⟨.hbm, 76, rfl⟩
abbrev main_v22 : Ref sig .tc := ⟨.hbm, 77, rfl⟩
abbrev main_v23 : Ref sig .tc := ⟨.hbm, 78, rfl⟩
abbrev main_c_3 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_values_4 : Ref sig .tc := ⟨.hbm, 86, rfl⟩
abbrev main_indices_5 : Ref sig .tc := ⟨.hbm, 87, rfl⟩
abbrev main_c_6 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_c : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_0 : Ref sig .tc := ⟨.hbm, 102, rfl⟩
abbrev main_call2_v12 : Ref sig .tc := ⟨.hbm, 103, rfl⟩
abbrev main_call2_v13 : Ref sig .tc := ⟨.hbm, 104, rfl⟩
abbrev main_v30 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_c_1 : Ref sig .tc := ⟨.hbm, 114, rfl⟩
abbrev main_call3_c_2 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_3 : Ref sig .tc := ⟨.hbm, 122, rfl⟩
abbrev main_call3_v12 : Ref sig .tc := ⟨.hbm, 123, rfl⟩
abbrev main_call3_v13 : Ref sig .tc := ⟨.hbm, 124, rfl⟩
abbrev main_call3_c_4 : Ref sig .tc := ⟨.hbm, 125, rfl⟩
abbrev main_call3_v14 : Ref sig .tc := ⟨.hbm, 126, rfl⟩
abbrev main_v31 : Ref sig .tc := ⟨.hbm, 127, rfl⟩
abbrev main_c_7 : Ref sig .tc := ⟨.hbm, 128, rfl⟩
abbrev main_v32 : Ref sig .tc := ⟨.hbm, 129, rfl⟩
abbrev main_v33 : Ref sig .tc := ⟨.hbm, 130, rfl⟩
abbrev main_c_8 : Ref sig .tc := ⟨.hbm, 131, rfl⟩
abbrev main_call4_v0 : Ref sig .tc := ⟨.hbm, 132, rfl⟩
abbrev main_call4_c : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_c_1 : Ref sig .tc := ⟨.hbm, 139, rfl⟩
abbrev main_call4_v5 : Ref sig .tc := ⟨.hbm, 140, rfl⟩
abbrev main_call4_v6 : Ref sig .tc := ⟨.hbm, 141, rfl⟩
abbrev main_call4_c_2 : Ref sig .tc := ⟨.hbm, 142, rfl⟩
abbrev main_call4_v7 : Ref sig .tc := ⟨.hbm, 143, rfl⟩
abbrev main_call4_v8 : Ref sig .tc := ⟨.hbm, 144, rfl⟩
abbrev main_call4_c_3 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_v12 : Ref sig .tc := ⟨.hbm, 149, rfl⟩
abbrev main_call4_v13 : Ref sig .tc := ⟨.hbm, 150, rfl⟩
abbrev main_call4_v14 : Ref sig .tc := ⟨.hbm, 151, rfl⟩
abbrev main_v34 : Ref sig .tc := ⟨.hbm, 152, rfl⟩
abbrev main_v35 : Ref sig .tc := ⟨.hbm, 153, rfl⟩
abbrev main_v36 : Ref sig .tc := ⟨.hbm, 154, rfl⟩
abbrev main_v37_0 : Ref sig .tc := ⟨.hbm, 155, rfl⟩
abbrev main_v37_1 : Ref sig .tc := ⟨.hbm, 156, rfl⟩
abbrev main_v37_2 : Ref sig .tc := ⟨.hbm, 157, rfl⟩
abbrev main_c_9 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_c : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_c_0 : Ref sig .tc := ⟨.hbm, 172, rfl⟩
abbrev main_call5_v12 : Ref sig .tc := ⟨.hbm, 173, rfl⟩
abbrev main_call5_v13 : Ref sig .tc := ⟨.hbm, 174, rfl⟩
abbrev main_v38 : Ref sig .tc := ⟨.hbm, 175, rfl⟩
abbrev main_c_10 : Ref sig .tc := ⟨.hbm, 176, rfl⟩
abbrev main_call6_v0 : Ref sig .tc := ⟨.hbm, 177, rfl⟩
abbrev main_call6_c : Ref sig .tc := ⟨.hbm, 178, rfl⟩
abbrev main_call6_v1 : Ref sig .tc := ⟨.hbm, 179, rfl⟩
abbrev main_call6_c_0 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_call6_c_1 : Ref sig .tc := ⟨.hbm, 184, rfl⟩
abbrev main_call6_v5 : Ref sig .tc := ⟨.hbm, 185, rfl⟩
abbrev main_call6_v6 : Ref sig .tc := ⟨.hbm, 186, rfl⟩
abbrev main_call6_c_2 : Ref sig .tc := ⟨.hbm, 187, rfl⟩
abbrev main_call6_v7 : Ref sig .tc := ⟨.hbm, 188, rfl⟩
abbrev main_call6_v8 : Ref sig .tc := ⟨.hbm, 189, rfl⟩
abbrev main_call6_c_3 : Ref sig .tc := ⟨.hbm, 190, rfl⟩
abbrev main_call6_v9 : Ref sig .tc := ⟨.hbm, 191, rfl⟩
abbrev main_call6_v10 : Ref sig .tc := ⟨.hbm, 192, rfl⟩
abbrev main_call6_v11 : Ref sig .tc := ⟨.hbm, 193, rfl⟩
abbrev main_call6_v12 : Ref sig .tc := ⟨.hbm, 194, rfl⟩
abbrev main_call6_v13 : Ref sig .tc := ⟨.hbm, 195, rfl⟩
abbrev main_call6_v14 : Ref sig .tc := ⟨.hbm, 196, rfl⟩
abbrev main_v39 : Ref sig .tc := ⟨.hbm, 197, rfl⟩
abbrev main_v40 : Ref sig .tc := ⟨.hbm, 198, rfl⟩
abbrev main_call7_c : Ref sig .tc := ⟨.hbm, 199, rfl⟩
abbrev main_call7_v0 : Ref sig .tc := ⟨.hbm, 200, rfl⟩
abbrev main_call7_v1 : Ref sig .tc := ⟨.hbm, 201, rfl⟩
abbrev main_call7_c_0 : Ref sig .tc := ⟨.hbm, 202, rfl⟩
abbrev main_call7_v2 : Ref sig .tc := ⟨.hbm, 203, rfl⟩
abbrev main_call7_v3 : Ref sig .tc := ⟨.hbm, 204, rfl⟩
abbrev main_call7_v4 : Ref sig .tc := ⟨.hbm, 205, rfl⟩
abbrev main_call7_v5 : Ref sig .tc := ⟨.hbm, 206, rfl⟩
abbrev main_call7_c_1 : Ref sig .tc := ⟨.hbm, 207, rfl⟩
abbrev main_call7_c_2 : Ref sig .tc := ⟨.hbm, 208, rfl⟩
abbrev main_call7_v6 : Ref sig .tc := ⟨.hbm, 209, rfl⟩
abbrev main_call7_v7 : Ref sig .tc := ⟨.hbm, 210, rfl⟩
abbrev main_call7_v8 : Ref sig .tc := ⟨.hbm, 211, rfl⟩
abbrev main_call7_v9 : Ref sig .tc := ⟨.hbm, 212, rfl⟩
abbrev main_call7_v10 : Ref sig .tc := ⟨.hbm, 213, rfl⟩
abbrev main_call7_v11 : Ref sig .tc := ⟨.hbm, 214, rfl⟩
abbrev main_call7_c_3 : Ref sig .tc := ⟨.hbm, 215, rfl⟩
abbrev main_call7_v12 : Ref sig .tc := ⟨.hbm, 216, rfl⟩
abbrev main_call7_v13 : Ref sig .tc := ⟨.hbm, 217, rfl⟩
abbrev main_call7_v14 : Ref sig .tc := ⟨.hbm, 218, rfl⟩
abbrev main_call7_cst : Ref sig .tc := ⟨.hbm, 219, rfl⟩
abbrev main_call7_v15 : Ref sig .tc := ⟨.hbm, 220, rfl⟩
abbrev main_v41 : Ref sig .tc := ⟨.hbm, 221, rfl⟩
abbrev main_v42 : Ref sig .tc := ⟨.hbm, 222, rfl⟩
abbrev main_cst : Ref sig .tc := ⟨.hbm, 223, rfl⟩
abbrev main_v43 : Ref sig .tc := ⟨.hbm, 224, rfl⟩
abbrev main_v44 : Ref sig .tc := ⟨.hbm, 225, rfl⟩
abbrev main_v45 : Ref sig .tc := ⟨.hbm, 226, rfl⟩
abbrev main_v46 : Ref sig .tc := ⟨.hbm, 227, rfl⟩
abbrev main_v47 : Ref sig .tc := ⟨.hbm, 228, rfl⟩
abbrev main_v48 : Ref sig .tc := ⟨.hbm, 229, rfl⟩
abbrev main_v49 : Ref sig .tc := ⟨.hbm, 230, rfl⟩
abbrev main_v50 : Ref sig .tc := ⟨.hbm, 231, rfl⟩
abbrev main_v51 : Ref sig .tc := ⟨.hbm, 232, rfl⟩
abbrev main_v52 : Ref sig .tc := ⟨.hbm, 233, rfl⟩
abbrev main_v53 : Ref sig .tc := ⟨.hbm, 234, rfl⟩
abbrev main_v54 : Ref sig .tc := ⟨.hbm, 235, rfl⟩
abbrev main_v55 : Ref sig .tc := ⟨.hbm, 236, rfl⟩
abbrev main_v56 : Ref sig .tc := ⟨.hbm, 237, rfl⟩
abbrev main_v57 : Ref sig .tc := ⟨.hbm, 238, rfl⟩
abbrev main_v58 : Ref sig .tc := ⟨.hbm, 239, rfl⟩
abbrev main_c_11 : Ref sig .tc := ⟨.hbm, 240, rfl⟩
abbrev main_call8_v0 : Ref sig .tc := ⟨.hbm, 241, rfl⟩
abbrev main_v59 : Ref sig .tc := ⟨.hbm, 242, rfl⟩
abbrev main_c_12 : Ref sig .tc := ⟨.hbm, 243, rfl⟩
abbrev main_call9_v0 : Ref sig .tc := ⟨.hbm, 244, rfl⟩
abbrev main_v60 : Ref sig .tc := ⟨.hbm, 245, rfl⟩
abbrev main_cst_13 : Ref sig .tc := ⟨.hbm, 246, rfl⟩
abbrev main_call10_v0 : Ref sig .tc := ⟨.hbm, 247, rfl⟩
abbrev main_v61 : Ref sig .tc := ⟨.hbm, 248, rfl⟩
abbrev main_v62 : Ref sig .tc := ⟨.hbm, 249, rfl⟩
abbrev main_v63 : Ref sig .tc := ⟨.hbm, 250, rfl⟩
abbrev main_v64 : Ref sig .tc := ⟨.hbm, 251, rfl⟩
abbrev main_v65 : Ref sig .tc := ⟨.hbm, 252, rfl⟩
abbrev main_v66 : Ref sig .tc := ⟨.hbm, 253, rfl⟩
abbrev main_v67 : Ref sig .tc := ⟨.hbm, 254, rfl⟩
abbrev main_v68 : Ref sig .tc := ⟨.hbm, 255, rfl⟩
abbrev main_cst_14 : Ref sig .tc := ⟨.hbm, 256, rfl⟩
abbrev main_v69 : Ref sig .tc := ⟨.hbm, 257, rfl⟩
abbrev main_v70 : Ref sig .tc := ⟨.hbm, 258, rfl⟩
abbrev main_v71 : Ref sig .tc := ⟨.hbm, 259, rfl⟩
abbrev main_v72 : Ref sig .tc := ⟨.hbm, 260, rfl⟩
abbrev main_v73 : Ref sig .tc := ⟨.hbm, 261, rfl⟩
abbrev main_values_15 : Ref sig .tc := ⟨.hbm, 262, rfl⟩
abbrev main_indices_16 : Ref sig .tc := ⟨.hbm, 263, rfl⟩
abbrev main_v74 : Ref sig .tc := ⟨.hbm, 264, rfl⟩
abbrev main_call11_c : Ref sig .tc := ⟨.hbm, 265, rfl⟩
abbrev main_call11_v0 : Ref sig .tc := ⟨.hbm, 266, rfl⟩
abbrev main_call11_v1 : Ref sig .tc := ⟨.hbm, 267, rfl⟩
abbrev main_call11_c_0 : Ref sig .tc := ⟨.hbm, 268, rfl⟩
abbrev main_call11_v2 : Ref sig .tc := ⟨.hbm, 269, rfl⟩
abbrev main_call11_v3 : Ref sig .tc := ⟨.hbm, 270, rfl⟩
abbrev main_call11_v4 : Ref sig .tc := ⟨.hbm, 271, rfl⟩
abbrev main_call11_v5 : Ref sig .tc := ⟨.hbm, 272, rfl⟩
abbrev main_call11_c_1 : Ref sig .tc := ⟨.hbm, 273, rfl⟩
abbrev main_call11_c_2 : Ref sig .tc := ⟨.hbm, 274, rfl⟩
abbrev main_call11_v6 : Ref sig .tc := ⟨.hbm, 275, rfl⟩
abbrev main_call11_v7 : Ref sig .tc := ⟨.hbm, 276, rfl⟩
abbrev main_call11_v8 : Ref sig .tc := ⟨.hbm, 277, rfl⟩
abbrev main_call11_v9 : Ref sig .tc := ⟨.hbm, 278, rfl⟩
abbrev main_call11_v10 : Ref sig .tc := ⟨.hbm, 279, rfl⟩
abbrev main_call11_v11 : Ref sig .tc := ⟨.hbm, 280, rfl⟩
abbrev main_call11_c_3 : Ref sig .tc := ⟨.hbm, 281, rfl⟩
abbrev main_call11_v12 : Ref sig .tc := ⟨.hbm, 282, rfl⟩
abbrev main_call11_v13 : Ref sig .tc := ⟨.hbm, 283, rfl⟩
abbrev main_call11_v14 : Ref sig .tc := ⟨.hbm, 284, rfl⟩
abbrev main_call11_cst : Ref sig .tc := ⟨.hbm, 285, rfl⟩
abbrev main_call11_v15 : Ref sig .tc := ⟨.hbm, 286, rfl⟩
abbrev main_v75 : Ref sig .tc := ⟨.hbm, 287, rfl⟩
abbrev main_v76 : Ref sig .tc := ⟨.hbm, 288, rfl⟩
abbrev main_v77 : Ref sig .tc := ⟨.hbm, 289, rfl⟩
abbrev main_v78 : Ref sig .tc := ⟨.hbm, 290, rfl⟩
abbrev main_call12_c : Ref sig .tc := ⟨.hbm, 291, rfl⟩
abbrev main_call12_v0 : Ref sig .tc := ⟨.hbm, 292, rfl⟩
abbrev main_call12_v1 : Ref sig .tc := ⟨.hbm, 293, rfl⟩
abbrev main_call12_c_0 : Ref sig .tc := ⟨.hbm, 294, rfl⟩
abbrev main_call12_v2 : Ref sig .tc := ⟨.hbm, 295, rfl⟩
abbrev main_call12_v3 : Ref sig .tc := ⟨.hbm, 296, rfl⟩
abbrev main_call12_v4 : Ref sig .tc := ⟨.hbm, 297, rfl⟩
abbrev main_call12_v5 : Ref sig .tc := ⟨.hbm, 298, rfl⟩
abbrev main_call12_c_1 : Ref sig .tc := ⟨.hbm, 299, rfl⟩
abbrev main_call12_c_2 : Ref sig .tc := ⟨.hbm, 300, rfl⟩
abbrev main_call12_v6 : Ref sig .tc := ⟨.hbm, 301, rfl⟩
abbrev main_call12_v7 : Ref sig .tc := ⟨.hbm, 302, rfl⟩
abbrev main_call12_v8 : Ref sig .tc := ⟨.hbm, 303, rfl⟩
abbrev main_call12_v9 : Ref sig .tc := ⟨.hbm, 304, rfl⟩
abbrev main_call12_v10 : Ref sig .tc := ⟨.hbm, 305, rfl⟩
abbrev main_call12_v11 : Ref sig .tc := ⟨.hbm, 306, rfl⟩
abbrev main_call12_c_3 : Ref sig .tc := ⟨.hbm, 307, rfl⟩
abbrev main_call12_v12 : Ref sig .tc := ⟨.hbm, 308, rfl⟩
abbrev main_call12_v13 : Ref sig .tc := ⟨.hbm, 309, rfl⟩
abbrev main_call12_c_4 : Ref sig .tc := ⟨.hbm, 310, rfl⟩
abbrev main_call12_v14 : Ref sig .tc := ⟨.hbm, 311, rfl⟩
abbrev main_v79 : Ref sig .tc := ⟨.hbm, 312, rfl⟩
abbrev main_v80 : Ref sig .tc := ⟨.hbm, 313, rfl⟩
abbrev main_cst_17 : Ref sig .tc := ⟨.hbm, 314, rfl⟩
abbrev main_v81 : Ref sig .tc := ⟨.hbm, 315, rfl⟩
abbrev main_v82 : Ref sig .tc := ⟨.hbm, 316, rfl⟩
abbrev main_v83 : Ref sig .tc := ⟨.hbm, 317, rfl⟩
abbrev main_v84 : Ref sig .tc := ⟨.hbm, 318, rfl⟩
abbrev main_v85 : Ref sig .tc := ⟨.hbm, 319, rfl⟩
abbrev main_v86 : Ref sig .tc := ⟨.hbm, 320, rfl⟩
abbrev main_v87 : Ref sig .tc := ⟨.hbm, 321, rfl⟩
abbrev main_v88 : Ref sig .tc := ⟨.hbm, 322, rfl⟩
abbrev main_v89 : Ref sig .tc := ⟨.hbm, 323, rfl⟩
abbrev main_v90 : Ref sig .tc := ⟨.hbm, 324, rfl⟩
abbrev main_v91 : Ref sig .tc := ⟨.hbm, 325, rfl⟩
abbrev main_v92 : Ref sig .tc := ⟨.hbm, 326, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc4_sem0_0 : DmaSem sig := 22
abbrev cc4_sem1_0 : DmaSem sig := 23
abbrev cc4_sem2_0 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2400x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2400x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2400x85 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2400x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1200x85 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1200x80 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1200x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x4x25200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x4x25200 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![1], ![false]⟩

@[reducible] def k4_t1_loop : Scf.Loop 32 :=
  let c0_i32 : BitVec 32 := 0#32
  let c1000_i32 : BitVec 32 := 1000#32
  let v22 : BitVec 32 := Scalar.addi c0_i32 c1000_i32
  let c1_i32 : BitVec 32 := 1#32
  ⟨c0_i32, v22, c1_i32⟩
def k4_off1 (k4_t1 : Fin k4_t1_loop.trips) : Fin 3 → Nat :=
  let c0_26 : Index := 0#32
  let c0_i32 : BitVec 32 := 0#32
  let c1_i32 : BitVec 32 := 1#32
  let arg4 : BitVec 32 := Scf.iv c0_i32 c1_i32 k4_t1
  let v29 : Index := Scalar.indexCast arg4
  let c0_27 : Index := 0#32
  ![0, v29.toNat, 0]
def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage4_0 : Fin 1 → Memref sig .tc .vmem S8x1024x8 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S8x6x8x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8x8x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]
-- ==== ReferenceIdeal.lean ====
abbrev S8x80x80x3x85 : Shape := ⟨5, ![8, 80, 80, 3, 85]⟩
abbrev S8x40x40x3x85 : Shape := ⟨5, ![8, 40, 40, 3, 85]⟩
abbrev S8x20x20x3x85 : Shape := ⟨5, ![8, 20, 20, 3, 85]⟩
abbrev S8 : Shape := ⟨1, ![8]⟩
abbrev S3x2 : Shape := ⟨2, ![3, 2]⟩
abbrev S_ : Shape := ⟨0, ![]⟩
abbrev S80 : Shape := ⟨1, ![80]⟩
abbrev S80x80 : Shape := ⟨2, ![80, 80]⟩
abbrev S80x80x1 : Shape := ⟨3, ![80, 80, 1]⟩
abbrev S80x80x2 : Shape := ⟨3, ![80, 80, 2]⟩
abbrev S1x80x80x1x2 : Shape := ⟨5, ![1, 80, 80, 1, 2]⟩
abbrev S8x80x80x3x2 : Shape := ⟨5, ![8, 80, 80, 3, 2]⟩
abbrev S1x1x1x3x2 : Shape := ⟨5, ![1, 1, 1, 3, 2]⟩
abbrev S8x80x80x3x1 : Shape := ⟨5, ![8, 80, 80, 3, 1]⟩
abbrev S8x80x80x3x80 : Shape := ⟨5, ![8, 80, 80, 3, 80]⟩
abbrev S8x80x80x3x4 : Shape := ⟨5, ![8, 80, 80, 3, 4]⟩
abbrev S8x19200x4 : Shape := ⟨3, ![8, 19200, 4]⟩
abbrev S8x19200x80 : Shape := ⟨3, ![8, 19200, 80]⟩
abbrev S40 : Shape := ⟨1, ![40]⟩
abbrev S40x40 : Shape := ⟨2, ![40, 40]⟩
abbrev S40x40x1 : Shape := ⟨3, ![40, 40, 1]⟩
abbrev S40x40x2 : Shape := ⟨3, ![40, 40, 2]⟩
abbrev S1x40x40x1x2 : Shape := ⟨5, ![1, 40, 40, 1, 2]⟩
abbrev S8x40x40x3x2 : Shape := ⟨5, ![8, 40, 40, 3, 2]⟩
abbrev S8x40x40x3x1 : Shape := ⟨5, ![8, 40, 40, 3, 1]⟩
abbrev S8x40x40x3x80 : Shape := ⟨5, ![8, 40, 40, 3, 80]⟩
abbrev S8x40x40x3x4 : Shape := ⟨5, ![8, 40, 40, 3, 4]⟩
abbrev S8x4800x4 : Shape := ⟨3, ![8, 4800, 4]⟩
abbrev S8x4800x80 : Shape := ⟨3, ![8, 4800, 80]⟩
abbrev S20 : Shape := ⟨1, ![20]⟩
abbrev S20x20 : Shape := ⟨2, ![20, 20]⟩
abbrev S20x20x1 : Shape := ⟨3, ![20, 20, 1]⟩
abbrev S20x20x2 : Shape := ⟨3, ![20, 20, 2]⟩
abbrev S1x20x20x1x2 : Shape := ⟨5, ![1, 20, 20, 1, 2]⟩
abbrev S8x20x20x3x2 : Shape := ⟨5, ![8, 20, 20, 3, 2]⟩
abbrev S8x20x20x3x1 : Shape := ⟨5, ![8, 20, 20, 3, 1]⟩
abbrev S8x20x20x3x80 : Shape := ⟨5, ![8, 20, 20, 3, 80]⟩
abbrev S8x20x20x3x4 : Shape := ⟨5, ![8, 20, 20, 3, 4]⟩
abbrev S8x1200x4 : Shape := ⟨3, ![8, 1200, 4]⟩
abbrev S8x1200x80 : Shape := ⟨3, ![8, 1200, 80]⟩
abbrev S8x25200x4 : Shape := ⟨3, ![8, 25200, 4]⟩
abbrev S8x25200x80 : Shape := ⟨3, ![8, 25200, 80]⟩
abbrev S8x2016000 : Shape := ⟨2, ![8, 2016000]⟩
abbrev S8x1000 : Shape := ⟨2, ![8, 1000]⟩
abbrev S8x1000x1 : Shape := ⟨3, ![8, 1000, 1]⟩
abbrev S1 : Shape := ⟨1, ![1]⟩
abbrev S1x1x1 : Shape := ⟨3, ![1, 1, 1]⟩
abbrev S8x1000x4 : Shape := ⟨3, ![8, 1000, 4]⟩
abbrev S8x1000x2 : Shape := ⟨3, ![8, 1000, 2]⟩
abbrev S8x1000x1x2 : Shape := ⟨4, ![8, 1000, 1, 2]⟩
abbrev S8x1x1000x2 : Shape := ⟨4, ![8, 1, 1000, 2]⟩
abbrev S8x1000x1000x2 : Shape := ⟨4, ![8, 1000, 1000, 2]⟩
abbrev S8x1000x1000x1 : Shape := ⟨4, ![8, 1000, 1000, 1]⟩
abbrev S8x1000x1000 : Shape := ⟨3, ![8, 1000, 1000]⟩
abbrev S8x1x1000 : Shape := ⟨3, ![8, 1, 1000]⟩
abbrev S8x1 : Shape := ⟨2, ![8, 1]⟩
abbrev S1000 : Shape := ⟨1, ![1000]⟩
abbrev S1x1000 : Shape := ⟨2, ![1, 1000]⟩
abbrev S8x300 : Shape := ⟨2, ![8, 300]⟩
abbrev S8x300x1 : Shape := ⟨3, ![8, 300, 1]⟩
abbrev S8x300x4 : Shape := ⟨3, ![8, 300, 4]⟩
abbrev S8x1x1 : Shape := ⟨3, ![8, 1, 1]⟩
abbrev S8x300x6 : Shape := ⟨3, ![8, 300, 6]⟩

abbrev nBuf : Space → Nat
  | .hbm => 475
  | .vmem => 0
  | .smem => 0
  | _ => 0

abbrev hbmTy0_0 (i : Nat) : BufTy := match i % 128 with
  | 0 => ⟨S8x80x80x3x85, .f32⟩
  | 1 => ⟨S8x40x40x3x85, .f32⟩
  | 2 => ⟨S8x20x20x3x85, .f32⟩
  | 3 => ⟨S8, .f32⟩
  | 4 => ⟨S3x2, .f32⟩
  | 5 => ⟨S3x2, .f32⟩
  | 6 => ⟨S3x2, .f32⟩
  | 7 => ⟨S8x80x80x3x85, .f32⟩
  | 8 => ⟨S8x80x80x3x85, .f32⟩
  | 9 => ⟨S_, .f32⟩
  | 10 => ⟨S8x80x80x3x85, .f32⟩
  | 11 => ⟨S8x80x80x3x85, .f32⟩
  | 12 => ⟨S_, .f32⟩
  | 13 => ⟨S8x80x80x3x85, .f32⟩
  | 14 => ⟨S8x80x80x3x85, .f32⟩
  | 15 => ⟨S80, .f32⟩
  | 16 => ⟨S80, .f32⟩
  | 17 => ⟨S80x80, .f32⟩
  | 18 => ⟨S80x80, .f32⟩
  | 19 => ⟨S80x80x1, .f32⟩
  | 20 => ⟨S80x80x1, .f32⟩
  | 21 => ⟨S80x80x2, .f32⟩
  | 22 => ⟨S1x80x80x1x2, .f32⟩
  | 23 => ⟨S8x80x80x3x2, .f32⟩
  | 24 => ⟨S_, .f32⟩
  | 25 => ⟨S8x80x80x3x2, .f32⟩
  | 26 => ⟨S8x80x80x3x2, .f32⟩
  | 27 => ⟨S_, .f32⟩
  | 28 => ⟨S8x80x80x3x2, .f32⟩
  | 29 => ⟨S8x80x80x3x2, .f32⟩
  | 30 => ⟨S8x80x80x3x2, .f32⟩
  | 31 => ⟨S8x80x80x3x2, .f32⟩
  | 32 => ⟨S_, .f32⟩
  | 33 => ⟨S8x80x80x3x2, .f32⟩
  | 34 => ⟨S8x80x80x3x2, .f32⟩
  | 35 => ⟨S8x80x80x3x2, .f32⟩
  | 36 => ⟨S8x80x80x3x2, .f32⟩
  | 37 => ⟨S_, .f32⟩
  | 38 => ⟨S8x80x80x3x2, .f32⟩
  | 39 => ⟨S8x80x80x3x2, .f32⟩
  | 40 => ⟨S1x1x1x3x2, .f32⟩
  | 41 => ⟨S8x80x80x3x2, .f32⟩
  | 42 => ⟨S8x80x80x3x2, .f32⟩
  | 43 => ⟨S8x80x80x3x1, .f32⟩
  | 44 => ⟨S8x80x80x3x80, .f32⟩
  | 45 => ⟨S_, .f32⟩
  | 46 => ⟨S8x80x80x3x1, .f32⟩
  | 47 => ⟨S8x80x80x3x1, .i1⟩
  | 48 => ⟨S8x80x80x3x1, .f32⟩
  | 49 => ⟨S8x80x80x3x80, .f32⟩
  | 50 => ⟨S8x80x80x3x80, .f32⟩
  | 51 => ⟨S8x80x80x3x80, .f32⟩
  | 52 => ⟨S8x80x80x3x80, .f32⟩
  | 53 => ⟨S8x80x80x3x4, .f32⟩
  | 54 => ⟨S8x19200x4, .f32⟩
  | 55 => ⟨S8x19200x80, .f32⟩
  | 56 => ⟨S8x40x40x3x85, .f32⟩
  | 57 => ⟨S8x40x40x3x85, .f32⟩
  | 58 => ⟨S_, .f32⟩
  | 59 => ⟨S8x40x40x3x85, .f32⟩
  | 60 => ⟨S8x40x40x3x85, .f32⟩
  | 61 => ⟨S_, .f32⟩
  | 62 => ⟨S8x40x40x3x85, .f32⟩
  | 63 => ⟨S8x40x40x3x85, .f32⟩
  | 64 => ⟨S40, .f32⟩
  | 65 => ⟨S40, .f32⟩
  | 66 => ⟨S40x40, .f32⟩
  | 67 => ⟨S40x40, .f32⟩
  | 68 => ⟨S40x40x1, .f32⟩
  | 69 => ⟨S40x40x1, .f32⟩
  | 70 => ⟨S40x40x2, .f32⟩
  | 71 => ⟨S1x40x40x1x2, .f32⟩
  | 72 => ⟨S8x40x40x3x2, .f32⟩
  | 73 => ⟨S_, .f32⟩
  | 74 => ⟨S8x40x40x3x2, .f32⟩
  | 75 => ⟨S8x40x40x3x2, .f32⟩
  | 76 => ⟨S_, .f32⟩
  | 77 => ⟨S8x40x40x3x2, .f32⟩
  | 78 => ⟨S8x40x40x3x2, .f32⟩
  | 79 => ⟨S8x40x40x3x2, .f32⟩
  | 80 => ⟨S8x40x40x3x2, .f32⟩
  | 81 => ⟨S_, .f32⟩
  | 82 => ⟨S8x40x40x3x2, .f32⟩
  | 83 => ⟨S8x40x40x3x2, .f32⟩
  | 84 => ⟨S8x40x40x3x2, .f32⟩
  | 85 => ⟨S8x40x40x3x2, .f32⟩
  | 86 => ⟨S_, .f32⟩
  | 87 => ⟨S8x40x40x3x2, .f32⟩
  | 88 => ⟨S8x40x40x3x2, .f32⟩
  | 89 => ⟨S1x1x1x3x2, .f32⟩
  | 90 => ⟨S8x40x40x3x2, .f32⟩
  | 91 => ⟨S8x40x40x3x2, .f32⟩
  | 92 => ⟨S8x40x40x3x1, .f32⟩
  | 93 => ⟨S8x40x40x3x80, .f32⟩
  | 94 => ⟨S_, .f32⟩
  | 95 => ⟨S8x40x40x3x1, .f32⟩
  | 96 => ⟨S8x40x40x3x1, .i1⟩
  | 97 => ⟨S8x40x40x3x1, .f32⟩
  | 98 => ⟨S8x40x40x3x80, .f32⟩
  | 99 => ⟨S8x40x40x3x80, .f32⟩
  | 100 => ⟨S8x40x40x3x80, .f32⟩
  | 101 => ⟨S8x40x40x3x80, .f32⟩
  | 102 => ⟨S8x40x40x3x4, .f32⟩
  | 103 => ⟨S8x4800x4, .f32⟩
  | 104 => ⟨S8x4800x80, .f32⟩
  | 105 => ⟨S8x20x20x3x85, .f32⟩
  | 106 => ⟨S8x20x20x3x85, .f32⟩
  | 107 => ⟨S_, .f32⟩
  | 108 => ⟨S8x20x20x3x85, .f32⟩
  | 109 => ⟨S8x20x20x3x85, .f32⟩
  | 110 => ⟨S_, .f32⟩
  | 111 => ⟨S8x20x20x3x85, .f32⟩
  | 112 => ⟨S8x20x20x3x85, .f32⟩
  | 113 => ⟨S20, .f32⟩
  | 114 => ⟨S20, .f32⟩
  | 115 => ⟨S20x20, .f32⟩
  | 116 => ⟨S20x20, .f32⟩
  | 117 => ⟨S20x20x1, .f32⟩
  | 118 => ⟨S20x20x1, .f32⟩
  | 119 => ⟨S20x20x2, .f32⟩
  | 120 => ⟨S1x20x20x1x2, .f32⟩
  | 121 => ⟨S8x20x20x3x2, .f32⟩
  | 122 => ⟨S_, .f32⟩
  | 123 => ⟨S8x20x20x3x2, .f32⟩
  | 124 => ⟨S8x20x20x3x2, .f32⟩
  | 125 => ⟨S_, .f32⟩
  | 126 => ⟨S8x20x20x3x2, .f32⟩
  | 127 => ⟨S8x20x20x3x2, .f32⟩
  | _ => ⟨S8x80x80x3x85, .f32⟩

abbrev hbmTy0_1 (i : Nat) : BufTy := match i % 128 with
  | 0 => ⟨S8x20x20x3x2, .f32⟩
  | 1 => ⟨S8x20x20x3x2, .f32⟩
  | 2 => ⟨S_, .f32⟩
  | 3 => ⟨S8x20x20x3x2, .f32⟩
  | 4 => ⟨S8x20x20x3x2, .f32⟩
  | 5 => ⟨S8x20x20x3x2, .f32⟩
  | 6 => ⟨S8x20x20x3x2, .f32⟩
  | 7 => ⟨S_, .f32⟩
  | 8 => ⟨S8x20x20x3x2, .f32⟩
  | 9 => ⟨S8x20x20x3x2, .f32⟩
  | 10 => ⟨S1x1x1x3x2, .f32⟩
  | 11 => ⟨S8x20x20x3x2, .f32⟩
  | 12 => ⟨S8x20x20x3x2, .f32⟩
  | 13 => ⟨S8x20x20x3x1, .f32⟩
  | 14 => ⟨S8x20x20x3x80, .f32⟩
  | 15 => ⟨S_, .f32⟩
  | 16 => ⟨S8x20x20x3x1, .f32⟩
  | 17 => ⟨S8x20x20x3x1, .i1⟩
  | 18 => ⟨S8x20x20x3x1, .f32⟩
  | 19 => ⟨S8x20x20x3x80, .f32⟩
  | 20 => ⟨S8x20x20x3x80, .f32⟩
  | 21 => ⟨S8x20x20x3x80, .f32⟩
  | 22 => ⟨S8x20x20x3x80, .f32⟩
  | 23 => ⟨S8x20x20x3x4, .f32⟩
  | 24 => ⟨S8x1200x4, .f32⟩
  | 25 => ⟨S8x1200x80, .f32⟩
  | 26 => ⟨S8x25200x4, .f32⟩
  | 27 => ⟨S8x25200x80, .f32⟩
  | 28 => ⟨S8x2016000, .f32⟩
  | 29 => ⟨S_, .f32⟩
  | 30 => ⟨S8x2016000, .f32⟩
  | 31 => ⟨S8x2016000, .i1⟩
  | 32 => ⟨S_, .f32⟩
  | 33 => ⟨S_, .f32⟩
  | 34 => ⟨S8x2016000, .f32⟩
  | 35 => ⟨S8x2016000, .f32⟩
  | 36 => ⟨S8x1000, .f32⟩
  | 37 => ⟨S8x1000, .i32⟩
  | 38 => ⟨S_, .i32⟩
  | 39 => ⟨S_, .i32⟩
  | 40 => ⟨S8x1000, .i32⟩
  | 41 => ⟨S8x1000, .i32⟩
  | 42 => ⟨S8x1000, .i32⟩
  | 43 => ⟨S_, .i32⟩
  | 44 => ⟨S8x1000, .i32⟩
  | 45 => ⟨S8x1000, .i1⟩
  | 46 => ⟨S8x1000, .i32⟩
  | 47 => ⟨S8x1000, .i32⟩
  | 48 => ⟨S_, .i32⟩
  | 49 => ⟨S8x1000, .i32⟩
  | 50 => ⟨S8x1000, .i1⟩
  | 51 => ⟨S8x1000, .i1⟩
  | 52 => ⟨S_, .i32⟩
  | 53 => ⟨S8x1000, .i32⟩
  | 54 => ⟨S8x1000, .i32⟩
  | 55 => ⟨S8x1000, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S8x1000, .i32⟩
  | 63 => ⟨S8x1000, .i32⟩
  | 64 => ⟨S_, .i32⟩
  | 65 => ⟨S8x1000, .i32⟩
  | 66 => ⟨S8x1000, .i1⟩
  | 67 => ⟨S_, .i32⟩
  | 68 => ⟨S8x1000, .i32⟩
  | 69 => ⟨S8x1000, .i1⟩
  | 70 => ⟨S_, .i32⟩
  | 71 => ⟨S_, .i1⟩
  | 72 => ⟨S8x1000, .i1⟩
  | 73 => ⟨S8x1000, .i1⟩
  | 74 => ⟨S8x1000, .i1⟩
  | 75 => ⟨S8x1000, .i32⟩
  | 76 => ⟨S8x1000, .i32⟩
  | 77 => ⟨S8x1000, .i32⟩
  | 78 => ⟨S8x1000x1, .i32⟩
  | 79 => ⟨S_, .i32⟩
  | 80 => ⟨S8x1000x1, .i32⟩
  | 81 => ⟨S8x1000x1, .i1⟩
  | 82 => ⟨S_, .i32⟩
  | 83 => ⟨S8x1000x1, .i32⟩
  | 84 => ⟨S8x1000x1, .i32⟩
  | 85 => ⟨S8x1000x1, .i32⟩
  | 86 => ⟨S1, .i32⟩
  | 87 => ⟨S_, .i32⟩
  | 88 => ⟨S8x1000x1, .i32⟩
  | 89 => ⟨S8x1000x1, .i1⟩
  | 90 => ⟨S1x1x1, .i32⟩
  | 91 => ⟨S8x1000x1, .i32⟩
  | 92 => ⟨S8x1000x1, .i1⟩
  | 93 => ⟨S8x1000x1, .i1⟩
  | 94 => ⟨S_, .i1⟩
  | 95 => ⟨S8x1000, .i1⟩
  | 96 => ⟨S8x1000x4, .f32⟩
  | 97 => ⟨S8x1000x4, .i1⟩
  | 98 => ⟨S_, .f32⟩
  | 99 => ⟨S8x1000x4, .f32⟩
  | 100 => ⟨S8x1000x4, .f32⟩
  | 101 => ⟨S8x1000x1, .f32⟩
  | 102 => ⟨S8x1000, .f32⟩
  | 103 => ⟨S8x1000x1, .f32⟩
  | 104 => ⟨S8x1000, .f32⟩
  | 105 => ⟨S_, .f32⟩
  | 106 => ⟨S8x1000, .f32⟩
  | 107 => ⟨S8x1000, .f32⟩
  | 108 => ⟨S8x1000, .f32⟩
  | 109 => ⟨S_, .f32⟩
  | 110 => ⟨S_, .f32⟩
  | 111 => ⟨S_, .f32⟩
  | 112 => ⟨S8x1000, .f32⟩
  | 113 => ⟨S8x1000, .f32⟩
  | 114 => ⟨S_, .f32⟩
  | 115 => ⟨S8x1000, .f32⟩
  | 116 => ⟨S8x1000, .f32⟩
  | 117 => ⟨S8x1000x1, .f32⟩
  | 118 => ⟨S8x1000, .f32⟩
  | 119 => ⟨S8x1000x1, .f32⟩
  | 120 => ⟨S8x1000, .f32⟩
  | 121 => ⟨S_, .f32⟩
  | 122 => ⟨S8x1000, .f32⟩
  | 123 => ⟨S8x1000, .f32⟩
  | 124 => ⟨S8x1000, .f32⟩
  | 125 => ⟨S_, .f32⟩
  | 126 => ⟨S_, .f32⟩
  | 127 => ⟨S_, .f32⟩
  | _ => ⟨S8x80x80x3x85, .f32⟩

abbrev hbmTy0_2 (i : Nat) : BufTy := match i % 128 with
  | 0 => ⟨S8x1000, .f32⟩
  | 1 => ⟨S8x1000, .f32⟩
  | 2 => ⟨S_, .f32⟩
  | 3 => ⟨S8x1000, .f32⟩
  | 4 => ⟨S8x1000, .f32⟩
  | 5 => ⟨S8x1000x1, .f32⟩
  | 6 => ⟨S8x1000, .f32⟩
  | 7 => ⟨S8x1000x1, .f32⟩
  | 8 => ⟨S8x1000, .f32⟩
  | 9 => ⟨S_, .f32⟩
  | 10 => ⟨S8x1000, .f32⟩
  | 11 => ⟨S8x1000, .f32⟩
  | 12 => ⟨S8x1000, .f32⟩
  | 13 => ⟨S_, .f32⟩
  | 14 => ⟨S_, .f32⟩
  | 15 => ⟨S_, .f32⟩
  | 16 => ⟨S8x1000, .f32⟩
  | 17 => ⟨S8x1000, .f32⟩
  | 18 => ⟨S_, .f32⟩
  | 19 => ⟨S8x1000, .f32⟩
  | 20 => ⟨S8x1000, .f32⟩
  | 21 => ⟨S8x1000x1, .f32⟩
  | 22 => ⟨S8x1000, .f32⟩
  | 23 => ⟨S8x1000x1, .f32⟩
  | 24 => ⟨S8x1000, .f32⟩
  | 25 => ⟨S_, .f32⟩
  | 26 => ⟨S8x1000, .f32⟩
  | 27 => ⟨S8x1000, .f32⟩
  | 28 => ⟨S8x1000, .f32⟩
  | 29 => ⟨S_, .f32⟩
  | 30 => ⟨S_, .f32⟩
  | 31 => ⟨S_, .f32⟩
  | 32 => ⟨S8x1000, .f32⟩
  | 33 => ⟨S8x1000, .f32⟩
  | 34 => ⟨S_, .f32⟩
  | 35 => ⟨S8x1000, .f32⟩
  | 36 => ⟨S8x1000, .f32⟩
  | 37 => ⟨S8x1000x1, .f32⟩
  | 38 => ⟨S8x1000x1, .f32⟩
  | 39 => ⟨S8x1000x1, .f32⟩
  | 40 => ⟨S8x1000x1, .f32⟩
  | 41 => ⟨S8x1000x4, .f32⟩
  | 42 => ⟨S8x1000, .f32⟩
  | 43 => ⟨S8x1000x1, .f32⟩
  | 44 => ⟨S_, .f32⟩
  | 45 => ⟨S8x1000x1, .f32⟩
  | 46 => ⟨S8x1000x1, .f32⟩
  | 47 => ⟨S8x1000x4, .f32⟩
  | 48 => ⟨S8x1000x4, .f32⟩
  | 49 => ⟨S8x1000x2, .f32⟩
  | 50 => ⟨S8x1000x1x2, .f32⟩
  | 51 => ⟨S8x1000x2, .f32⟩
  | 52 => ⟨S8x1x1000x2, .f32⟩
  | 53 => ⟨S8x1000x1000x2, .f32⟩
  | 54 => ⟨S8x1000x1000x2, .f32⟩
  | 55 => ⟨S8x1000x1000x2, .f32⟩
  | 56 => ⟨S8x1000x2, .f32⟩
  | 57 => ⟨S8x1000x1x2, .f32⟩
  | 58 => ⟨S8x1000x2, .f32⟩
  | 59 => ⟨S8x1x1000x2, .f32⟩
  | 60 => ⟨S8x1000x1000x2, .f32⟩
  | 61 => ⟨S8x1000x1000x2, .f32⟩
  | 62 => ⟨S8x1000x1000x2, .f32⟩
  | 63 => ⟨S8x1000x1000x2, .f32⟩
  | 64 => ⟨S_, .f32⟩
  | 65 => ⟨S_, .f32⟩
  | 66 => ⟨S8x1000x1000x2, .f32⟩
  | 67 => ⟨S8x1000x1000x2, .f32⟩
  | 68 => ⟨S8x1000x1000x1, .f32⟩
  | 69 => ⟨S8x1000x1000, .f32⟩
  | 70 => ⟨S8x1000x1000x1, .f32⟩
  | 71 => ⟨S8x1000x1000, .f32⟩
  | 72 => ⟨S8x1000x1000, .f32⟩
  | 73 => ⟨S8x1000x1, .f32⟩
  | 74 => ⟨S8x1000, .f32⟩
  | 75 => ⟨S8x1000x1, .f32⟩
  | 76 => ⟨S8x1000, .f32⟩
  | 77 => ⟨S8x1000, .f32⟩
  | 78 => ⟨S8x1000x1, .f32⟩
  | 79 => ⟨S8x1000, .f32⟩
  | 80 => ⟨S8x1000x1, .f32⟩
  | 81 => ⟨S8x1000, .f32⟩
  | 82 => ⟨S8x1000, .f32⟩
  | 83 => ⟨S8x1000, .f32⟩
  | 84 => ⟨S8x1000x1, .f32⟩
  | 85 => ⟨S8x1000, .f32⟩
  | 86 => ⟨S8x1000x1, .f32⟩
  | 87 => ⟨S8x1000, .f32⟩
  | 88 => ⟨S8x1000, .f32⟩
  | 89 => ⟨S8x1000x1, .f32⟩
  | 90 => ⟨S8x1000, .f32⟩
  | 91 => ⟨S8x1000x1, .f32⟩
  | 92 => ⟨S8x1000, .f32⟩
  | 93 => ⟨S8x1000, .f32⟩
  | 94 => ⟨S8x1000, .f32⟩
  | 95 => ⟨S8x1000x1, .f32⟩
  | 96 => ⟨S8x1x1000, .f32⟩
  | 97 => ⟨S8x1000x1000, .f32⟩
  | 98 => ⟨S8x1000x1000, .f32⟩
  | 99 => ⟨S8x1000x1000, .f32⟩
  | 100 => ⟨S8x1000x1000, .f32⟩
  | 101 => ⟨S_, .f32⟩
  | 102 => ⟨S8x1000x1000, .f32⟩
  | 103 => ⟨S8x1000x1000, .f32⟩
  | 104 => ⟨S8x1000x1000, .f32⟩
  | 105 => ⟨S_, .f32⟩
  | 106 => ⟨S8x1000, .f32⟩
  | 107 => ⟨S8x1000, .i1⟩
  | 108 => ⟨S_, .i32⟩
  | 109 => ⟨S_, .i32⟩
  | 110 => ⟨S8x1000x1000, .f32⟩
  | 111 => ⟨S_, .i32⟩
  | 112 => ⟨S_, .i32⟩
  | 113 => ⟨S8x1000, .i1⟩
  | 114 => ⟨S_, .i32⟩
  | 115 => ⟨S_, .i1⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S8x1x1000, .f32⟩
  | 127 => ⟨S8x1000, .f32⟩
  | _ => ⟨S8x80x80x3x85, .f32⟩

abbrev hbmTy0_3 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S8x1, .i1⟩
  | 8 => ⟨S_, .f32⟩
  | 9 => ⟨S8x1000, .f32⟩
  | 10 => ⟨S8x1000, .i1⟩
  | 11 => ⟨S1000, .i32⟩
  | 12 => ⟨S_, .i32⟩
  | 13 => ⟨S1000, .i32⟩
  | 14 => ⟨S1000, .i1⟩
  | 15 => ⟨S1x1000, .i1⟩
  | 16 => ⟨S8x1000, .i1⟩
  | 17 => ⟨S8x1000, .i1⟩
  | 18 => ⟨S8x1000, .i1⟩
  | 19 => ⟨S8x1000, .i1⟩
  | 20 => ⟨S8x1000, .i1⟩
  | 21 => ⟨S8x1000, .i1⟩
  | 22 => ⟨S_, .i32⟩
  | 23 => ⟨S_, .i32⟩
  | 24 => ⟨S_, .f32⟩
  | 25 => ⟨S_, .f32⟩
  | 26 => ⟨S8x1000, .f32⟩
  | 27 => ⟨S8x1000, .f32⟩
  | 28 => ⟨S8x300, .f32⟩
  | 29 => ⟨S8x300, .i32⟩
  | 30 => ⟨S8x300x1, .i32⟩
  | 31 => ⟨S_, .i32⟩
  | 32 => ⟨S8x300x1, .i32⟩
  | 33 => ⟨S8x300x1, .i1⟩
  | 34 => ⟨S_, .i32⟩
  | 35 => ⟨S8x300x1, .i32⟩
  | 36 => ⟨S8x300x1, .i32⟩
  | 37 => ⟨S8x300x1, .i32⟩
  | 38 => ⟨S1, .i32⟩
  | 39 => ⟨S_, .i32⟩
  | 40 => ⟨S8x300x1, .i32⟩
  | 41 => ⟨S8x300x1, .i1⟩
  | 42 => ⟨S1x1x1, .i32⟩
  | 43 => ⟨S8x300x1, .i32⟩
  | 44 => ⟨S8x300x1, .i1⟩
  | 45 => ⟨S8x300x1, .i1⟩
  | 46 => ⟨S_, .i1⟩
  | 47 => ⟨S8x300, .i1⟩
  | 48 => ⟨S8x300x4, .f32⟩
  | 49 => ⟨S8x300x4, .i1⟩
  | 50 => ⟨S_, .f32⟩
  | 51 => ⟨S8x300x4, .f32⟩
  | 52 => ⟨S8x300x4, .f32⟩
  | 53 => ⟨S8x1x1, .f32⟩
  | 54 => ⟨S8x300x4, .f32⟩
  | 55 => ⟨S8x300x4, .f32⟩
  | 56 => ⟨S_, .i32⟩
  | 57 => ⟨S8x300, .i32⟩
  | 58 => ⟨S8x300, .i1⟩
  | 59 => ⟨S_, .i32⟩
  | 60 => ⟨S8x300, .i32⟩
  | 61 => ⟨S8x300, .i32⟩
  | 62 => ⟨S8x300, .i32⟩
  | 63 => ⟨S8x300x1, .i32⟩
  | 64 => ⟨S1, .i32⟩
  | 65 => ⟨S_, .i32⟩
  | 66 => ⟨S8x300x1, .i32⟩
  | 67 => ⟨S8x300x1, .i1⟩
  | 68 => ⟨S1x1x1, .i32⟩
  | 69 => ⟨S8x300x1, .i32⟩
  | 70 => ⟨S8x300x1, .i1⟩
  | 71 => ⟨S8x300x1, .i1⟩
  | 72 => ⟨S_, .i1⟩
  | 73 => ⟨S8x300, .i1⟩
  | 74 => ⟨S8x300, .i32⟩
  | 75 => ⟨S_, .i32⟩
  | 76 => ⟨S8x300, .i32⟩
  | 77 => ⟨S8x300, .i32⟩
  | 78 => ⟨S8x300, .f32⟩
  | 79 => ⟨S_, .f32⟩
  | 80 => ⟨S8x300, .f32⟩
  | 81 => ⟨S8x300, .i1⟩
  | 82 => ⟨S8x300, .f32⟩
  | 83 => ⟨S8x300x1, .f32⟩
  | 84 => ⟨S8x300x4, .f32⟩
  | 85 => ⟨S8x300x4, .f32⟩
  | 86 => ⟨S8x300, .f32⟩
  | 87 => ⟨S8x300x1, .f32⟩
  | 88 => ⟨S8x300, .f32⟩
  | 89 => ⟨S8x300x1, .f32⟩
  | 90 => ⟨S8x300x6, .f32⟩
  | _ => ⟨S8x80x80x3x85, .f32⟩

abbrev hbmTy (i : Nat) : BufTy := match i / 128 with
  | 0 => hbmTy0_0 i
  | 1 => hbmTy0_1 i
  | 2 => hbmTy0_2 i
  | 3 => hbmTy0_3 i
  | _ => ⟨S8x80x80x3x85, .f32⟩

abbrev bufTy : (tb : Table) → Fin (tcTables nBuf tb) → BufTy
  | .hbm, ⟨i, _⟩ => hbmTy i
  | _, _ => ⟨S8x80x80x3x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_cst_2 : Ref sig .tc := ⟨.hbm, 9, rfl⟩
abbrev main_v2 : Ref sig .tc := ⟨.hbm, 10, rfl⟩
abbrev main_v3 : Ref sig .tc := ⟨.hbm, 11, rfl⟩
abbrev main_cst_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_16 : Ref sig .tc := ⟨.hbm, 107, rfl⟩
abbrev main_v86 : Ref sig .tc := ⟨.hbm, 108, rfl⟩
abbrev main_v87 : Ref sig .tc := ⟨.hbm, 109, rfl⟩
abbrev main_cst_17 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_18 : Ref sig .tc := ⟨.hbm, 122, rfl⟩
abbrev main_v99 : Ref sig .tc := ⟨.hbm, 123, rfl⟩
abbrev main_v100 : Ref sig .tc := ⟨.hbm, 124, rfl⟩
abbrev main_cst_19 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_20 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_21 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_22 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_23 : Ref sig .tc := ⟨.hbm, 157, rfl⟩
abbrev main_v129 : Ref sig .tc := ⟨.hbm, 158, rfl⟩
abbrev main_v130 : Ref sig .tc := ⟨.hbm, 159, rfl⟩
abbrev main_cst_24 : Ref sig .tc := ⟨.hbm, 160, rfl⟩
abbrev main_call0_v0 : Ref sig .tc := ⟨.hbm, 161, rfl⟩
abbrev main_call0_v1 : Ref sig .tc := ⟨.hbm, 162, rfl⟩
abbrev main_v131 : Ref sig .tc := ⟨.hbm, 163, rfl⟩
abbrev main_values : Ref sig .tc := ⟨.hbm, 164, rfl⟩
abbrev main_indices : Ref sig .tc := ⟨.hbm, 165, rfl⟩
abbrev main_c : Ref sig .tc := ⟨.hbm, 166, rfl⟩
abbrev main_call1_v0 : Ref sig .tc := ⟨.hbm, 167, rfl⟩
abbrev main_call1_v1 : Ref sig .tc := ⟨.hbm, 168, rfl⟩
abbrev main_call1_v2 : Ref sig .tc := ⟨.hbm, 169, rfl⟩
abbrev main_call1_v3 : Ref sig .tc := ⟨.hbm, 170, rfl⟩
abbrev main_call1_v4 : Ref sig .tc := ⟨.hbm, 171, rfl⟩
abbrev main_call1_v5 : Ref sig .tc := ⟨.hbm, 172, rfl⟩
abbrev main_call1_v6 : Ref sig .tc := ⟨.hbm, 173, rfl⟩
abbrev main_call1_v7 : Ref sig .tc := ⟨.hbm, 174, rfl⟩
abbrev main_call1_v8 : Ref sig .tc := ⟨.hbm, 175, rfl⟩
abbrev main_call1_c : Ref sig .tc := ⟨.hbm, 176, rfl⟩
abbrev main_call1_v9 : Ref sig .tc := ⟨.hbm, 177, rfl⟩
abbrev main_call1_v10 : Ref sig .tc := ⟨.hbm, 178, rfl⟩
abbrev main_call1_v11 : Ref sig .tc := ⟨.hbm, 179, rfl⟩
abbrev main_call1_c_0 : Ref sig .tc := ⟨.hbm, 180, rfl⟩
abbrev main_call1_v12 : Ref sig .tc := ⟨.hbm, 181, rfl⟩
abbrev main_call1_v13 : Ref sig .tc := ⟨.hbm, 182, rfl⟩
abbrev main_v132 : Ref sig .tc := ⟨.hbm, 183, rfl⟩
abbrev main_c_25 : Ref sig .tc := ⟨.hbm, 184, rfl⟩
abbrev main_call2_v0 : Ref sig .tc := ⟨.hbm, 185, rfl⟩
abbrev main_call2_c : Ref sig .tc := ⟨.hbm, 186, rfl⟩
abbrev main_call2_v1 : Ref sig .tc := ⟨.hbm, 187, rfl⟩
abbrev main_call2_c_0 : Ref sig .tc := ⟨.hbm, 188, rfl⟩
abbrev main_call2_v2 : Ref sig .tc := ⟨.hbm, 189, rfl⟩
abbrev main_call2_v3 : Ref sig .tc := ⟨.hbm, 190, rfl⟩
abbrev main_call2_v4 : Ref sig .tc := ⟨.hbm, 191, rfl⟩
abbrev main_call2_c_1 : Ref sig .tc := ⟨.hbm, 192, rfl⟩
abbrev main_call2_v5 : Ref sig .tc := ⟨.hbm, 193, rfl⟩
abbrev main_call2_v6 : Ref sig .tc := ⟨.hbm, 194, rfl⟩
abbrev main_call2_c_2 : Ref sig .tc := ⟨.hbm, 195, rfl⟩
abbrev main_call2_v7 : Ref sig .tc := ⟨.hbm, 196, rfl⟩
abbrev main_call2_v8 : Ref sig .tc := ⟨.hbm, 197, rfl⟩
abbrev main_call2_c_3 : Ref sig .tc := ⟨.hbm, 198, rfl⟩
abbrev main_call2_v9 : Ref sig .tc := ⟨.hbm, 199, rfl⟩
abbrev main_call2_v10 : Ref sig .tc := ⟨.hbm, 200, rfl⟩
abbrev main_call2_v11 : Ref sig .tc := ⟨.hbm, 201, rfl⟩
abbrev main_call2_v12 : Ref sig .tc := ⟨.hbm, 202, rfl⟩
abbrev main_call2_v13 : Ref sig .tc := ⟨.hbm, 203, rfl⟩
abbrev main_call2_v14 : Ref sig .tc := ⟨.hbm, 204, rfl⟩
abbrev main_v133 : Ref sig .tc := ⟨.hbm, 205, rfl⟩
abbrev main_v134 : Ref sig .tc := ⟨.hbm, 206, rfl⟩
abbrev main_call3_c : Ref sig .tc := ⟨.hbm, 207, rfl⟩
abbrev main_call3_v0 : Ref sig .tc := ⟨.hbm, 208, rfl⟩
abbrev main_call3_v1 : Ref sig .tc := ⟨.hbm, 209, rfl⟩
abbrev main_call3_c_0 : Ref sig .tc := ⟨.hbm, 210, rfl⟩
abbrev main_call3_v2 : Ref sig .tc := ⟨.hbm, 211, rfl⟩
abbrev main_call3_v3 : Ref sig .tc := ⟨.hbm, 212, rfl⟩
abbrev main_call3_v4 : Ref sig .tc := ⟨.hbm, 213, rfl⟩
abbrev main_call3_c_1 : Ref sig .tc := ⟨.hbm, 214, rfl⟩
abbrev main_call3_c_2 : Ref sig .tc := ⟨.hbm, 215, rfl⟩
abbrev main_call3_v5 : Ref sig .tc := ⟨.hbm, 216, rfl⟩
abbrev main_call3_v6 : Ref sig .tc := ⟨.hbm, 217, rfl⟩
abbrev main_call3_v7 : Ref sig .tc := ⟨.hbm, 218, rfl⟩
abbrev main_call3_v8 : Ref sig .tc := ⟨.hbm, 219, rfl⟩
abbrev main_call3_v9 : Ref sig .tc := ⟨.hbm, 220, rfl⟩
abbrev main_call3_v10 : Ref sig .tc := ⟨.hbm, 221, rfl⟩
abbrev main_call3_c_3 : Ref sig .tc := ⟨.hbm, 222, rfl⟩
abbrev main_call3_v11 : Ref sig .tc := ⟨.hbm, 223, rfl⟩
abbrev main_call3_v12 : Ref sig .tc := ⟨.hbm, 224, rfl⟩
abbrev main_call3_v13 : Ref sig .tc := ⟨.hbm, 225, rfl⟩
abbrev main_call3_cst : Ref sig .tc := ⟨.hbm, 226, rfl⟩
abbrev main_call3_v14 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_cst_26 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_cst_27 : Ref sig .tc := ⟨.hbm, 237, rfl⟩
abbrev main_cst_28 : Ref sig .tc := ⟨.hbm, 238, rfl⟩
abbrev main_call4_v0 : Ref sig .tc := ⟨.hbm, 239, rfl⟩
abbrev main_call4_v1 : Ref sig .tc := ⟨.hbm, 240, rfl⟩
abbrev main_call4_v2 : Ref sig .tc := ⟨.hbm, 241, rfl⟩
abbrev main_call4_v3 : Ref sig .tc := ⟨.hbm, 242, rfl⟩
abbrev main_call4_v4 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_cst_29 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_cst_30 : Ref sig .tc := ⟨.hbm, 253, rfl⟩
abbrev main_cst_31 : Ref sig .tc := ⟨.hbm, 254, rfl⟩
abbrev main_call5_v0 : Ref sig .tc := ⟨.hbm, 255, rfl⟩
abbrev main_call5_v1 : Ref sig .tc := ⟨.hbm, 256, rfl⟩
abbrev main_call5_v2 : Ref sig .tc := ⟨.hbm, 257, rfl⟩
abbrev main_call5_v3 : Ref sig .tc := ⟨.hbm, 258, rfl⟩
abbrev main_call5_v4 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_cst_32 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_cst_33 : Ref sig .tc := ⟨.hbm, 269, rfl⟩
abbrev main_cst_34 : Ref sig .tc := ⟨.hbm, 270, rfl⟩
abbrev main_call6_v0 : Ref sig .tc := ⟨.hbm, 271, rfl⟩
abbrev main_call6_v1 : Ref sig .tc := ⟨.hbm, 272, rfl⟩
abbrev main_call6_v2 : Ref sig .tc := ⟨.hbm, 273, rfl⟩
abbrev main_call6_v3 : Ref sig .tc := ⟨.hbm, 274, rfl⟩
abbrev main_call6_v4 : Ref sig .tc := ⟨.hbm, 275, rfl⟩
abbrev main_v159 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_cst_35 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_cst_36 : Ref sig .tc := ⟨.hbm, 285, rfl⟩
abbrev main_cst_37 : Ref sig .tc := ⟨.hbm, 286, rfl⟩
abbrev main_call7_v0 : Ref sig .tc := ⟨.hbm, 287, rfl⟩
abbrev main_call7_v1 : Ref sig .tc := ⟨.hbm, 288, rfl⟩
abbrev main_call7_v2 : Ref sig .tc := ⟨.hbm, 289, rfl⟩
abbrev main_call7_v3 : Ref sig .tc := ⟨.hbm, 290, rfl⟩
abbrev main_call7_v4 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_cst_38 : Ref sig .tc := ⟨.hbm, 300, rfl⟩
abbrev main_v175 : Ref sig .tc := ⟨.hbm, 301, rfl⟩
abbrev main_v176 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_v192 : Ref sig .tc := ⟨.hbm, 318, rfl⟩
abbrev main_v193 : Ref sig .tc := ⟨.hbm, 319, rfl⟩
abbrev main_cst_39 : Ref sig .tc := ⟨.hbm, 320, rfl⟩
abbrev main_call8_v0 : Ref sig .tc := ⟨.hbm, 321, rfl⟩
abbrev main_call8_v1 : Ref sig .tc := ⟨.hbm, 322, rfl⟩
abbrev main_v194 : Ref sig .tc := ⟨.hbm, 323, rfl⟩
abbrev main_v195 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_v205 : Ref sig .tc := ⟨.hbm, 334, rfl⟩
abbrev main_v206 : Ref sig .tc := ⟨.hbm, 335, rfl⟩
abbrev main_v207 : Ref sig .tc := ⟨.hbm, 336, rfl⟩
abbrev main_v208 : Ref sig .tc := ⟨.hbm, 337, rfl⟩
abbrev main_v209 : Ref sig .tc := ⟨.hbm, 338, rfl⟩
abbrev main_v210 : Ref sig .tc := ⟨.hbm, 339, rfl⟩
abbrev main_v211 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_v215 : Ref sig .tc := ⟨.hbm, 344, rfl⟩
abbrev main_v216 : Ref sig .tc := ⟨.hbm, 345, rfl⟩
abbrev main_v217 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_cst_40 : Ref sig .tc := ⟨.hbm, 357, rfl⟩
abbrev main_v228 : Ref sig .tc := ⟨.hbm, 358, rfl⟩
abbrev main_v229 : Ref sig .tc := ⟨.hbm, 359, rfl⟩
abbrev main_v230 : Ref sig .tc := ⟨.hbm, 360, rfl⟩
abbrev main_cst_41 : Ref sig .tc := ⟨.hbm, 361, rfl⟩
abbrev main_v231 : Ref sig .tc := ⟨.hbm, 362, rfl⟩
abbrev main_v232 : Ref sig .tc := ⟨.hbm, 363, rfl⟩
abbrev main_c_42 : Ref sig .tc := ⟨.hbm, 364, rfl⟩
abbrev main_c_43 : Ref sig .tc := ⟨.hbm, 365, rfl⟩
abbrev main_v233_0 : Ref sig .tc := ⟨.hbm, 366, rfl⟩
abbrev main_v233_1 : Ref sig .tc := ⟨.hbm, 367, rfl⟩
abbrev main_v233_2 : Ref sig .tc := ⟨.hbm, 368, rfl⟩
abbrev main_v233_3 : Ref sig .tc := ⟨.hbm, 369, rfl⟩
abbrev main_while0c_c_51 : Ref sig .tc := ⟨.hbm, 370, rfl⟩
abbrev main_while0c_v253 : Ref sig .tc := ⟨.hbm, 371, rfl⟩
abbrev main_while0b_c_51 : Ref sig .tc := ⟨.hbm, 372, rfl⟩
abbrev main_while0b_v253 : Ref sig .tc := ⟨.hbm, 373, rfl⟩
abbrev main_while0b_c_52 : Ref sig .tc := ⟨.hbm, 374, rfl⟩
abbrev main_while0b_v254 : Ref sig .tc := ⟨.hbm, 375, rfl⟩
abbrev main_while0b_v255 : Ref sig .tc := ⟨.hbm, 376, rfl⟩
abbrev main_while0b_c_53 : Ref sig .tc := ⟨.hbm, 377, rfl⟩
abbrev main_while0b_v256 : Ref sig .tc := ⟨.hbm, 378, rfl⟩
abbrev main_while0b_v257 : Ref sig .tc := ⟨.hbm, 379, rfl⟩
abbrev main_while0b_c_54 : Ref sig .tc := ⟨.hbm, 380, rfl⟩
abbrev main_while0b_c_55 : Ref sig .tc := ⟨.hbm, 381, rfl⟩
abbrev main_while0b_v258 : Ref sig .tc := ⟨.hbm, 382, rfl⟩
abbrev main_while0b_v259 : Ref sig .tc := ⟨.hbm, 383, rfl⟩
abbrev main_while0b_c_56 : Ref sig .tc := ⟨.hbm, 384, rfl⟩
abbrev main_while0b_v260 : Ref sig .tc := ⟨.hbm, 385, rfl⟩
abbrev main_while0b_v261 : Ref sig .tc := ⟨.hbm, 386, rfl⟩
abbrev main_while0b_c_57 : Ref sig .tc := ⟨.hbm, 387, rfl⟩
abbrev main_while0b_v262 : Ref sig .tc := ⟨.hbm, 388, rfl⟩
abbrev main_while0b_v263 : Ref sig .tc := ⟨.hbm, 389, rfl⟩
abbrev main_while0b_c_58 : Ref sig .tc := ⟨.hbm, 390, rfl⟩
abbrev main_while0b_v264 : Ref sig .tc := ⟨.hbm, 391, rfl⟩
abbrev main_while0b_cst_59 : Ref sig .tc := ⟨.hbm, 392, rfl⟩
abbrev main_while0b_v265 : Ref sig .tc := ⟨.hbm, 393, rfl⟩
abbrev main_while0b_v266 : Ref sig .tc := ⟨.hbm, 394, rfl⟩
abbrev main_while0b_v267 : Ref sig .tc := ⟨.hbm, 395, rfl⟩
abbrev main_while0b_v268 : Ref sig .tc := ⟨.hbm, 396, rfl⟩
abbrev main_while0b_v269 : Ref sig .tc := ⟨.hbm, 397, rfl⟩
abbrev main_while0b_v270 : Ref sig .tc := ⟨.hbm, 398, rfl⟩
abbrev main_while0b_v271 : Ref sig .tc := ⟨.hbm, 399, rfl⟩
abbrev main_while0b_v272 : Ref sig .tc := ⟨.hbm, 400, rfl⟩
abbrev main_while0b_v273 : Ref sig .tc := ⟨.hbm, 401, rfl⟩
abbrev main_while0b_v274 : Ref sig .tc := ⟨.hbm, 402, rfl⟩
abbrev main_while0b_v275 : Ref sig .tc := ⟨.hbm, 403, rfl⟩
abbrev main_while0b_v276 : Ref sig .tc := ⟨.hbm, 404, rfl⟩
abbrev main_while0b_v277 : Ref sig .tc := ⟨.hbm, 405, rfl⟩
abbrev main_while0b_c_60 : Ref sig .tc := ⟨.hbm, 406, rfl⟩
abbrev main_while0b_v278 : Ref sig .tc := ⟨.hbm, 407, rfl⟩
abbrev main_cst_44 : Ref sig .tc := ⟨.hbm, 408, rfl⟩
abbrev main_call9_v0 : Ref sig .tc := ⟨.hbm, 409, rfl⟩
abbrev main_call9_v1 : Ref sig .tc := ⟨.hbm, 410, rfl⟩
abbrev main_v234 : Ref sig .tc := ⟨.hbm, 411, rfl⟩
abbrev main_values_45 : Ref sig .tc := ⟨.hbm, 412, rfl⟩
abbrev main_indices_46 : Ref sig .tc := ⟨.hbm, 413, rfl⟩
abbrev main_v235 : Ref sig .tc := ⟨.hbm, 414, rfl⟩
abbrev main_call10_c : Ref sig .tc := ⟨.hbm, 415, rfl⟩
abbrev main_call10_v0 : Ref sig .tc := ⟨.hbm, 416, rfl⟩
abbrev main_call10_v1 : Ref sig .tc := ⟨.hbm, 417, rfl⟩
abbrev main_call10_c_0 : Ref sig .tc := ⟨.hbm, 418, rfl⟩
abbrev main_call10_v2 : Ref sig .tc := ⟨.hbm, 419, rfl⟩
abbrev main_call10_v3 : Ref sig .tc := ⟨.hbm, 420, rfl⟩
abbrev main_call10_v4 : Ref sig .tc := ⟨.hbm, 421, rfl⟩
abbrev main_call10_c_1 : Ref sig .tc := ⟨.hbm, 422, rfl⟩
abbrev main_call10_c_2 : Ref sig .tc := ⟨.hbm, 423, rfl⟩
abbrev main_call10_v5 : Ref sig .tc := ⟨.hbm, 424, rfl⟩
abbrev main_call10_v6 : Ref sig .tc := ⟨.hbm, 425, rfl⟩
abbrev main_call10_v7 : Ref sig .tc := ⟨.hbm, 426, rfl⟩
abbrev main_call10_v8 : Ref sig .tc := ⟨.hbm, 427, rfl⟩
abbrev main_call10_v9 : Ref sig .tc := ⟨.hbm, 428, rfl⟩
abbrev main_call10_v10 : Ref sig .tc := ⟨.hbm, 429, rfl⟩
abbrev main_call10_c_3 : Ref sig .tc := ⟨.hbm, 430, rfl⟩
abbrev main_call10_v11 : Ref sig .tc := ⟨.hbm, 431, rfl⟩
abbrev main_call10_v12 : Ref sig .tc := ⟨.hbm, 432, rfl⟩
abbrev main_call10_v13 : Ref sig .tc := ⟨.hbm, 433, rfl⟩
abbrev main_call10_cst : Ref sig .tc := ⟨.hbm, 434, rfl⟩
abbrev main_call10_v14 : Ref sig .tc := ⟨.hbm, 435, rfl⟩
abbrev main_v236 : Ref sig .tc := ⟨.hbm, 436, rfl⟩
abbrev main_v237 : Ref sig .tc := ⟨.hbm, 437, rfl⟩
abbrev main_v238 : Ref sig .tc := ⟨.hbm, 438, rfl⟩
abbrev main_v239 : Ref sig .tc := ⟨.hbm, 439, rfl⟩
abbrev main_call11_c : Ref sig .tc := ⟨.hbm, 440, rfl⟩
abbrev main_call11_v0 : Ref sig .tc := ⟨.hbm, 441, rfl⟩
abbrev main_call11_v1 : Ref sig .tc := ⟨.hbm, 442, rfl⟩
abbrev main_call11_c_0 : Ref sig .tc := ⟨.hbm, 443, rfl⟩
abbrev main_call11_v2 : Ref sig .tc := ⟨.hbm, 444, rfl⟩
abbrev main_call11_v3 : Ref sig .tc := ⟨.hbm, 445, rfl⟩
abbrev main_call11_v4 : Ref sig .tc := ⟨.hbm, 446, rfl⟩
abbrev main_call11_v5 : Ref sig .tc := ⟨.hbm, 447, rfl⟩
abbrev main_call11_c_1 : Ref sig .tc := ⟨.hbm, 448, rfl⟩
abbrev main_call11_c_2 : Ref sig .tc := ⟨.hbm, 449, rfl⟩
abbrev main_call11_v6 : Ref sig .tc := ⟨.hbm, 450, rfl⟩
abbrev main_call11_v7 : Ref sig .tc := ⟨.hbm, 451, rfl⟩
abbrev main_call11_v8 : Ref sig .tc := ⟨.hbm, 452, rfl⟩
abbrev main_call11_v9 : Ref sig .tc := ⟨.hbm, 453, rfl⟩
abbrev main_call11_v10 : Ref sig .tc := ⟨.hbm, 454, rfl⟩
abbrev main_call11_v11 : Ref sig .tc := ⟨.hbm, 455, rfl⟩
abbrev main_call11_c_3 : Ref sig .tc := ⟨.hbm, 456, rfl⟩
abbrev main_call11_v12 : Ref sig .tc := ⟨.hbm, 457, rfl⟩
abbrev main_call11_v13 : Ref sig .tc := ⟨.hbm, 458, rfl⟩
abbrev main_call11_c_4 : Ref sig .tc := ⟨.hbm, 459, rfl⟩
abbrev main_call11_v14 : Ref sig .tc := ⟨.hbm, 460, rfl⟩
abbrev main_v240 : Ref sig .tc := ⟨.hbm, 461, rfl⟩
abbrev main_v241 : Ref sig .tc := ⟨.hbm, 462, rfl⟩
abbrev main_cst_47 : Ref sig .tc := ⟨.hbm, 463, rfl⟩
abbrev main_v242 : Ref sig .tc := ⟨.hbm, 464, rfl⟩
abbrev main_v243 : Ref sig .tc := ⟨.hbm, 465, rfl⟩
abbrev main_v244 : Ref sig .tc := ⟨.hbm, 466, rfl⟩
abbrev main_v245 : Ref sig .tc := ⟨.hbm, 467, rfl⟩
abbrev main_v246 : Ref sig .tc := ⟨.hbm, 468, rfl⟩
abbrev main_v247 : Ref sig .tc := ⟨.hbm, 469, rfl⟩
abbrev main_v248 : Ref sig .tc := ⟨.hbm, 470, rfl⟩
abbrev main_v249 : Ref sig .tc := ⟨.hbm, 471, rfl⟩
abbrev main_v250 : Ref sig .tc := ⟨.hbm, 472, rfl⟩
abbrev main_v251 : Ref sig .tc := ⟨.hbm, 473, rfl⟩
abbrev main_v252 : Ref sig .tc := ⟨.hbm, 474, rfl⟩

abbrev nD : Nat := 1
abbrev τ : Topo := Topo.v7x

variable {F : FTy → Type} [FloatOps F]

abbrev main_while0_count : Scf.Loop 32 := ⟨0#32, 1000#32, 1#32⟩
-- ==== Proof.RefFrame.lean ====
/- The reference terminates with its argument arrays as launched: no operation of @main, of the loop's condition or of the
   loop's body writes an argument. -/
module

public import proofs.«01_k».proof.Defs
public import proofs.«01_k».proof.Proof.Gen.ReferenceIdeal.Run
public import Idealize.ShloMosaic.Lib.StableHlo.ReadAt
public import Idealize.ShloMosaic.Lib.Quiescent

@[expose] public section

noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]

/-- The four argument arrays. -/
abbrev args : List (Ref sig .tc) := [main_arg0, main_arg1, main_arg2, main_arg3]

set_option maxRecDepth 100000 in
set_option maxHeartbeats 4000000 in
/-- The stretches before the loop leave the arguments. -/
theorem pre_args (V : Valuation τ sig (Elt F)) : ∀ r ∈ args, afterL preI V (Proc.devRef .tc r) = V (Proc.devRef .tc r) := by
  intro r hr
  fin_cases hr <;> (simp only [afterL_cons, afterL_nil]; after_reads_simp)

set_option maxRecDepth 100000 in
/-- One trip of the loop leaves the arguments. -/
theorem trip_args (V : Valuation τ sig (Elt F)) : ∀ r ∈ args, afterL bodyI (after condOps V) (Proc.devRef .tc r) = V (Proc.devRef .tc r) := by
  intro r hr
  fin_cases hr <;> (simp only [afterL_cons, afterL_nil]; after_reads_simp)

set_option maxRecDepth 100000 in
/-- The stretches after the loop leave the arguments. -/
theorem post_args (V : Valuation τ sig (Elt F)) : ∀ r ∈ args, afterL postI (after condOps V) (Proc.devRef .tc r) = V (Proc.devRef .tc r) := by
  intro r hr
  fin_cases hr <;> (simp only [afterL_cons, afterL_nil]; after_reads_simp)

/-- The loop's trips leave the arguments. -/
theorem atTrip_args (W : Dev nD → Valuation τ sig (Elt F)) (c : Dev nD) (r : Ref sig .tc) (hr : r ∈ args) :
    ∀ k, atTrip condOps bodyI W k c (Proc.devRef .tc r) = W c (Proc.devRef .tc r)
  | 0 => rfl
  | k + 1 => (trip_args _ r hr).trans (atTrip_args W c r hr k)

/-- The arguments end as launched. -/
theorem final_args (m : (ℓ : Loc nD τ sig) → Buf (Elt F) ℓ) (c : Dev nD) (r : Ref sig .tc) (hr : r ∈ args) :
    finalContents condOps preI bodyI postI 1000 m c (Proc.devRef .tc r) = m ((c.tc : Thread nD τ).loc r) :=
  (post_args _ r hr).trans ((atTrip_args _ c r hr 1000).trans (pre_args _ r hr))

/-- The reference runs, ends with its arguments as launched and every semaphore counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c =>
      ⟨(h c main_arg0 rfl).trans (final_args m c main_arg0 (by decide)),
       (h c main_arg1 rfl).trans (final_args m c main_arg1 (by decide)),
       (h c main_arg2 rfl).trans (final_args m c main_arg2 (by decide)),
       (h c main_arg3 rfl).trans (final_args m c main_arg3 (by decide))⟩,
      Idealize.ShloMosaic.sem_eq_zero_of_no_sems (by decide) r.2⟩) (run_fold m ρ)

end Cert.Proof.Ref

end
-- ==== Proof.KernelRun.lean ====
/- The kernel's run, read at every array it leaves: each array the program holds outside its regions ends at the contents
   after the last stretch of host operations. -/
module

public import proofs.«01_k».proof.Proof.Gen.KernelIdeal.Frame

@[expose] public section

noncomputable section

namespace Cert.Proof.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel terminates and every array outside its regions ends at what the last stretch leaves. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W34 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h _ => h)

/-- The kernel terminates with its result at what the last stretch leaves and its arguments as launched. -/
theorem run_result : θ_run defs (onTc (τ := τ) (main (F := F))) ⟨m, fun _ => 0, ρ⟩ (fun r => ∀ c : Dev nD,
      r.2.mem ((c.tc : Thread nD τ).loc main_v92) = W34 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c _ (mem_uc main_v92 (by decide)),
      (h c _ (mem_uc main_arg0 (by decide))).trans (W34_main_arg0 m ρ c),
      (h c _ (mem_uc main_arg1 (by decide))).trans (W34_main_arg1 m ρ c),
      (h c _ (mem_uc main_arg2 (by decide))).trans (W34_main_arg2 m ρ c),
      (h c _ (mem_uc main_arg3 (by decide))).trans (W34_main_arg3 m ρ c)⟩) (run_contents m ρ)

end Cert.Proof.Ker

end

end
-- ==== Proof.Model.lean ====
/- The mathematics of one image: raw boxes, scores, overlaps and what suppression keeps. -/
module

public import Idealize.ShloMosaic.Lib.Pointwise.Index
public import Idealize.ShloMosaic.PureOps.Ideal
public import Idealize.ShloMosaic.Lib.Pipeline.ValueKit

@[expose] public section
noncomputable section
namespace Cert.Proof.Model
open Idealize.ShloMosaic

/-- The score threshold, a quarter. -/
def quarter : EReal := Ideal.ofBits .f32 1048576000#32
/-- Minus one, the score of what does not pass the threshold. -/
def neg1 : EReal := Ideal.ofBits .f32 3212836864#32

/-- The threshold is a quarter. -/
theorem quarter_eq : quarter = ((1 / 4 : ℝ) : EReal) := by
  simp [quarter, Ideal.ofBits, Ideal.ieee, -EReal.coe_mul]
  norm_num
/-- The score of what does not pass is minus one. -/
theorem neg1_eq : neg1 = ((-1 : ℝ) : EReal) := by
  simp [neg1, Ideal.ofBits, Ideal.ieee, -EReal.coe_mul, -EReal.coe_neg]
  norm_num
/-- Minus one does not pass. -/
theorem neg1_lt_quarter : neg1 < quarter := by
  rw [quarter_eq, neg1_eq, EReal.coe_lt_coe_iff]; norm_num

/-- The score of a class logit `y` under an objectness logit `x`. -/
def score (x y : EReal) : EReal :=
  let p := Ideal.logistic x * Ideal.logistic y * (if quarter < Ideal.logistic x then 1 else 0)
  if quarter < p then p else neg1

/-- A score passes the threshold or is minus one. -/
theorem score_cases (x y : EReal) : quarter < score x y ∨ score x y = neg1 := by
  unfold score
  extract_lets p
  by_cases h : quarter < p
  · rw [if_pos h]; exact Or.inl h
  · rw [if_neg h]; exact Or.inr rfl

/-- The raw value of box `J`, channel `k`, of image `b`: the three levels one after the other. -/
def raw (a0 : Fin 8 → Fin 80 → Fin 80 → Fin 3 → Fin 85 → EReal) (a1 : Fin 8 → Fin 40 → Fin 40 → Fin 3 → Fin 85 → EReal)
    (a2 : Fin 8 → Fin 20 → Fin 20 → Fin 3 → Fin 85 → EReal) (b : Fin 8) (J : Fin 25200) (k : Fin 85) : EReal :=
  if h0 : J.val < 19200 then a0 b ⟨J.val / 240, by omega⟩ ⟨J.val / 3 % 80, by omega⟩ ⟨J.val % 3, by omega⟩ k
  else if h1 : J.val < 24000 then
    a1 b ⟨(J.val - 19200) / 120, by omega⟩ ⟨(J.val - 19200) / 3 % 40, by omega⟩ ⟨(J.val - 19200) % 3, by omega⟩ k
  else a2 b ⟨(J.val - 24000) / 60, by omega⟩ ⟨(J.val - 24000) / 3 % 20, by omega⟩ ⟨(J.val - 24000) % 3, by omega⟩ k

/-- A one-bit word widened and read as a number. -/
theorem gate_word (p : Prop) [Decidable p] :
    (FloatOps.sitofp (F := Ideal) .f32 (BitVec.setWidth 32 (BitVec.ofBool (decide p))) : EReal) = if p then 1 else 0 := by
  by_cases h : p <;> simp [h] <;> change (((_ : ℤ) : ℝ) : EReal) = _ <;> simp

/-- The pattern of minus infinity is the least extended real. -/
theorem ninf : Ideal.ofBits .f32 4286578688#32 = ⊥ := by
  simp [Ideal.ofBits, Ideal.ieee]

/-- The overlap threshold. -/
def overlap : EReal := Ideal.ofBits .f32 1055286886#32

/-- Intersection over union of two boxes given by their corners and areas. -/
def iou (x1 y1 x2 y2 a u1 v1 u2 v2 c : EReal) : EReal :=
  Ideal.div (max 0 (min x2 u2 - max x1 u1) * max 0 (min y2 v2 - max y1 v1))
    (a + c - max 0 (min x2 u2 - max x1 u1) * max 0 (min y2 v2 - max y1 v1) + Ideal.ofBits .f32 869711765#32)

/-- What greedy suppression keeps after `i` rounds: round `i` drops every later `p` that `i` suppresses, if `i` itself is kept. -/
def kept (sup : ℕ → ℕ → Prop) (k0 : ℕ → Prop) : ℕ → ℕ → Prop
  | 0, p => k0 p
  | i + 1, p => kept sup k0 i p ∧ ¬ ((sup i p ∧ i < p) ∧ kept sup k0 i i)

/-- What is kept was there at the start. -/
theorem kept_start {sup k0} : ∀ i p, kept sup k0 i p → k0 p
  | 0, _, h => h
  | i + 1, p, h => kept_start i p h.1

/-- Suppression looks only at what is there at the start. -/
theorem kept_congr {sup sup' : ℕ → ℕ → Prop} {k0 k0' : ℕ → Prop} (h0 : ∀ p, k0 p ↔ k0' p)
    (hs : ∀ i p, k0 i → k0 p → (sup i p ↔ sup' i p)) : ∀ i p, kept sup k0 i p ↔ kept sup' k0' i p
  | 0, p => h0 p
  | i + 1, p => by
    have e := kept_congr h0 hs i
    simp only [kept]
    rw [← e p, ← e i]
    constructor
    · rintro ⟨a, b⟩
      exact ⟨a, fun c => b ⟨⟨(hs i p (kept_start i i c.2) (kept_start i p a)).mpr c.1.1, c.1.2⟩, c.2⟩⟩
    · rintro ⟨a, b⟩
      exact ⟨a, fun c => b ⟨⟨(hs i p (kept_start i i c.2) (kept_start i p a)).mp c.1.1, c.1.2⟩, c.2⟩⟩

end Cert.Proof.Model
-- ==== Proof.KScore0.lean ====
/- The kernel's score call on the first level: what it writes is the masked scores and each row's best. -/
module

public import proofs.«01_k».proof.Proof.Gen.KernelIdeal.Frame
public import proofs.«01_k».proof.Proof.Model
public import Idealize.ShloMosaic.Lib.StableHlo.ReadAt
public import Idealize.ShloMosaic.Lib.Pipeline.ValueKit

@[expose] public section
noncomputable section
/-! What the three score calls leave: a score per box and class, and each box's best score. -/
namespace Cert.Proof.Ker
open Idealize.ShloMosaic Idealize.ShloMosaic.TcCoe Idealize.ShloMosaic.StableHlo Idealize.ShloMosaic.Tactic
open Cert.KernelIdeal Cert.KernelIdeal.Gen
open Cert.Proof.Model

set_option maxRecDepth 100000

variable (V : (c : Dev nD) → (b : Ref sig .tc) → Buf (Elt Ideal) ((c : Thread nD τ).loc b))

/-- Call 0's body at a row and class. -/
theorem pay0 (x0 : Vec Ideal S1x2400x85 .f32) (r : Fin 2400) (l : Fin 80) :
    k0_pay1 x0 (ix2 r l) = score (x0 (ix3 0 r 4)) (x0 (ix3 0 r ⟨5 + l.val, by omega⟩)) := by
  unfold k0_pay1
  pointwise
  rw [gate_word]
  unfold score quarter neg1
  have e : ∀ h, (⟨4 + (1 + l.val), h⟩ : Fin 85) = ⟨5 + l.val, by omega⟩ := fun h => by ext; simp only; omega
  simp only [e]

/-- Call 0's input block is the array at the block's place. -/
theorem blk0 (c : Dev nD) (t : Fin cfg0.grid.N) (y0 : Fin 1) (y1 : Fin 2400) (k : Fin 85) (i0 : Fin 8) (i1 : Fin 19200)
    (h0 : (i0 : ℕ) = win0_0.index t 0 * 1 + y0.val) (h1 : (i1 : ℕ) = win0_0.index t 1 * 2400 + y1.val) :
    iblk0 V c 0 t (ix3 y0 y1 k) = V c main_v0 (ix3 i0 i1 k) := by
  have e1 : ∀ t, win0_0.index t 2 = 0 := by decide +kernel
  unfold iblk0
  blk_simp
  congr 1
  funext a
  apply Fin.ext
  fin_cases a
  · change _ = (i0 : ℕ)
    blk_simp
    simpa using h0.symm
  · change _ = (i1 : ℕ)
    blk_simp
    exact h1.symm
  · change _ = (k : ℕ)
    blk_simp [e1]
    first | done | rfl

/-- Call 0's scores. -/
theorem score0 (c : Dev nD) (G : Vec Ideal S8x19200x80 .f32)
    (hG : G = fun i => score (V c main_v0 (ix3 (i 0) (i 1) 4)) (V c main_v0 (ix3 (i 0) (i 1) ⟨5 + (i 2).val, by have := (i 2).isLt; simp at this; omega⟩))) :
    (dat0 V c).arrAt 1 cfg0.N = G := by
  refine (dat0 V c).arrAt_eq_of_covers 1 _ (by decide +kernel) fun t hf y => ?_
  blk_simp
  rw [after0_1]
  frame_out
  have e0 : ∀ t, win0_0.index t = win0_1.index t := by decide +kernel
  have e1 : ∀ t, win0_1.index t 2 = 0 := by decide +kernel
  obtain ⟨y0, y1, y2, rfl⟩ : ∃ (y0 : Fin 1) (y1 : Fin 2400) (y2 : Fin 80), y = ix3 y0 y1 y2 := ⟨y 0, y 1, y 2, by funext a; fin_cases a <;> rfl⟩
  have hk : k0_pay2 (iblk0 V c 0 t) (ix3 y0 y1 y2) = k0_pay1 (iblk0 V c 0 t) (ix2 y1 y2) := by
    unfold k0_pay2
    exact shapeCast_apply _ _ _ _ (by rw [Shape.rowMajor_val_two, Shape.rowMajor_val_three]; simp [Subsingleton.elim y0 0])
  obtain ⟨i, hi⟩ : ∃ i, i = ((View.whole main_v3_0).slice (win0_1.rect t)).emb (ix3 y0 y1 y2) := ⟨_, rfl⟩
  have g0 : ((i 0 : Fin 8) : ℕ) = win0_0.index t 0 * 1 + y0.val := by rw [hi]; blk_simp [e0]
  have g1 : ((i 1 : Fin 19200) : ℕ) = win0_0.index t 1 * 2400 + y1.val := by rw [hi]; blk_simp [e0]; first | done | rfl
  have g2 : ((i 2 : Fin 80) : ℕ) = y2.val := by rw [hi]; blk_simp [e1]; first | done | rfl
  rw [show G _ = G i from congrArg G hi.symm, hk, pay0, Subsingleton.elim (0 : Fin 1) y0, blk0 V c t y0 y1 _ (i 0) (i 1) g0 g1, blk0 V c t y0 y1 _ (i 0) (i 1) g0 g1, hG]
  simp only [g2]

/-- Call 0's best score of each box. -/
theorem best0 (c : Dev nD) (G : Vec Ideal S8x19200x1 .f32)
    (hG : G = fun i => Finset.fold max (Ideal.ofBits FTy.f32 4286578688#32) (fun l : Fin 80 => score (V c main_v0 (ix3 (i 0) (i 1) 4)) (V c main_v0 (ix3 (i 0) (i 1) ⟨5 + l.val, by omega⟩))) Finset.univ) :
    (dat0 V c).arrAt 2 cfg0.N = G := by
  refine (dat0 V c).arrAt_eq_of_covers 2 _ (by decide +kernel) fun t hf y => ?_
  blk_simp
  rw [after0_2]
  frame_out
  have e0 : ∀ t, win0_0.index t = win0_2.index t := by decide +kernel
  obtain ⟨y0, y1, y2, rfl⟩ : ∃ (y0 : Fin 1) (y1 : Fin 2400) (y2 : Fin 1), y = ix3 y0 y1 y2 := ⟨y 0, y 1, y 2, by funext a; fin_cases a <;> rfl⟩
  obtain rfl : y0 = 0 := Subsingleton.elim _ _
  obtain rfl : y2 = 0 := Subsingleton.elim _ _
  obtain ⟨i, hi⟩ : ∃ i, i = ((View.whole main_v3_1).slice (win0_2.rect t)).emb (ix3 0 y1 0) := ⟨_, rfl⟩
  have g0 : ((i 0 : Fin 8) : ℕ) = win0_0.index t 0 * 1 + (0 : Fin 1).val := by rw [hi]; blk_simp [e0]
  have g1 : ((i 1 : Fin 19200) : ℕ) = win0_0.index t 1 * 2400 + y1.val := by rw [hi]; blk_simp [e0]; first | done | rfl
  rw [show G _ = G i from congrArg G hi.symm]
  have hk : k0_pay3 (iblk0 V c 0 t) (ix3 0 y1 0) = Finset.fold max (Ideal.ofBits FTy.f32 4286578688#32) (fun x : Fin 80 => k0_pay1 (iblk0 V c 0 t) (ix2 y1 x)) Finset.univ := by
    unfold k0_pay3
    pointwise
  rw [hk]
  simp only [pay0]
  simp only [blk0 V c t 0 y1 _ (i 0) (i 1) g0 g1]
  rw [hG]

end Cert.Proof.Ker
-- ==== Proof.KScore1.lean ====
/- The kernel's score call on the second level: what it writes is the masked scores and each row's best. -/
module

public import proofs.«01_k».proof.Proof.Gen.KernelIdeal.Frame
public import proofs.«01_k».proof.Proof.Model
public import Idealize.ShloMosaic.Lib.StableHlo.ReadAt
public import Idealize.ShloMosaic.Lib.Pipeline.ValueKit

@[expose] public section
noncomputable section
/-! What the three score calls leave: a score per box and class, and each box's best score. -/
namespace Cert.Proof.Ker
open Idealize.ShloMosaic Idealize.ShloMosaic.TcCoe Idealize.ShloMosaic.StableHlo Idealize.ShloMosaic.Tactic
open Cert.KernelIdeal Cert.KernelIdeal.Gen
open Cert.Proof.Model

set_option maxRecDepth 100000

variable (V : (c : Dev nD) → (b : Ref sig .tc) → Buf (Elt Ideal) ((c : Thread nD τ).loc b))

/-- Call 1's body at a row and class. -/
theorem pay1 (x0 : Vec Ideal S1x2400x85 .f32) (r : Fin 2400) (l : Fin 80) :
    k1_pay1 x0 (ix2 r l) = score (x0 (ix3 0 r 4)) (x0 (ix3 0 r ⟨5 + l.val, by omega⟩)) := by
  unfold k1_pay1
  pointwise
  rw [gate_word]
  unfold score quarter neg1
  have e : ∀ h, (⟨4 + (1 + l.val), h⟩ : Fin 85) = ⟨5 + l.val, by omega⟩ := fun h => by ext; simp only; omega
  simp only [e]

/-- Call 1's input block is the array at the block's place. -/
theorem blk1 (c : Dev nD) (t : Fin cfg1.grid.N) (y0 : Fin 1) (y1 : Fin 2400) (k : Fin 85) (i0 : Fin 8) (i1 : Fin 4800)
    (h0 : (i0 : ℕ) = win1_0.index t 0 * 1 + y0.val) (h1 : (i1 : ℕ) = win1_0.index t 1 * 2400 + y1.val) :
    iblk1 V c 0 t (ix3 y0 y1 k) = V c main_v1 (ix3 i0 i1 k) := by
  have e1 : ∀ t, win1_0.index t 2 = 0 := by decide +kernel
  unfold iblk1
  blk_simp
  congr 1
  funext a
  apply Fin.ext
  fin_cases a
  · change _ = (i0 : ℕ)
    blk_simp
    simpa using h0.symm
  · change _ = (i1 : ℕ)
    blk_simp
    exact h1.symm
  · change _ = (k : ℕ)
    blk_simp [e1]
    first | done | rfl

/-- Call 1's scores. -/
theorem score1 (c : Dev nD) (G : Vec Ideal S8x4800x80 .f32)
    (hG : G = fun i => score (V c main_v1 (ix3 (i 0) (i 1) 4)) (V c main_v1 (ix3 (i 0) (i 1) ⟨5 + (i 2).val, by have := (i 2).isLt; simp at this; omega⟩))) :
    (dat1 V c).arrAt 1 cfg1.N = G := by
  refine (dat1 V c).arrAt_eq_of_covers 1 _ (by decide +kernel) fun t hf y => ?_
  blk_simp
  rw [after1_1]
  frame_out
  have e0 : ∀ t, win1_0.index t = win1_1.index t := by decide +kernel
  have e1 : ∀ t, win1_1.index t 2 = 0 := by decide +kernel
  obtain ⟨y0, y1, y2, rfl⟩ : ∃ (y0 : Fin 1) (y1 : Fin 2400) (y2 : Fin 80), y = ix3 y0 y1 y2 := ⟨y 0, y 1, y 2, by funext a; fin_cases a <;> rfl⟩
  have hk : k1_pay2 (iblk1 V c 0 t) (ix3 y0 y1 y2) = k1_pay1 (iblk1 V c 0 t) (ix2 y1 y2) := by
    unfold k1_pay2
    exact shapeCast_apply _ _ _ _ (by rw [Shape.rowMajor_val_two, Shape.rowMajor_val_three]; simp [Subsingleton.elim y0 0])
  obtain ⟨i, hi⟩ : ∃ i, i = ((View.whole main_v4_0).slice (win1_1.rect t)).emb (ix3 y0 y1 y2) := ⟨_, rfl⟩
  have g0 : ((i 0 : Fin 8) : ℕ) = win1_0.index t 0 * 1 + y0.val := by rw [hi]; blk_simp [e0]
  have g1 : ((i 1 : Fin 4800) : ℕ) = win1_0.index t 1 * 2400 + y1.val := by rw [hi]; blk_simp [e0]; first | done | rfl
  have g2 : ((i 2 : Fin 80) : ℕ) = y2.val := by rw [hi]; blk_simp [e1]; first | done | rfl
  rw [show G _ = G i from congrArg G hi.symm, hk, pay1, Subsingleton.elim (0 : Fin 1) y0, blk1 V c t y0 y1 _ (i 0) (i 1) g0 g1, blk1 V c t y0 y1 _ (i 0) (i 1) g0 g1, hG]
  simp only [g2]

/-- Call 1's best score of each box. -/
theorem best1 (c : Dev nD) (G : Vec Ideal S8x4800x1 .f32)
    (hG : G = fun i => Finset.fold max (Ideal.ofBits FTy.f32 4286578688#32) (fun l : Fin 80 => score (V c main_v1 (ix3 (i 0) (i 1) 4)) (V c main_v1 (ix3 (i 0) (i 1) ⟨5 + l.val, by omega⟩))) Finset.univ) :
    (dat1 V c).arrAt 2 cfg1.N = G := by
  refine (dat1 V c).arrAt_eq_of_covers 2 _ (by decide +kernel) fun t hf y => ?_
  blk_simp
  rw [after1_2]
  frame_out
  have e0 : ∀ t, win1_0.index t = win1_2.index t := by decide +kernel
  obtain ⟨y0, y1, y2, rfl⟩ : ∃ (y0 : Fin 1) (y1 : Fin 2400) (y2 : Fin 1), y = ix3 y0 y1 y2 := ⟨y 0, y 1, y 2, by funext a; fin_cases a <;> rfl⟩
  obtain rfl : y0 = 0 := Subsingleton.elim _ _
  obtain rfl : y2 = 0 := Subsingleton.elim _ _
  obtain ⟨i, hi⟩ : ∃ i, i = ((View.whole main_v4_1).slice (win1_2.rect t)).emb (ix3 0 y1 0) := ⟨_, rfl⟩
  have g0 : ((i 0 : Fin 8) : ℕ) = win1_0.index t 0 * 1 + (0 : Fin 1).val := by rw [hi]; blk_simp [e0]
  have g1 : ((i 1 : Fin 4800) : ℕ) = win1_0.index t 1 * 2400 + y1.val := by rw [hi]; blk_simp [e0]; first | done | rfl
  rw [show G _ = G i from congrArg G hi.symm]
  have hk : k1_pay3 (iblk1 V c 0 t) (ix3 0 y1 0) = Finset.fold max (Ideal.ofBits FTy.f32 4286578688#32) (fun x : Fin 80 => k1_pay1 (iblk1 V c 0 t) (ix2 y1 x)) Finset.univ := by
    unfold k1_pay3
    pointwise
  rw [hk]
  simp only [pay1]
  simp only [blk1 V c t 0 y1 _ (i 0) (i 1) g0 g1]
  rw [hG]

end Cert.Proof.Ker
-- ==== Proof.KScore2.lean ====
/- The kernel's score call on the third level: what it writes is the masked scores and each row's best. -/
module

public import proofs.«01_k».proof.Proof.Gen.KernelIdeal.Frame
public import proofs.«01_k».proof.Proof.Model
public import Idealize.ShloMosaic.Lib.StableHlo.ReadAt
public import Idealize.ShloMosaic.Lib.Pipeline.ValueKit

@[expose] public section
noncomputable section
/-! What the three score calls leave: a score per box and class, and each box's best score. -/
namespace Cert.Proof.Ker
open Idealize.ShloMosaic Idealize.ShloMosaic.TcCoe Idealize.ShloMosaic.StableHlo Idealize.ShloMosaic.Tactic
open Cert.KernelIdeal Cert.KernelIdeal.Gen
open Cert.Proof.Model

set_option maxRecDepth 100000

variable (V : (c : Dev nD) → (b : Ref sig .tc) → Buf (Elt Ideal) ((c : Thread nD τ).loc b))

/-- Call 2's body at a row and class. -/
theorem pay2 (x0 : Vec Ideal S1x1200x85 .f32) (r : Fin 1200) (l : Fin 80) :
    k2_pay1 x0 (ix2 r l) = score (x0 (ix3 0 r 4)) (x0 (ix3 0 r ⟨5 + l.val, by omega⟩)) := by
  unfold k2_pay1
  pointwise
  rw [gate_word]
  unfold score quarter neg1
  have e : ∀ h, (⟨4 + (1 + l.val), h⟩ : Fin 85) = ⟨5 + l.val, by omega⟩ := fun h => by ext; simp only; omega
  simp only [e]

/-- Call 2's input block is the array at the block's place. -/
theorem blk2 (c : Dev nD) (t : Fin cfg2.grid.N) (y0 : Fin 1) (y1 : Fin 1200) (k : Fin 85) (i0 : Fin 8) (i1 : Fin 1200)
    (h0 : (i0 : ℕ) = win2_0.index t 0 * 1 + y0.val) (h1 : (i1 : ℕ) = win2_0.index t 1 * 1200 + y1.val) :
    iblk2 V c 0 t (ix3 y0 y1 k) = V c main_v2 (ix3 i0 i1 k) := by
  have e1 : ∀ t, win2_0.index t 2 = 0 := by decide +kernel
  unfold iblk2
  blk_simp
  congr 1
  funext a
  apply Fin.ext
  fin_cases a
  · change _ = (i0 : ℕ)
    blk_simp
    simpa using h0.symm
  · change _ = (i1 : ℕ)
    blk_simp
    exact h1.symm
  · change _ = (k : ℕ)
    blk_simp [e1]
    first | done | rfl

/-- Call 2's scores. -/
theorem score2 (c : Dev nD) (G : Vec Ideal S8x1200x80 .f32)
    (hG : G = fun i => score (V c main_v2 (ix3 (i 0) (i 1) 4)) (V c main_v2 (ix3 (i 0) (i 1) ⟨5 + (i 2).val, by have := (i 2).isLt; simp at this; omega⟩))) :
    (dat2 V c).arrAt 1 cfg2.N = G := by
  refine (dat2 V c).arrAt_eq_of_covers 1 _ (by decide +kernel) fun t hf y => ?_
  blk_simp
  rw [after2_1]
  frame_out
  have e0 : ∀ t, win2_0.index t = win2_1.index t := by decide +kernel
  have e1 : ∀ t, win2_1.index t 2 = 0 := by decide +kernel
  obtain ⟨y0, y1, y2, rfl⟩ : ∃ (y0 : Fin 1) (y1 : Fin 1200) (y2 : Fin 80), y = ix3 y0 y1 y2 := ⟨y 0, y 1, y 2, by funext a; fin_cases a <;> rfl⟩
  have hk : k2_pay2 (iblk2 V c 0 t) (ix3 y0 y1 y2) = k2_pay1 (iblk2 V c 0 t) (ix2 y1 y2) := by
    unfold k2_pay2
    exact shapeCast_apply _ _ _ _ (by rw [Shape.rowMajor_val_two, Shape.rowMajor_val_three]; simp [Subsingleton.elim y0 0])
  obtain ⟨i, hi⟩ : ∃ i, i = ((View.whole main_v5_0).slice (win2_1.rect t)).emb (ix3 y0 y1 y2) := ⟨_, rfl⟩
  have g0 : ((i 0 : Fin 8) : ℕ) = win2_0.index t 0 * 1 + y0.val := by rw [hi]; blk_simp [e0]
  have g1 : ((i 1 : Fin 1200) : ℕ) = win2_0.index t 1 * 1200 + y1.val := by rw [hi]; blk_simp [e0]; first | done | rfl
  have g2 : ((i 2 : Fin 80) : ℕ) = y2.val := by rw [hi]; blk_simp [e1]; first | done | rfl
  rw [show G _ = G i from congrArg G hi.symm, hk, pay2, Subsingleton.elim (0 : Fin 1) y0, blk2 V c t y0 y1 _ (i 0) (i 1) g0 g1, blk2 V c t y0 y1 _ (i 0) (i 1) g0 g1, hG]
  simp only [g2]

/-- Call 2's best score of each box. -/
theorem best2 (c : Dev nD) (G : Vec Ideal S8x1200x1 .f32)
    (hG : G = fun i => Finset.fold max (Ideal.ofBits FTy.f32 4286578688#32) (fun l : Fin 80 => score (V c main_v2 (ix3 (i 0) (i 1) 4)) (V c main_v2 (ix3 (i 0) (i 1) ⟨5 + l.val, by omega⟩))) Finset.univ) :
    (dat2 V c).arrAt 2 cfg2.N = G := by
  refine (dat2 V c).arrAt_eq_of_covers 2 _ (by decide +kernel) fun t hf y => ?_
  blk_simp
  rw [after2_2]
  frame_out
  have e0 : ∀ t, win2_0.index t = win2_2.index t := by decide +kernel
  obtain ⟨y0, y1, y2, rfl⟩ : ∃ (y0 : Fin 1) (y1 : Fin 1200) (y2 : Fin 1), y = ix3 y0 y1 y2 := ⟨y 0, y 1, y 2, by funext a; fin_cases a <;> rfl⟩
  obtain rfl : y0 = 0 := Subsingleton.elim _ _
  obtain rfl : y2 = 0 := Subsingleton.elim _ _
  obtain ⟨i, hi⟩ : ∃ i, i = ((View.whole main_v5_1).slice (win2_2.rect t)).emb (ix3 0 y1 0) := ⟨_, rfl⟩
  have g0 : ((i 0 : Fin 8) : ℕ) = win2_0.index t 0 * 1 + (0 : Fin 1).val := by rw [hi]; blk_simp [e0]
  have g1 : ((i 1 : Fin 1200) : ℕ) = win2_0.index t 1 * 1200 + y1.val := by rw [hi]; blk_simp [e0]; first | done | rfl
  rw [show G _ = G i from congrArg G hi.symm]
  have hk : k2_pay3 (iblk2 V c 0 t) (ix3 0 y1 0) = Finset.fold max (Ideal.ofBits FTy.f32 4286578688#32) (fun x : Fin 80 => k2_pay1 (iblk2 V c 0 t) (ix2 y1 x)) Finset.univ := by
    unfold k2_pay3
    pointwise
  rw [hk]
  simp only [pay2]
  simp only [blk2 V c t 0 y1 _ (i 0) (i 1) g0 g1]
  rw [hG]

end Cert.Proof.Ker
-- ==== Proof.Box.lean ====
/- A box's corners from its raw coordinates, in both programs' forms. -/
module

public import proofs.«01_k».proof.Proof.Model

@[expose] public section
noncomputable section
/-! The corners of a box from its place among the 25200 and its four raw coordinates. -/
namespace Cert.Proof.Model
open Idealize.ShloMosaic

/-- A choice by the level (80x80, 40x40 or 20x20 cells) that box `J` lies in. -/
def lvl {α : Type} (J : ℕ) (p q r : α) : α := if 24000 ≤ J then r else if 19200 ≤ J then q else p
/-- A choice by the anchor, 0, 1 or 2. -/
def three {α : Type} (a : ℕ) (p q r : α) : α := if a = 0 then p else if a = 1 then q else r
/-- The place of box `J` within its level. -/
def rel (J : ℕ) : ℕ := J - lvl J 0 19200 24000
/-- The cell's column. -/
def gx (J : ℕ) : ℕ := rel J / 3 % lvl J 80 40 20
/-- The cell's row. -/
def gy (J : ℕ) : ℕ := rel J / lvl J 240 120 60
/-- The cell's side in pixels. -/
def side (J : ℕ) : EReal := lvl J (Ideal.ofBits .f32 0x41000000#32) (Ideal.ofBits .f32 0x41800000#32) (Ideal.ofBits .f32 0x42000000#32)
/-- The anchor's width. -/
def aw (J : ℕ) : EReal :=
  lvl J (three (rel J % 3) (Ideal.ofBits .f32 0x41200000#32) (Ideal.ofBits .f32 0x41800000#32) (Ideal.ofBits .f32 0x42040000#32))
    (three (rel J % 3) (Ideal.ofBits .f32 0x41F00000#32) (Ideal.ofBits .f32 0x42780000#32) (Ideal.ofBits .f32 0x426C0000#32))
    (three (rel J % 3) (Ideal.ofBits .f32 0x42E80000#32) (Ideal.ofBits .f32 0x431C0000#32) (Ideal.ofBits .f32 0x43BA8000#32))
/-- The anchor's height. -/
def ah (J : ℕ) : EReal :=
  lvl J (three (rel J % 3) (Ideal.ofBits .f32 0x41500000#32) (Ideal.ofBits .f32 0x41F00000#32) (Ideal.ofBits .f32 0x41B80000#32))
    (three (rel J % 3) (Ideal.ofBits .f32 0x42740000#32) (Ideal.ofBits .f32 0x42340000#32) (Ideal.ofBits .f32 0x42EE0000#32))
    (three (rel J % 3) (Ideal.ofBits .f32 0x42B40000#32) (Ideal.ofBits .f32 0x43460000#32) (Ideal.ofBits .f32 0x43A30000#32))
/-- One half. -/
def half : EReal := Ideal.ofBits .f32 1056964608#32
/-- A centre's coordinate from its raw value, the cell and the cell's side. -/
def centre (s : EReal) (g : ℕ) (d : EReal) : EReal :=
  (Ideal.ofBits .f32 1073741824#32 * Ideal.logistic s - half + ((g : ℝ) : EReal)) * d
/-- A side's length from its raw value and the anchor's. -/
def extent (s : EReal) (a : EReal) : EReal :=
  Ideal.ofBits .f32 1082130432#32 * (Ideal.logistic s * Ideal.logistic s) * a
/-- The picture's bounds. -/
def clip (x : EReal) : EReal := min (Ideal.ofBits .f32 1142947840#32) (max 0 x)
/-- A clipped lower corner. -/
def low (c w : EReal) : EReal := clip (c - w * half)
/-- A clipped upper corner. -/
def high (c w : EReal) : EReal := clip (c + w * half)
/-- The four clipped corners of box `J`. -/
def corner (t : Fin 4 → EReal) (J : ℕ) (q : Fin 4) : EReal :=
  if q.val = 0 then low (centre (t 0) (gx J) (side J)) (extent (t 2) (aw J))
  else if q.val = 1 then low (centre (t 1) (gy J) (side J)) (extent (t 3) (ah J))
  else if q.val = 2 then high (centre (t 0) (gx J) (side J)) (extent (t 2) (aw J))
  else high (centre (t 1) (gy J) (side J)) (extent (t 3) (ah J))

end Cert.Proof.Model
-- ==== Proof.KBox.lean ====
/- The kernel's box call: what it writes is the boxes' corners. -/
module

public import proofs.«01_k».proof.Proof.Gen.KernelIdeal.Frame
public import proofs.«01_k».proof.Proof.Box
public import Idealize.ShloMosaic.Lib.Routing.Words
public import Idealize.ShloMosaic.Lib.StableHlo.ReadAt
public import Idealize.ShloMosaic.Lib.Pipeline.ValueKit

@[expose] public section
noncomputable section
/-! What the box call leaves: the four clipped corners of each box. -/
namespace Cert.Proof.Ker
open Idealize.ShloMosaic Idealize.ShloMosaic.TcCoe Idealize.ShloMosaic.StableHlo Idealize.ShloMosaic.Tactic
open Cert.KernelIdeal Cert.KernelIdeal.Gen
open Cert.Proof.Model
open Idealize.ShloMosaic.WordCmp Idealize.ShloMosaic.Routing

set_option maxRecDepth 100000

/-- A branch on a decided bit. -/
theorem pick {α : Type} (p : Prop) [Decidable p] (a b : α) : Scalar.select (BitVec.ofBool (decide p)) a b = if p then a else b := by
  by_cases h : p <;> simp [Scalar.select, h]

/-- Floor division as the body spells it, on small words. -/
theorem floor_word (a b : ℕ) (ha : a < 2 ^ 31) (h0 : 0 < b) (hb : b < 2 ^ 31) :
    Scalar.select
        (IntOp.andi
          (IntOp.cmpi CmpIPredicate.ne
            (IntOp.subi (BitVec.setWidth 32 (IntOp.cmpi CmpIPredicate.sgt (BitVec.ofNat 32 a) 0#32))
              (BitVec.setWidth 32 (IntOp.cmpi CmpIPredicate.slt (BitVec.ofNat 32 a) 0#32)))
            (Scalar.subi (Scalar.extui (Scalar.cmpi CmpIPredicate.sgt (BitVec.ofNat 32 b) 0#32))
              (Scalar.extui (Scalar.cmpi CmpIPredicate.slt (BitVec.ofNat 32 b) 0#32))))
          (IntOp.cmpi CmpIPredicate.ne (IntOp.remsi ArithUnit.vector (BitVec.ofNat 32 a) (BitVec.ofNat 32 b)) 0#32))
        (IntOp.subi (IntOp.divsi ArithUnit.vector (BitVec.ofNat 32 a) (BitVec.ofNat 32 b)) 1#32)
        (IntOp.divsi ArithUnit.vector (BitVec.ofNat 32 a) (BitVec.ofNat 32 b)) = BitVec.ofNat 32 (a / b) := by
  rw [divsi_word _ ha h0 hb, remsi_word _ ha h0 hb]
  unfold Scalar.cmpi
  rw [show (0#32 : BitVec 32) = BitVec.ofNat 32 0 from rfl, cmpi_sgt_ofNat (w := 32) ha (by decide), cmpi_slt_ofNat (w := 32) ha (by decide),
    cmpi_sgt_ofNat (w := 32) hb (by decide), cmpi_slt_ofNat (w := 32) hb (by decide)]
  rcases Nat.eq_zero_or_pos a with h | h
  · subst h
    simp [h0, IntOp.andi, IntOp.cmpi, Scalar.select]
  · simp [h0, h, IntOp.andi, IntOp.cmpi, Scalar.select, Scalar.extui, Scalar.subi, IntOp.subi]

/-- The remainder as the body spells it, on small words. -/
theorem mod_word (a b : ℕ) (ha : a < 2 ^ 31) (h0 : 0 < b) (hb : b < 2 ^ 31) :
    Scalar.select
        (IntOp.andi
          (IntOp.xori
            (IntOp.cmpi CmpIPredicate.slt
              (IntOp.remsi ArithUnit.vector (BitVec.ofNat 32 a)
                (Scalar.select (Scalar.cmpi CmpIPredicate.eq (BitVec.ofNat 32 b) 0#32) 1#32 (BitVec.ofNat 32 b)))
              0#32)
            (Scalar.cmpi CmpIPredicate.slt (Scalar.select (Scalar.cmpi CmpIPredicate.eq (BitVec.ofNat 32 b) 0#32) 1#32 (BitVec.ofNat 32 b)) 0#32))
          (IntOp.cmpi CmpIPredicate.ne
            (IntOp.remsi ArithUnit.vector (BitVec.ofNat 32 a)
              (Scalar.select (Scalar.cmpi CmpIPredicate.eq (BitVec.ofNat 32 b) 0#32) 1#32 (BitVec.ofNat 32 b)))
            0#32))
        (IntOp.addi
          (IntOp.remsi ArithUnit.vector (BitVec.ofNat 32 a)
            (Scalar.select (Scalar.cmpi CmpIPredicate.eq (BitVec.ofNat 32 b) 0#32) 1#32 (BitVec.ofNat 32 b)))
          (Scalar.select (Scalar.cmpi CmpIPredicate.eq (BitVec.ofNat 32 b) 0#32) 1#32 (BitVec.ofNat 32 b)))
        (IntOp.remsi ArithUnit.vector (BitVec.ofNat 32 a)
          (Scalar.select (Scalar.cmpi CmpIPredicate.eq (BitVec.ofNat 32 b) 0#32) 1#32 (BitVec.ofNat 32 b))) = BitVec.ofNat 32 (a % b) := by
  unfold Scalar.cmpi
  rw [show (0#32 : BitVec 32) = BitVec.ofNat 32 0 from rfl, cmpi_eq_ofNat (w := 32) (by omega) (by decide), pick, if_neg (by omega)]
  have hm : a % b < 2 ^ 31 := lt_of_le_of_lt (Nat.mod_le a b) ha
  rw [remsi_word _ ha h0 hb, cmpi_slt_ofNat (w := 32) hm (by decide), cmpi_slt_ofNat (w := 32) hb (by decide)]
  simp [IntOp.andi, IntOp.xori, Scalar.select]

variable (x : Vec Ideal S1x4x25200 .f32) (J : Fin 25200)

/-- The bit of the second level. -/
theorem v36 : k3_pay36 x (ix2 0 J) = BitVec.ofBool (decide (19200 ≤ J.val)) := by
  unfold k3_pay36 k3_pay3
  pointwise
  rw [show (19200#32 : BitVec 32) = BitVec.ofNat 32 19200 from rfl, cmpi_sge_ofNat (w := 32) (by omega) (by decide)]

/-- The bit of the third level. -/
theorem v37 : k3_pay37 x (ix2 0 J) = BitVec.ofBool (decide (24000 ≤ J.val)) := by
  unfold k3_pay37 k3_pay4
  pointwise
  rw [show (24000#32 : BitVec 32) = BitVec.ofNat 32 24000 from rfl, cmpi_sge_ofNat (w := 32) (by omega) (by decide)]

/-- A choice by the two bits is a choice by level. -/
theorem pick_lvl {α : Type} (p q r : α) : Scalar.select (k3_pay37 x (ix2 0 J)) r (Scalar.select (k3_pay36 x (ix2 0 J)) q p) = lvl J.val p q r := by
  rw [v36, v37, pick, pick]; rfl

/-- The place within the level. -/
theorem v38 : k3_pay38 x (ix2 0 J) = BitVec.ofNat 32 (rel J.val) := by
  unfold k3_pay38 k3_pay5
  pointwise
  have := pick_lvl x J 0#32 19200#32 24000#32
  unfold k3_pay36 k3_pay37 at this
  rw [this]
  unfold rel lvl
  split_ifs <;> (apply BitVec.eq_of_toNat_eq; simp [IntOp.subi, BitVec.toNat_sub]; try omega)

/-- A level's own box number is a small number. -/
theorem rel_lt : rel J.val < 2 ^ 31 := by unfold rel; omega

/-- The cell's number. -/
theorem v40 : k3_pay40 x (ix2 0 J) = BitVec.ofNat 32 (rel J.val / 3) := by
  unfold k3_pay40 k3_pay11 k3_pay39 k3_pay10
  pointwise
  rw [v38]
  exact floor_word _ 3 (rel_lt J) (by decide) (by decide)

/-- The cell's column. -/
theorem v41 : k3_pay41 x (ix2 0 J) = BitVec.ofNat 32 (gx J.val) := by
  unfold k3_pay41 k3_pay15 k3_pay12 k3_pay13 k3_pay14
  pointwise
  have h : k3_pay11 (k3_pay38 x) (3#32) (k3_pay39 x) (ix2 0 J) = BitVec.ofNat 32 (rel J.val / 3) := v40 x J
  have hr := rel_lt J
  rw [h, v40]
  rw [show (20#32 : BitVec 32) = BitVec.ofNat 32 20 from rfl, show (40#32 : BitVec 32) = BitVec.ofNat 32 40 from rfl,
    show (80#32 : BitVec 32) = BitVec.ofNat 32 80 from rfl]
  rw [mod_word _ 20 (by omega) (by decide) (by decide), mod_word _ 40 (by omega) (by decide) (by decide), mod_word _ 80 (by omega) (by decide) (by decide), pick_lvl]
  unfold gx lvl
  split_ifs <;> rfl

/-- The cell's row. -/
theorem v9 : k3_pay9 (k3_pay36 x) (k3_pay37 x) (k3_pay38 x) k3_pay6 (120#32) k3_pay7 k3_pay8 (ix2 0 J) = BitVec.ofNat 32 (gy J.val) := by
  unfold k3_pay9 k3_pay6 k3_pay7 k3_pay8
  pointwise
  have h : k3_pay5 (ix2 0 J) = BitVec.ofNat 32 (rel J.val) := v38 x J
  have hr := rel_lt J
  rw [h, v38]
  rw [show (60#32 : BitVec 32) = BitVec.ofNat 32 60 from rfl, show (120#32 : BitVec 32) = BitVec.ofNat 32 120 from rfl,
    show (240#32 : BitVec 32) = BitVec.ofNat 32 240 from rfl]
  rw [floor_word _ 60 (by omega) (by decide) (by decide), floor_word _ 120 (by omega) (by decide) (by decide), floor_word _ 240 (by omega) (by decide) (by decide), pick_lvl]
  unfold gy lvl
  split_ifs <;> rfl

/-- The anchor. -/
theorem v42 : k3_pay42 x (ix2 0 J) = BitVec.ofNat 32 (rel J.val % 3) := by
  unfold k3_pay42 k3_pay16
  pointwise
  rw [v40, v38]
  have hr := rel_lt J
  have : rel J.val < 25200 := by unfold rel; omega
  apply BitVec.eq_of_toNat_eq
  simp [IntOp.subi, IntOp.muli, BitVec.toNat_sub, BitVec.toNat_mul]
  omega

/-- A choice by the anchor's word. -/
theorem pick_three {α : Type} (p q r : α) :
    Scalar.select (IntOp.cmpi CmpIPredicate.eq (k3_pay42 x (ix2 0 J)) 0#32) p (Scalar.select (IntOp.cmpi CmpIPredicate.eq (k3_pay42 x (ix2 0 J)) 1#32) q r)
      = three (rel J.val % 3) p q r := by
  rw [v42, show (0#32 : BitVec 32) = BitVec.ofNat 32 0 from rfl, show (1#32 : BitVec 32) = BitVec.ofNat 32 1 from rfl,
    cmpi_eq_ofNat (w := 32) (by omega) (by decide), cmpi_eq_ofNat (w := 32) (by omega) (by decide), pick, pick]
  rfl

/-- The side. -/
theorem v43 : k3_pay43 x (ix2 0 J) = side J.val := by
  unfold k3_pay43 k3_pay17
  pointwise
  rw [pick_lvl]; rfl

/-- The anchor's width. -/
theorem v44 : k3_pay44 x (ix2 0 J) = aw J.val := by
  unfold k3_pay44 k3_pay20 k3_pay19 k3_pay18
  pointwise
  have h (p q r : EReal) := pick_three x J p q r
  have h' := h
  unfold k3_pay42 at h'
  rw [h', h, h, pick_lvl]; rfl

/-- The logistic of a raw coordinate. -/
theorem v35 (q : Fin 4) : k3_pay35 x (ix2 q J) = Ideal.logistic (x (ix3 0 q J)) := by
  unfold k3_pay35 k3_pay2
  pointwise

/-- A small word as a number. -/
theorem word_real (n : ℕ) (h : n < 2 ^ 31) : (FloatOps.sitofp (F := Ideal) FTy.f32 (BitVec.ofNat 32 n) : EReal) = ((n : ℝ) : EReal) := by
  have h1 : (BitVec.ofNat 32 n).toNat = n := by rw [BitVec.toNat_ofNat]; omega
  have e1 : (BitVec.ofNat 32 n).toInt = n := by rw [BitVec.toInt_eq_toNat_of_lt (by omega), h1]
  show (((BitVec.ofNat 32 n).toInt : ℝ) : EReal) = _
  rw [e1]; norm_cast

/-- A column number is a small number. -/
theorem gx_lt : gx J.val < 2 ^ 31 := lt_of_le_of_lt (Nat.mod_le _ _) (lt_of_le_of_lt (Nat.div_le_self _ _) (rel_lt J))
/-- A row number is a small number. -/
theorem gy_lt : gy J.val < 2 ^ 31 := lt_of_le_of_lt (Nat.div_le_self _ _) (rel_lt J)

/-- The centre's row coordinate. -/
theorem v45 : k3_pay45 x (ix2 0 J) = centre (x (ix3 0 1 J)) (gy J.val) (side J.val) := by
  rw [← v43 x J]
  unfold k3_pay45 k3_pay26
  pointwise
  rw [v9, v35, word_real _ (gy_lt J)]; rfl

/-- The box's height. -/
theorem v46 : k3_pay46 x (ix2 0 J) = extent (x (ix3 0 3 J)) (ah J.val) := by
  unfold k3_pay46 k3_pay28 k3_pay21 k3_pay22 k3_pay23 k3_pay24
  pointwise
  rw [pick_three, pick_three, pick_three, pick_lvl, v35]; rfl

/-- The first stored row. -/
theorem row0 : k3_pay31 (k3_pay29 (k3_pay35 x) (k3_pay41 x) (k3_pay43 x) (k3_pay44 x)) (k3_pay30 (F := Ideal)) (ix3 0 0 J)
    = corner (fun q => x (ix3 0 q J)) J.val 0 := by
  unfold k3_pay31 k3_pay29 k3_pay30 k3_pay25 k3_pay27
  pointwise
  rw [v35, v35, v41, v43, v44, word_real _ (gx_lt J)]; rfl

/-- The second stored row. -/
theorem row1 : k3_pay32 (k3_pay45 x) (k3_pay46 x) (ix3 0 0 J) = corner (fun q => x (ix3 0 q J)) J.val 1 := by
  unfold k3_pay32
  pointwise
  rw [v45, v46]; rfl

/-- The third stored row. -/
theorem row2 : k3_pay33 (k3_pay25 (k3_pay35 x) (k3_pay41 x) (k3_pay43 x)) (k3_pay27 (k3_pay35 x) (k3_pay44 x)) (ix3 0 0 J)
    = corner (fun q => x (ix3 0 q J)) J.val 2 := by
  unfold k3_pay33 k3_pay25 k3_pay27
  pointwise
  rw [v35, v35, v41, v43, v44, word_real _ (gx_lt J)]; rfl

/-- The fourth stored row. -/
theorem row3 : k3_pay1 (k3_pay34 (k3_pay45 x) (k3_pay46 x)) (ix3 0 0 J) = corner (fun q => x (ix3 0 q J)) J.val 3 := by
  unfold k3_pay34 k3_pay1
  pointwise
  rw [v45, v46]; rfl

variable (V : (c : Dev nD) → (b : Ref sig .tc) → Buf (Elt Ideal) ((c : Thread nD τ).loc b))

/-- The call's input block is the array at the image. -/
theorem blk3 (c : Dev nD) (t : Fin cfg3.grid.N) (y0 : Fin 1) (q : Fin 4) (k : Fin 25200) (i0 : Fin 8) (h0 : (i0 : ℕ) = win3_0.index t 0 * 1 + y0.val) :
    iblk3 V c 0 t (ix3 y0 q k) = V c main_v10 (ix3 i0 q k) := by
  have e1 : ∀ t, win3_0.index t 1 = 0 := by decide +kernel
  have e2 : ∀ t, win3_0.index t 2 = 0 := by decide +kernel
  unfold iblk3
  blk_simp
  congr 1
  funext a
  apply Fin.ext
  fin_cases a
  · change _ = (i0 : ℕ)
    blk_simp
    simpa using h0.symm
  · change _ = (q : ℕ)
    blk_simp [e1]
    first | done | rfl
  · change _ = (k : ℕ)
    blk_simp [e2]
    first | done | rfl

/-- The body's block at a row and a box. -/
theorem block3 (y0 : Fin 1) (q : Fin 4) : out3_1 x (ix3 y0 q J) = corner (fun q => x (ix3 0 q J)) J.val q := by
  obtain rfl : y0 = 0 := Subsingleton.elim _ _
  unfold out3_1
  refine View.canon_eq_of_allAt _ _ _ (View.cover_of_tiled_head _ _ _ (by rfl) _) ?_
  have key : ∀ (o : ℕ) (ho : o < 4) (w : Vec Ideal S1x1x25200 .f32) (hw : w (ix3 0 0 J) = corner (fun q => x (ix3 0 q J)) J.val ⟨o, ho⟩),
      View.TileAt (S := S1x4x25200) (Val := Elt Ideal) (e := .f32) (ix3 0 q J) ![0, o, 0] S1x1x25200.size w (corner (fun q => x (ix3 0 q J)) J.val q) := by
    intro o ho w hw z hz
    have h1 := hz 1
    have h2 := hz 2
    obtain ⟨z0, z1, z2, rfl⟩ : ∃ (z0 : Fin 1) (z1 : Fin 1) (z2 : Fin 25200), z = ix3 z0 z1 z2 := ⟨z 0, z 1, z 2, by funext a; fin_cases a <;> rfl⟩
    obtain rfl : z0 = 0 := Subsingleton.elim _ _
    obtain rfl : z1 = 0 := Subsingleton.elim _ _
    have e2 : J = z2 := Fin.ext (by simpa using h2)
    have e1 : q = ⟨o, ho⟩ := Fin.ext (by simpa using h1)
    subst e2 e1
    exact hw
  refine View.allAt_cons_unit _ _ _ _ _ (key 3 (by decide) _ (row3 x J)) ?_
  refine View.allAt_cons_unit _ _ _ _ _ (key 2 (by decide) _ (row2 x J)) ?_
  refine View.allAt_cons_unit _ _ _ _ _ (key 1 (by decide) _ (row1 x J)) ?_
  refine View.allAt_cons_unit _ _ _ _ _ (key 0 (by decide) _ (row0 x J)) ?_
  exact View.allAt_nil _ _

/-- The call's result: the clipped corners. -/
theorem box_arr (c : Dev nD) (G : Vec Ideal S8x4x25200 .f32)
    (hG : ∀ b q J, G (ix3 b q J) = corner (fun q => V c main_v10 (ix3 b q J)) J.val q) :
    (dat3 V c).arrAt 1 cfg3.N = G := by
  refine (dat3 V c).arrAt_eq_of_covers 1 _ (by decide +kernel) fun t hf y => ?_
  blk_simp
  rw [after3_1]
  have e0 : ∀ t, win3_0.index t = win3_1.index t := by decide +kernel
  have e1 : ∀ t, win3_1.index t 1 = 0 := by decide +kernel
  have e2 : ∀ t, win3_1.index t 2 = 0 := by decide +kernel
  obtain ⟨y0, y1, y2, rfl⟩ : ∃ (y0 : Fin 1) (y1 : Fin 4) (y2 : Fin 25200), y = ix3 y0 y1 y2 := ⟨y 0, y 1, y 2, by funext a; fin_cases a <;> rfl⟩
  obtain ⟨i, hi⟩ : ∃ i, i = ((View.whole main_v11).slice (win3_1.rect t)).emb (ix3 y0 y1 y2) := ⟨_, rfl⟩
  have g0 : ((i 0 : Fin 8) : ℕ) = win3_0.index t 0 * 1 + y0.val := by rw [hi]; blk_simp [e0]
  have g1 : ((i 1 : Fin 4) : ℕ) = y1.val := by rw [hi]; blk_simp [e1]; first | done | rfl
  have g2 : ((i 2 : Fin 25200) : ℕ) = y2.val := by rw [hi]; blk_simp [e2]; first | done | rfl
  rw [show G _ = G i from congrArg G hi.symm]
  obtain ⟨i0, i1, i2, rfl⟩ : ∃ (i0 : Fin 8) (i1 : Fin 4) (i2 : Fin 25200), i = ix3 i0 i1 i2 := ⟨i 0, i 1, i 2, by funext a; fin_cases a <;> rfl⟩
  have g1' : i1 = y1 := Fin.ext g1
  have g2' : i2 = y2 := Fin.ext g2
  subst g1' g2'
  obtain rfl : y0 = 0 := Subsingleton.elim _ _
  refine (block3 _ _ _ _).trans ?_
  rw [hG]
  simp only [blk3 V c t 0 _ _ i0 g0]

end Cert.Proof.Ker
-- ==== Proof.Select.lean ====
/- Stable sorts and the best thousand: two ways of picking agree where no tie is cut. -/
module

public import proofs.«01_k».proof.Proof.Model
public import Idealize.ShloMosaic.Lib.SortFacts

@[expose] public section
noncomputable section
/-! Picking the best scores directly, and picking them box by box first, give the same scores in the same order. -/
namespace Cert.Proof.Select
open Idealize.ShloMosaic
open Cert.Proof.Model

/-- `e` lists the positions by descending `F`. -/
def Best {n : ℕ} (F : Fin n → EReal) (e : Fin n → Fin n) : Prop :=
  Function.Injective e ∧ ∀ i j, i < j → F (e j) ≤ F (e i)

/-- Position `a` stands strictly before position `b`: greater, or equal and earlier. -/
def Before {n : ℕ} (F : Fin n → EReal) (a b : Fin n) : Prop := F b < F a ∨ (F a = F b ∧ a < b)

/-- A stable sort by descending `F` is a sort by `Before`. -/
theorem stable_eq {n : ℕ} (F : Fin n → EReal) (l : List (Fin n)) (hl : l.Pairwise (· < ·)) :
    stableSort (fun a b => decide (F b < F a)) l = @stableSort (Fin n) (fun a b => @decide (Before F a b) (Classical.dec _)) l := by
  induction l with
  | nil => rfl
  | cons a l ih =>
    obtain ⟨ha, hl'⟩ := List.pairwise_cons.mp hl
    unfold stableSort
    rw [ih hl']
    refine insertBefore_congr _ _ a _ fun b hb => ?_
    have hab := ha b ((perm_stableSort _ l).mem_iff.mp hb)
    rw [decide_eq_decide]
    unfold Before
    constructor
    · exact Or.inl
    · rintro (h | ⟨_, h⟩)
      · exact h
      · exact absurd hab (not_lt.mpr h.le)

/-- A stable sort by descending `F` lists the positions in the order `Before`. -/
theorem sorted_before {n : ℕ} (F : Fin n → EReal) (i j : Fin n) (hij : i < j) :
    Before F (sortedFrom (fun a b => decide (F b < F a)) i) (sortedFrom (fun a b => decide (F b < F a)) j) := by
  classical
  have e : sortPositions n (fun a b => decide (F b < F a)) = sortPositions n (fun a b => decide (Before F a b)) := by
    unfold sortPositions
    exact (stable_eq F _ (List.pairwise_lt_finRange n)).trans (by congr)
  have e' : sortedFrom (fun a b => decide (F b < F a)) = sortedFrom (fun a b => decide (Before F a b)) := by
    funext k; unfold sortedFrom; exact List.get_of_eq e _
  have key := sortedFrom_noInversion (fun a b => decide (Before F a b)) (fun a b => decide (Before F a b))
    (fun a b h => by
      have h : Before F a b := of_decide_eq_true h
      refine decide_eq_false ?_
      rintro (g | ⟨g, g'⟩)
      · rcases h with h | ⟨h, h'⟩
        · exact lt_asymm h g
        · exact g.ne h
      · rcases h with h | ⟨h, h'⟩
        · exact h.ne g
        · exact lt_asymm h' g')
    (fun a b h => h)
    (fun a b c h1 h2 => by
      have h1 : ¬ Before F a b := of_decide_eq_false h1
      have h2 : ¬ Before F b c := of_decide_eq_false h2
      refine decide_eq_false ?_
      unfold Before at h1 h2 ⊢
      simp only [not_or, not_and, not_lt] at h1 h2 ⊢
      refine ⟨h1.1.trans h2.1, fun g => ?_⟩
      have g1 : F a = F b := le_antisymm h1.1 (h2.1.trans g.ge)
      have g2 : F b = F c := g1.symm.trans g
      exact (h2.2 g2).trans (h1.2 g1)) i j hij
  rw [e']
  simp only [decide_eq_false_iff_not] at key
  have hne : sortedFrom (fun a b => decide (Before F a b)) i ≠ sortedFrom (fun a b => decide (Before F a b)) j :=
    fun h => hij.ne (sortedFrom_injective _ h)
  unfold Before at key ⊢
  simp only [not_or, not_and, not_lt] at key
  rcases lt_or_eq_of_le key.1 with h | h
  · exact Or.inl h
  · exact Or.inr ⟨h.symm, lt_of_le_of_ne (key.2 h) hne⟩

/-- A stable sort by descending `F` is a best-first listing. -/
theorem best_sorted {n : ℕ} (F : Fin n → EReal) : Best F (sortedFrom (fun a b => decide (F b < F a))) :=
  ⟨sortedFrom_injective _, fun i j h => by rcases sorted_before F i j h with h | h; exact h.le; exact h.1.ge⟩

/-- A set of positions that contains all those below its members is an initial segment. -/
theorem initial {n : ℕ} (A : Finset (Fin n)) (hA : ∀ i j, i < j → j ∈ A → i ∈ A) (j : Fin n) : j ∈ A ↔ j.val < A.card := by
  constructor
  · intro h
    have : Finset.Iic j ⊆ A := fun i hi => by
      rcases lt_or_eq_of_le (Finset.mem_Iic.mp hi) with g | g
      · exact hA i j g h
      · exact g ▸ h
    have := Finset.card_le_card this
    rw [Fin.card_Iic] at this
    omega
  · intro h
    by_contra g
    have : A ⊆ Finset.Iio j := fun i hi => by
      rw [Finset.mem_Iio]
      by_contra q
      rcases lt_or_eq_of_le (not_lt.mp q) with q | q
      · exact g (hA j i q hi)
      · exact g (q ▸ hi)
    have := Finset.card_le_card this
    rw [Fin.card_Iio] at this
    omega

/-- `S` holds values above all others. -/
def Above {n : ℕ} (F : Fin n → EReal) (S : Finset (Fin n)) : Prop := ∀ a, a ∉ S → ∀ b, b ∈ S → F a < F b

/-- A best-first listing begins with any set that is above the rest. -/
theorem front {n : ℕ} (F : Fin n → EReal) (e : Fin n → Fin n) (he : Best F e) (S : Finset (Fin n)) (hS : Above F S) (j : Fin n) :
    e j ∈ S ↔ j.val < S.card := by
  classical
  have hb : Function.Bijective e := Finite.injective_iff_bijective.mp he.1
  have h := initial (S.preimage e he.1.injOn) (fun i j hij hj => by
    rw [Finset.mem_preimage] at hj ⊢
    by_contra g
    exact absurd (hS _ g _ hj) (not_lt.mpr (he.2 i j hij))) j
  rw [Finset.mem_preimage] at h
  rw [h, Finset.card_preimage, Finset.filter_true_of_mem]
  intro x _
  exact hb.2 x

/-- The scores picked: at most a thousand, all above the threshold and above the rest; the rest fails the threshold when there are fewer. -/
structure Top {n : ℕ} (F : Fin n → EReal) (S : Finset (Fin n)) : Prop where
  few : S.card ≤ 1000
  above : Above F S
  pass : ∀ a, a ∈ S → quarter < F a
  rest : S.card < 1000 → ∀ a, a ∉ S → F a = neg1

/-- The set picked by a best-first listing whose thousandth score is above the next one. -/
theorem exists_top {n : ℕ} (hn : 1000 < n) (F : Fin n → EReal) (hF : ∀ a, F a = neg1 ∨ quarter < F a) (e : Fin n → Fin n) (he : Best F e)
    (hcut : F (e ⟨1000, hn⟩) < F (e ⟨999, by omega⟩) ∨ F (e ⟨999, by omega⟩) ≤ quarter) :
    ∃ S : Finset (Fin n), Top F S := by
  classical
  have hb : Function.Bijective e := Finite.injective_iff_bijective.mp he.1
  have hle : ∀ i j : Fin n, i ≤ j → F (e j) ≤ F (e i) := fun i j h => by
    rcases lt_or_eq_of_le h with h | h
    · exact he.2 i j h
    · rw [h]
  let A : Finset (Fin n) := Finset.univ.filter fun j => j.val < 1000 ∧ quarter < F (e j)
  have hmA : ∀ j, j ∈ A ↔ j.val < 1000 ∧ quarter < F (e j) := fun j => by simp [A]
  have hA := initial A (fun i j hij hj => by
    rw [hmA] at hj ⊢
    exact ⟨by have : i.val < j.val := hij; omega, hj.2.trans_le (he.2 i j hij)⟩)
  have hc : A.card ≤ 1000 := by
    by_contra g
    have := (hA ⟨1000, hn⟩).mpr (by simp only []; omega)
    rw [hmA] at this
    simp at this
  refine ⟨A.image e, ?_, ?_, ?_, ?_⟩
  · exact Finset.card_image_le.trans hc
  · intro a ha b hb'
    obtain ⟨i, rfl⟩ := hb.2 a
    obtain ⟨j, hj, rfl⟩ := Finset.mem_image.mp hb'
    have hi : i ∉ A := fun h => ha (Finset.mem_image_of_mem e h)
    have hj' := (hmA j).mp hj
    by_cases g : F (e i) ≤ quarter
    · exact g.trans_lt hj'.2
    · have hi0 : 1000 ≤ i.val := by
        by_contra q
        exact hi ((hmA i).mpr ⟨by omega, not_le.mp g⟩)
      have h1 : F (e i) ≤ F (e ⟨1000, hn⟩) := hle _ _ (by rw [Fin.le_def]; exact hi0)
      have h2 : F (e ⟨999, by omega⟩) ≤ F (e j) := hle _ _ (by rw [Fin.le_def]; simp only []; omega)
      rcases hcut with h | h
      · exact h1.trans_lt (h.trans_le h2)
      · exact absurd ((h1.trans (hle ⟨999, by omega⟩ ⟨1000, hn⟩ (by simp [Fin.le_def]))).trans h) g
  · intro a ha
    obtain ⟨j, hj, rfl⟩ := Finset.mem_image.mp ha
    exact ((hmA j).mp hj).2
  · intro hlt a ha
    rw [Finset.card_image_of_injective _ he.1] at hlt
    obtain ⟨i, rfl⟩ := hb.2 a
    have hi : i ∉ A := fun h => ha (Finset.mem_image_of_mem e h)
    let m : Fin n := ⟨A.card, by omega⟩
    have hm : m ∉ A := fun h => lt_irrefl _ ((hA m).mp h)
    have hm' : ¬ quarter < F (e m) := fun h => hm ((hmA m).mpr ⟨hlt, h⟩)
    have : m ≤ i := by
      rw [Fin.le_def]
      by_contra g
      exact hi ((hA i).mpr (not_le.mp g))
    rcases hF (e i) with h | h
    · exact h
    · exact absurd (h.trans_le (hle _ _ this)) hm'

/-- Two listings of one set along a strict order agree. -/
theorem listings_agree {n k : ℕ} (F : Fin n → EReal) (f g : Fin k → Fin n) (hf : ∀ i j, i < j → Before F (f i) (f j))
    (hg : ∀ i j, i < j → Before F (g i) (g j)) (h : Set.range f = Set.range g) : f = g := by
  let key : Fin n → ERealᵒᵈ ×ₗ Fin n := fun a => toLex (OrderDual.toDual (F a), a)
  have hkey : ∀ a b, Before F a b → key a < key b := fun a b hab => by
    rw [Prod.Lex.toLex_lt_toLex]
    rcases hab with h | ⟨h, h'⟩
    · exact Or.inl h
    · exact Or.inr ⟨by rw [h], h'⟩
  have hf' : StrictMono (key ∘ f) := fun i j hij => hkey _ _ (hf i j hij)
  have hg' : StrictMono (key ∘ g) := fun i j hij => hkey _ _ (hg i j hij)
  have hr : Set.range (key ∘ f) = Set.range (key ∘ g) := by rw [Set.range_comp, Set.range_comp, h]
  have := (StrictMono.range_inj hf' hg').mp hr
  funext i
  have hi := congrFun this i
  exact congrArg Prod.snd (toLex.injective hi)

/-- A thousand positions listed along `Before`, as many of them in the picked set as it has, agree with a stable sort as far as the threshold is passed, and in every score. -/
theorem agree {n : ℕ} (hn : 1000 < n) (F : Fin n → EReal) (hF : ∀ a, F a = neg1 ∨ quarter < F a) (e : Fin n → Fin n) (hinj : Function.Injective e)
    (he : ∀ i j, i < j → Before F (e i) (e j)) (S : Finset (Fin n)) (hS : Top F S)
    (K : Fin 1000 → Fin n) (hK : ∀ i j, i < j → Before F (K i) (K j)) (hc : (Finset.univ.filter fun j => K j ∈ S).card = S.card) (j : Fin 1000) :
    F (K j) = F (e (j.castLE hn.le)) ∧ (quarter < F (e (j.castLE hn.le)) → K j = e (j.castLE hn.le)) := by
  classical
  have hb : Best F e := ⟨hinj, fun i j h => by rcases he i j h with h | h; exact h.le; exact h.1.ge⟩
  have h1 : ∀ j, e j ∈ S ↔ j.val < S.card := front F e hb S hS.above
  have h2 : ∀ j, K j ∈ S ↔ j.val < S.card := fun j => by
    have := initial (Finset.univ.filter fun j => K j ∈ S) (fun i j hij hj => by
      simp only [Finset.mem_filter, Finset.mem_univ, true_and] at hj ⊢
      by_contra g
      have q := hS.above _ g _ hj
      rcases hK i j hij with h | h
      · exact lt_asymm q h
      · exact q.ne h.1) j
    rw [hc] at this
    simpa using this
  have hKinj : Function.Injective K := fun i j h => by
    by_contra g
    rcases lt_or_gt_of_ne g with g | g
    · rcases hK i j g with q | q
      · rw [h] at q; exact lt_irrefl _ q
      · rw [h] at q; exact lt_irrefl _ q.2
    · rcases hK j i g with q | q
      · rw [h] at q; exact lt_irrefl _ q
      · rw [h] at q; exact lt_irrefl _ q.2
  have hfew := hS.few
  have hall : (fun i : Fin S.card => K (i.castLE hfew)) = fun i : Fin S.card => e (i.castLE (hfew.trans hn.le)) := by
    refine listings_agree F _ _ (fun i j h => hK _ _ h) (fun i j h => he _ _ h) ?_
    have r1 : ∀ f : Fin S.card → Fin n, Function.Injective f → (∀ i, f i ∈ S) → Set.range f = (S : Set (Fin n)) := fun f hf hm => by
      have : Finset.univ.image f = S := Finset.eq_of_subset_of_card_le (fun x hx => by
        obtain ⟨i, _, rfl⟩ := Finset.mem_image.mp hx; exact hm i) (by rw [Finset.card_image_of_injective _ hf]; simp)
      have := congrArg (fun s : Finset (Fin n) => (s : Set (Fin n))) this
      simpa using this
    rw [r1 _ (fun i j h => by simpa using hKinj h) (fun i => (h2 _).mpr (by simp)), r1 _ (fun i j h => by simpa using hinj h) (fun i => (h1 _).mpr (by simp))]
  by_cases hj : j.val < S.card
  · have := congrFun hall ⟨j.val, hj⟩
    have hkj : K j = e (j.castLE hn.le) := this
    exact ⟨by rw [hkj], fun _ => hkj⟩
  · have e1 : F (K j) = neg1 := hS.rest (by omega) _ fun h => hj ((h2 j).mp h)
    have e2 : F (e (j.castLE hn.le)) = neg1 := hS.rest (by omega) _ fun h => hj ((h1 _).mp h)
    refine ⟨e1.trans e2.symm, fun h => ?_⟩
    rw [e2] at h
    exact absurd h (not_lt.mpr neg1_lt_quarter.le)

end Cert.Proof.Select
-- ==== Proof.HostSort.lean ====
/- The host's sorts and picks of the best, read at an index. -/
module

public import proofs.«01_k».proof.Proof.Select
public import Idealize.ShloMosaic.Lib.Routing.Words
public import Idealize.ShloMosaic.Lib.Pointwise.Index

@[expose] public section
noncomputable section
/-! The host's sorts read at an index. -/
namespace Cert.Proof.Select
open Idealize.ShloMosaic
open Cert.Proof.Model

/-- The listing by descending value of row `b`. -/
def order {N : ℕ} (x : (⟨2, ![8, N]⟩ : Shape).Idx → EReal) (b : Fin 8) : Fin N → Fin N :=
  sortedFrom (fun k k' => decide (x (ix2 b k') < x (ix2 b k)))

/-- The order of a line is its listing by descending value. -/
theorem order_best {N : ℕ} (x : (⟨2, ![8, N]⟩ : Shape).Idx → EReal) (b : Fin 8) : Best (fun k => x (ix2 b k)) (order x b) :=
  best_sorted fun k => x (ix2 b k)

/-- A position along the second axis. -/
theorem along_ix2 {N : ℕ} (b : Fin 8) (j k : Fin N) (h : 1 < (⟨2, ![8, N]⟩ : Shape).rank) :
    (ix2 b j : (⟨2, ![8, N]⟩ : Shape).Idx).along ⟨1, h⟩ k = ix2 b k := by
  funext a
  unfold Shape.Idx.along
  match a with
  | ⟨0, _⟩ => rfl
  | ⟨1, _⟩ => rfl

/-- The comparison by which the greatest are picked. -/
theorem gt_bit (a b : EReal) : (FloatOps.cmpfTotal (F := Ideal) (φ := .f32) .gt a b == 1#1) = decide (b < a) := by
  show (BitVec.ofBool (decide (b < a)) == 1#1) = _
  by_cases h : b < a <;> simp [h]

/-- The greatest `K` values of a row, and where they stand. -/
theorem topK_at {N K : ℕ} (x : (⟨2, ![8, N]⟩ : Shape).Idx → EReal) (h) (b : Fin 8) (j : Fin K) (hK : K ≤ N) :
    (Host.topK (s := ⟨2, ![8, N]⟩) ⟨2, ![8, K]⟩ 1 (FloatOps.cmpfTotal (F := Ideal) (φ := .f32) .gt) x h).1 (ix2 b j) = x (ix2 b (order x b (j.castLE hK)))
    ∧ (Host.topK (s := ⟨2, ![8, N]⟩) ⟨2, ![8, K]⟩ 1 (FloatOps.cmpfTotal (F := Ideal) (φ := .f32) .gt) x h).2 (ix2 b j)
      = BitVec.ofNat 32 (order x b (j.castLE hK)).val := by
  have hd : 1 < (⟨2, ![8, N]⟩ : Shape).rank := by show 1 < 2; decide
  have key : ∀ i : (⟨2, ![8, N]⟩ : Shape).Idx, i = ix2 b (j.castLE hK) →
      ∀ y : (⟨2, ![8, N]⟩ : Shape).Idx → BitVec 32,
      (Host.sort2 ⟨2, ![8, N]⟩ 1 (fun l r : EReal × BitVec 32 => FloatOps.cmpfTotal (F := Ideal) (φ := .f32) .gt l.1 r.1) x y).1 i = x (ix2 b (order x b (j.castLE hK)))
      ∧ (Host.sort2 ⟨2, ![8, N]⟩ 1 (fun l r : EReal × BitVec 32 => FloatOps.cmpfTotal (F := Ideal) (φ := .f32) .gt l.1 r.1) x y).2 i = y (ix2 b (order x b (j.castLE hK))) := by
    rintro _ rfl y
    have e : (fun k k' => FloatOps.cmpfTotal (F := Ideal) (φ := .f32) .gt (x ((ix2 b (j.castLE hK) : (⟨2, ![8, N]⟩ : Shape).Idx).along ⟨1, hd⟩ k))
        (x ((ix2 b (j.castLE hK) : (⟨2, ![8, N]⟩ : Shape).Idx).along ⟨1, hd⟩ k')) == 1#1) = fun k k' => decide (x (ix2 b k') < x (ix2 b k)) := by
      funext k k'
      rw [along_ix2 b (j.castLE hK) k hd, along_ix2 b (j.castLE hK) k' hd]
      exact gt_bit _ _
    unfold Host.sort2
    rw [dif_pos hd]
    simp only []
    rw [e]
    unfold order
    exact ⟨congrArg x (along_ix2 b _ _ hd), congrArg y (along_ix2 b _ _ hd)⟩
  have hs : ∀ (α : Type) (y : (⟨2, ![8, N]⟩ : Shape).Idx → α),
      extractStridedSlice (s := ⟨2, ![8, N]⟩) ⟨2, ![8, K]⟩ (fun _ => 0) y h (ix2 b j) = y (ix2 b (j.castLE hK)) := by
    intro α y
    unfold extractStridedSlice
    refine congrArg y ?_
    funext a
    apply Fin.ext
    match a with
    | ⟨0, _⟩ => exact Nat.zero_add _
    | ⟨1, _⟩ => exact Nat.zero_add _
  unfold Host.topK
  simp only []
  rw [hs, hs]
  refine ⟨(key _ rfl _).1, ((key _ rfl _).2).trans ?_⟩
  rw [dif_pos hd]
  rfl

/-- The listing by which three rows are sorted. -/
def order3 {N : ℕ} (cmp : EReal × BitVec 32 × EReal → EReal × BitVec 32 × EReal → BitVec 1)
    (x : (⟨2, ![8, N]⟩ : Shape).Idx → EReal) (y : (⟨2, ![8, N]⟩ : Shape).Idx → BitVec 32) (z : (⟨2, ![8, N]⟩ : Shape).Idx → EReal) (b : Fin 8) : Fin N → Fin N :=
  sortedFrom (fun k k' => cmp (x (ix2 b k), y (ix2 b k), z (ix2 b k)) (x (ix2 b k'), y (ix2 b k'), z (ix2 b k')) == 1#1)

/-- Three rows sorted together. -/
theorem sort3_at {N : ℕ} (cmp : EReal × BitVec 32 × EReal → EReal × BitVec 32 × EReal → BitVec 1)
    (x : (⟨2, ![8, N]⟩ : Shape).Idx → EReal) (y : (⟨2, ![8, N]⟩ : Shape).Idx → BitVec 32) (z : (⟨2, ![8, N]⟩ : Shape).Idx → EReal) (b : Fin 8) (j : Fin N) :
    (Host.sort3 ⟨2, ![8, N]⟩ 1 cmp x y z).2.1 (ix2 b j) = y (ix2 b (order3 cmp x y z b j))
    ∧ (Host.sort3 ⟨2, ![8, N]⟩ 1 cmp x y z).2.2 (ix2 b j) = z (ix2 b (order3 cmp x y z b j)) := by
  have hd : 1 < (⟨2, ![8, N]⟩ : Shape).rank := by show 1 < 2; decide
  have e : (fun k k' => cmp (x ((ix2 b j : (⟨2, ![8, N]⟩ : Shape).Idx).along ⟨1, hd⟩ k), y ((ix2 b j : (⟨2, ![8, N]⟩ : Shape).Idx).along ⟨1, hd⟩ k), z ((ix2 b j : (⟨2, ![8, N]⟩ : Shape).Idx).along ⟨1, hd⟩ k))
      (x ((ix2 b j : (⟨2, ![8, N]⟩ : Shape).Idx).along ⟨1, hd⟩ k'), y ((ix2 b j : (⟨2, ![8, N]⟩ : Shape).Idx).along ⟨1, hd⟩ k'), z ((ix2 b j : (⟨2, ![8, N]⟩ : Shape).Idx).along ⟨1, hd⟩ k')) == 1#1)
      = fun k k' => cmp (x (ix2 b k), y (ix2 b k), z (ix2 b k)) (x (ix2 b k'), y (ix2 b k'), z (ix2 b k')) == 1#1 := by
    funext k k'
    rw [along_ix2 b j k hd, along_ix2 b j k' hd]
  unfold Host.sort3
  rw [dif_pos hd]
  simp only []
  rw [e]
  unfold order3
  exact ⟨congrArg y (along_ix2 b _ _ hd), congrArg z (along_ix2 b _ _ hd)⟩

/-- A sort whose comparison is `Before` at the positions lists the positions in that order. -/
theorem order3_before {N n : ℕ} (F : Fin n → EReal) (P : Fin N → Fin n) (hP : Function.Injective P)
    (before : Fin N → Fin N → Bool) (hb : ∀ k k', before k k' = true ↔ Before F (P k) (P k')) (i j : Fin N) (hij : i < j) :
    Before F (P (sortedFrom before i)) (P (sortedFrom before j)) := by
  have hf : ∀ k k', before k k' = false ↔ ¬ Before F (P k) (P k') := fun k k' => by rw [← hb, Bool.not_eq_true]
  have key := sortedFrom_noInversion before before
    (fun a b h => by
      rw [hb] at h
      rw [hf]
      rintro (g | ⟨g, g'⟩)
      · rcases h with h | ⟨h, h'⟩
        · exact lt_asymm h g
        · exact g.ne h
      · rcases h with h | ⟨h, h'⟩
        · exact h.ne g
        · exact lt_asymm h' g')
    (fun a b h => h)
    (fun a b c h1 h2 => by
      rw [hf] at h1 h2 ⊢
      unfold Before at h1 h2 ⊢
      simp only [not_or, not_and, not_lt] at h1 h2 ⊢
      refine ⟨h1.1.trans h2.1, fun g => ?_⟩
      have g1 : F (P a) = F (P b) := le_antisymm h1.1 (h2.1.trans g.ge)
      have g2 : F (P b) = F (P c) := g1.symm.trans g
      exact (h2.2 g2).trans (h1.2 g1)) i j hij
  rw [hf] at key
  have hne : P (sortedFrom before i) ≠ P (sortedFrom before j) := fun h => hij.ne (sortedFrom_injective _ (hP h))
  unfold Before at key ⊢
  simp only [not_or, not_and, not_lt] at key
  rcases lt_or_eq_of_le key.1 with h | h
  · exact Or.inl h
  · exact Or.inr ⟨h.symm, lt_of_le_of_ne (key.2 h) hne⟩

end Cert.Proof.Select
-- ==== Proof.Spec.lean ====
/- The mathematics both programs compute, as functions of their arguments: the raw boxes, their scores and corners, the greedy suppression
   of a list of chosen (box, class) pairs, and the detections that are left. Two lists of pairs that agree wherever a score passes the
   threshold give the same detections. -/
module

public import proofs.«01_k».proof.Proof.Model
public import proofs.«01_k».proof.Proof.Box
public import proofs.«01_k».proof.Proof.HostSort

@[expose] public section

noncomputable section

namespace Cert.Proof.Model

open Idealize.ShloMosaic Cert.Proof.Select

/-- The raw values of image `b`: box `J`, channel `k`. -/
def R (x0 : (⟨5, ![8, 80, 80, 3, 85]⟩ : Shape).Idx → EReal) (x1 : (⟨5, ![8, 40, 40, 3, 85]⟩ : Shape).Idx → EReal)
    (x2 : (⟨5, ![8, 20, 20, 3, 85]⟩ : Shape).Idx → EReal) (b : Fin 8) (J : Fin 25200) (k : Fin 85) : EReal :=
  raw (fun b y x a k => x0 (ix5 b y x a k)) (fun b y x a k => x1 (ix5 b y x a k)) (fun b y x a k => x2 (ix5 b y x a k)) b J k

/-- The score of pair `q`: box `q / 80`, class `q % 80`. -/
def scores (r : Fin 25200 → Fin 85 → EReal) (q : Fin 2016000) : EReal :=
  score (r ⟨q.val / 80, by omega⟩ 4) (r ⟨q.val / 80, by omega⟩ ⟨5 + q.val % 80, by omega⟩)

/-- The clipped corners of box `J`. -/
def corners (r : Fin 25200 → Fin 85 → EReal) (J : Fin 25200) (q : Fin 4) : EReal :=
  corner (fun q => r J ⟨q.val, by omega⟩) J.val q

/-- The spacing between the classes' copies of the image. -/
def spacing : EReal := Ideal.ofBits .f32 1166016512#32

/-- A box moved to its class's copy of the image. -/
def moved (c : Fin 4 → EReal) (l : ℕ) (q : Fin 4) : EReal := c q + ((l : ℝ) : EReal) * spacing

/-- The area of a box. -/
def area (o : Fin 4 → EReal) : EReal := (o 2 - o 0) * (o 3 - o 1)

/-- Two boxes overlap too much. -/
def clash (o u : Fin 4 → EReal) : Prop := overlap < iou (o 0) (o 1) (o 2) (o 3) (area o) (u 0) (u 1) (u 2) (u 3) (area u)

/-- The pair's box, moved to its class. -/
def placed (C : Fin 25200 → Fin 4 → EReal) (q : Fin 2016000) : Fin 4 → EReal := moved (C ⟨q.val / 80, by omega⟩) (q.val % 80)

/-- Chosen pair `i` suppresses chosen pair `p`. -/
def supP (C : Fin 25200 → Fin 4 → EReal) (P : Fin 1000 → Fin 2016000) (i p : ℕ) : Prop :=
  ∃ (hi : i < 1000) (hp : p < 1000), clash (placed C (P ⟨i, hi⟩)) (placed C (P ⟨p, hp⟩))

/-- Chosen pair `p` passes the threshold. -/
def startP (F : Fin 2016000 → EReal) (P : Fin 1000 → Fin 2016000) (p : ℕ) : Prop := ∃ hp : p < 1000, quarter < F (P ⟨p, hp⟩)

open Classical in
/-- The chosen pairs' scores after suppression: minus one where suppressed. -/
def left (F : Fin 2016000 → EReal) (C : Fin 25200 → Fin 4 → EReal) (P : Fin 1000 → Fin 2016000) (j : Fin 1000) : EReal :=
  if kept (supP C P) (startP F P) 1000 j.val then F (P j) else neg1

/-- The indices of a line in descending order of its values, equal ones in order. -/
def best {N : ℕ} (f : Fin N → EReal) : Fin N → Fin N := sortedFrom (fun k k' => decide (f k' < f k))

/-- A one-bit word read as a number. -/
theorem bit_word (p : Prop) [Decidable p] : (FloatOps.uitofp (F := Ideal) .f32 (BitVec.ofBool (decide p)) : EReal) = if p then 1 else 0 := by
  by_cases h : p <;> simp [h] <;> change (((_ : ℕ) : ℝ) : EReal) = _ <;> simp

/-- A value where the score passes, else zero. -/
def masked (x s : EReal) : EReal := x * (if quarter < s then 1 else 0)

/-- Entry `t` of a detection: the pair's box over the scale, its score, its class; zero where the score does not pass. -/
def entry (C : Fin 25200 → Fin 4 → EReal) (P : Fin 1000 → Fin 2016000) (z : EReal) (ks : Fin 1000 → EReal) (j : Fin 1000) (t : Fin 6) : EReal :=
  masked (if h : t.val < 4 then Ideal.div (C ⟨(P j).val / 80, by omega⟩ ⟨t.val, h⟩) z
    else if t.val = 4 then ks j else ((((P j).val % 80 : ℕ) : ℝ) : EReal)) (ks j)

/-- Entry `t` of detection `k`. -/
def detection (F : Fin 2016000 → EReal) (C : Fin 25200 → Fin 4 → EReal) (P : Fin 1000 → Fin 2016000) (z : EReal) (k : Fin 300) (t : Fin 6) : EReal :=
  entry C P z (left F C P) (best (left F C P) (k.castLE (by decide))) t

section Congr
variable {F : Fin 2016000 → EReal} {C : Fin 25200 → Fin 4 → EReal} {P P' : Fin 1000 → Fin 2016000}
  (h : ∀ j, F (P j) = F (P' j) ∧ (quarter < F (P' j) → P j = P' j))
include h

/-- Equal scores, equal starts. -/
theorem startP_congr (p : ℕ) : startP F P p ↔ startP F P' p := by
  unfold startP
  exact exists_congr fun hp => by rw [(h ⟨p, hp⟩).1]

/-- A pair that passes is the same pair in both lists. -/
theorem startP_eq (p : ℕ) (hp : p < 1000) (hs : startP F P p) : P ⟨p, hp⟩ = P' ⟨p, hp⟩ := by
  obtain ⟨_, hq⟩ := hs
  exact (h _).2 (by rw [← (h _).1]; exact hq)

/-- The scores left after suppression agree. -/
theorem left_congr : left F C P = left F C P' := by
  funext j
  have e := kept_congr (startP_congr h) (sup := supP C P) (sup' := supP C P') (fun i p hi hp => by
    unfold supP
    refine exists_congr fun hi' => exists_congr fun hp' => ?_
    rw [startP_eq h i hi' hi, startP_eq h p hp' hp]) 1000 j.val
  unfold left
  rw [(h j).1]
  by_cases hk : kept (supP C P) (startP F P) 1000 j.val
  · rw [if_pos hk, if_pos (e.mp hk)]
  · rw [if_neg hk, if_neg fun h' => hk (e.mpr h')]

/-- The detections agree. -/
theorem detection_congr (z : EReal) (k : Fin 300) (t : Fin 6) : detection F C P z k t = detection F C P' z k t := by
  unfold detection
  rw [left_congr (C := C) h]
  generalize best (left F C P') (k.castLE _) = j
  unfold entry masked
  by_cases hq : quarter < left F C P' j
  · have : P j = P' j := by
      refine (h j).2 ?_
      unfold left at hq
      by_cases hk : kept (supP C P') (startP F P') 1000 j.val
      · rwa [if_pos hk] at hq
      · rw [if_neg hk] at hq
        exact absurd hq (not_lt.mpr (le_of_lt neg1_lt_quarter))
    simp only [this]
  · rw [if_neg hq, mul_zero, mul_zero]

end Congr

end Cert.Proof.Model
-- ==== Proof.Cand.lean ====
/- The candidates: the best rows of the two large levels and all of the third, and the thousand best pairs among them. -/
module

public import proofs.«01_k».proof.Proof.Select

@[expose] public section
noncomputable section
/-! The candidates: the scores of the 1536 best boxes of each of the first two levels and of all boxes of the third. -/
namespace Cert.Proof.Select
open Idealize.ShloMosaic
open Cert.Proof.Model

/-- The box that candidate row `i` holds. -/
def gbox (r0 : Fin 19200 → Fin 19200) (r1 : Fin 4800 → Fin 4800) (i : ℕ) : ℕ :=
  if h : i < 1536 then (r0 ⟨i, by omega⟩).val
  else if h : i < 3072 then 19200 + (r1 ⟨i - 1536, by omega⟩).val
  else 24000 + (i - 3072)

/-- A candidate's box is one of the boxes. -/
theorem gbox_lt (r0 : Fin 19200 → Fin 19200) (r1 : Fin 4800 → Fin 4800) (i : ℕ) (hi : i < 4272) : gbox r0 r1 i < 25200 := by
  unfold gbox
  split_ifs with h h'
  · have := (r0 ⟨i, by omega⟩).isLt; omega
  · have := (r1 ⟨i - 1536, by omega⟩).isLt; omega
  · omega

/-- The flat score that candidate `p` is. -/
def cand (r0 : Fin 19200 → Fin 19200) (r1 : Fin 4800 → Fin 4800) (p : Fin 341760) : Fin 2016000 :=
  ⟨gbox r0 r1 (p.val / 80) * 80 + p.val % 80, by have := gbox_lt r0 r1 (p.val / 80) (by omega); omega⟩

/-- No box is held by two candidate rows. -/
theorem gbox_inj (r0 : Fin 19200 → Fin 19200) (r1 : Fin 4800 → Fin 4800) (h0 : Function.Injective r0) (h1 : Function.Injective r1)
    (i j : ℕ) (h : gbox r0 r1 i = gbox r0 r1 j) : i = j := by
  unfold gbox at h
  split_ifs at h with a b c d e f
  · have := congrArg Fin.val (h0 (Fin.ext h)); simpa using this
  · have := (r0 ⟨i, by omega⟩).isLt; omega
  · have := (r0 ⟨i, by omega⟩).isLt; omega
  · have := (r0 ⟨j, by omega⟩).isLt; omega
  · have := congrArg Fin.val (h1 (Fin.ext (by omega : (r1 ⟨i - 1536, by omega⟩).val = (r1 ⟨j - 1536, by omega⟩).val))); simp at this; omega
  · have := (r1 ⟨i - 1536, by omega⟩).isLt; omega
  · have := (r0 ⟨j, by omega⟩).isLt; omega
  · have := (r1 ⟨j - 1536, by omega⟩).isLt; omega
  · omega

/-- No flat score is two candidates. -/
theorem cand_inj (r0 : Fin 19200 → Fin 19200) (r1 : Fin 4800 → Fin 4800) (h0 : Function.Injective r0) (h1 : Function.Injective r1) :
    Function.Injective (cand r0 r1) := by
  intro p q h
  have h := congrArg Fin.val h
  simp only [cand] at h
  have := gbox_inj r0 r1 h0 h1 (p.val / 80) (q.val / 80) (by omega)
  rw [this] at h
  apply Fin.ext
  omega

/-- Boxes that hold a picked score come first in a listing of the boxes by their best scores. -/
theorem rows_found {n N : ℕ} (hn : 1536 ≤ n) (F : Fin N → EReal) (S : Finset (Fin N)) (hS : Top F S) (at' : Fin n → Fin 80 → Fin N)
    (hinj : ∀ i j l m, at' i l = at' j m → i = j)
    (r : Fin n → Fin n) (hr : Best (fun i => Finset.fold max ⊥ (fun l : Fin 80 => F (at' i l)) Finset.univ) r) (i : Fin n) (l : Fin 80)
    (hil : at' i l ∈ S) : ∃ j : Fin n, j.val < 1536 ∧ r j = i := by
  classical
  have hb : Function.Bijective r := Finite.injective_iff_bijective.mp hr.1
  let T : Finset (Fin n) := Finset.univ.filter fun i => ∃ l, at' i l ∈ S
  have hmT : ∀ i, i ∈ T ↔ ∃ l, at' i l ∈ S := fun i => by simp [T]
  have hT : T.card ≤ 1000 := by
    refine le_trans ?_ hS.few
    choose! f hf using fun i (h : i ∈ T) => (hmT i).mp h
    refine Finset.card_le_card_of_injOn (fun i => at' i (f i)) (fun i hi => hf i hi) fun i _ j _ h => ?_
    exact hinj _ _ _ _ h
  have hab : Above (fun i => Finset.fold max ⊥ (fun l : Fin 80 => F (at' i l)) Finset.univ) T := by
    intro a ha b hb
    obtain ⟨l, hl⟩ := (hmT b).mp hb
    have hna : ∀ l, at' a l ∉ S := fun l h => ha ((hmT a).mpr ⟨l, h⟩)
    have hv : F (at' b l) ≤ Finset.fold max ⊥ (fun l : Fin 80 => F (at' b l)) Finset.univ :=
      (Finset.le_fold_max _).mpr (Or.inr ⟨l, Finset.mem_univ _, le_rfl⟩)
    refine lt_of_lt_of_le ?_ hv
    exact (Finset.fold_max_lt _).mpr ⟨lt_of_le_of_lt bot_le (hS.above _ (hna 0) _ hl), fun x _ => hS.above _ (hna x) _ hl⟩
  obtain ⟨j, rfl⟩ := hb.2 i
  have := (front _ r hr T hab j).mp ((hmT _).mpr ⟨l, hil⟩)
  exact ⟨j, by omega, rfl⟩

variable (F : Fin 2016000 → EReal)

/-- Flat score `l` of the box `i`. -/
def flat (i : Fin 25200) (l : Fin 80) : Fin 2016000 := ⟨i.val * 80 + l.val, by omega⟩

/-- Every picked score is a candidate. -/
theorem cand_covers (S : Finset (Fin 2016000)) (hS : Top F S) (r0 : Fin 19200 → Fin 19200) (r1 : Fin 4800 → Fin 4800)
    (h0 : Best (fun i => Finset.fold max ⊥ (fun l : Fin 80 => F (flat ⟨i.val, by omega⟩ l)) Finset.univ) r0)
    (h1 : Best (fun i => Finset.fold max ⊥ (fun l : Fin 80 => F (flat ⟨19200 + i.val, by omega⟩ l)) Finset.univ) r1)
    (a : Fin 2016000) (ha : a ∈ S) : ∃ p, cand r0 r1 p = a := by
  have hfl : ∀ (i j : Fin 25200) (l m : Fin 80), flat i l = flat j m → i = j := fun i j l m h => by
    have h := congrArg Fin.val h
    simp only [flat] at h
    apply Fin.ext
    omega
  by_cases c0 : a.val / 80 < 19200
  · obtain ⟨j, hj, hr⟩ := rows_found (by decide) F S hS (fun i : Fin 19200 => flat ⟨i.val, by omega⟩) (fun i j l m h => by
      have := congrArg Fin.val (hfl _ _ _ _ h); exact Fin.ext this) r0 h0 ⟨a.val / 80, c0⟩ ⟨a.val % 80, by omega⟩
      (by convert ha; apply Fin.ext; simp only [flat]; omega)
    refine ⟨⟨j.val * 80 + a.val % 80, by omega⟩, ?_⟩
    apply Fin.ext
    have e : (j.val * 80 + a.val % 80) / 80 = j.val := by omega
    simp only [cand, e, gbox, dif_pos hj, hr]
    omega
  · by_cases c1 : a.val / 80 < 24000
    · obtain ⟨j, hj, hr⟩ := rows_found (by decide) F S hS (fun i : Fin 4800 => flat ⟨19200 + i.val, by omega⟩) (fun i j l m h => by
        have := congrArg Fin.val (hfl _ _ _ _ h); simp only [] at this; exact Fin.ext (by omega)) r1 h1 ⟨a.val / 80 - 19200, by omega⟩ ⟨a.val % 80, by omega⟩
        (by convert ha; apply Fin.ext; simp only [flat]; omega)
      refine ⟨⟨(1536 + j.val) * 80 + a.val % 80, by omega⟩, ?_⟩
      apply Fin.ext
      have e : ((1536 + j.val) * 80 + a.val % 80) / 80 = 1536 + j.val := by omega
      have e' : (⟨1536 + j.val - 1536, by omega⟩ : Fin 4800) = j := Fin.ext (by simp only []; omega)
      simp only [cand, e, gbox, dif_neg (show ¬ 1536 + j.val < 1536 by omega), dif_pos (show 1536 + j.val < 3072 by omega), e', hr]
      omega
    · refine ⟨⟨(a.val / 80 - 24000 + 3072) * 80 + a.val % 80, by omega⟩, ?_⟩
      apply Fin.ext
      have e : ((a.val / 80 - 24000 + 3072) * 80 + a.val % 80) / 80 = a.val / 80 - 24000 + 3072 := by omega
      simp only [cand, e, gbox, dif_neg (show ¬ a.val / 80 - 24000 + 3072 < 1536 by omega), dif_neg (show ¬ a.val / 80 - 24000 + 3072 < 3072 by omega)]
      omega

/-- The picked scores, sought among the candidates, are picked there. -/
theorem found (S : Finset (Fin 2016000)) (hS : Top F S) (g : Fin 341760 → Fin 2016000) (hg : Function.Injective g) (hcov : ∀ a ∈ S, ∃ p, g p = a)
    (e : Fin 341760 → Fin 341760) (he : Best (fun p => F (g p)) e) (e3 : Fin 1000 → Fin 1000) (h3 : Function.Injective e3) :
    (Finset.univ.filter fun j => g (e ((e3 j).castLE (by decide))) ∈ S).card = S.card := by
  classical
  let S' : Finset (Fin 341760) := S.preimage g hg.injOn
  have hm : ∀ p, p ∈ S' ↔ g p ∈ S := fun p => Finset.mem_preimage
  have hcard : S'.card = S.card := by
    have : S'.image g = S := by
      ext a
      simp only [Finset.mem_image, hm]
      constructor
      · rintro ⟨p, hp, rfl⟩; exact hp
      · intro ha
        obtain ⟨p, rfl⟩ := hcov a ha
        exact ⟨p, ha, rfl⟩
    rw [← this, Finset.card_image_of_injective _ hg]
  have hab : Above (fun p => F (g p)) S' := fun a ha b hb => hS.above _ (fun h => ha ((hm a).mpr h)) _ ((hm b).mp hb)
  have hf := front _ e he S' hab
  have h3b : Function.Bijective e3 := Finite.injective_iff_bijective.mp h3
  have hcount : (Finset.univ.filter fun j : Fin 1000 => g (e ((e3 j).castLE (by decide))) ∈ S)
      = (Finset.univ.filter fun x : Fin 1000 => x.val < S.card).preimage e3 h3.injOn := by
    ext j
    have := hf ((e3 j).castLE (by decide))
    rw [hm, hcard] at this
    simp only [Finset.mem_filter, Finset.mem_univ, true_and, Finset.mem_preimage]
    exact this
  rw [hcount, Finset.card_preimage, Finset.filter_true_of_mem (fun x _ => Set.mem_range.mpr (h3b.2 x))]
  have hfew := hS.few
  have : (Finset.univ.filter fun x : Fin 1000 => x.val < S.card) = Finset.univ.map (Fin.castLEEmb hfew) := by
    ext x
    simp only [Finset.mem_filter, Finset.mem_univ, true_and, Finset.mem_map]
    constructor
    · intro h; exact ⟨⟨x.val, h⟩, rfl⟩
    · rintro ⟨y, rfl⟩; exact y.isLt
  rw [this, Finset.card_map]; simp

/-- The thousand scores that the kernel picks are those of the stable sort of all scores, in its order, as far as the threshold is passed. -/
theorem picked (hF : ∀ a, F a = neg1 ∨ quarter < F a)
    (e : Fin 2016000 → Fin 2016000) (he : e = sortedFrom (fun a b => decide (F b < F a)))
    (hcut : F (e ⟨1000, by decide⟩) < F (e ⟨999, by decide⟩) ∨ F (e ⟨999, by decide⟩) ≤ quarter)
    (r0 : Fin 19200 → Fin 19200) (r1 : Fin 4800 → Fin 4800)
    (h0 : Best (fun i => Finset.fold max ⊥ (fun l : Fin 80 => F (flat ⟨i.val, by omega⟩ l)) Finset.univ) r0)
    (h1 : Best (fun i => Finset.fold max ⊥ (fun l : Fin 80 => F (flat ⟨19200 + i.val, by omega⟩ l)) Finset.univ) r1)
    (ec : Fin 341760 → Fin 341760) (hec : Best (fun p => F (cand r0 r1 p)) ec) (e3 : Fin 1000 → Fin 1000) (h3 : Function.Injective e3)
    (hK : ∀ i j : Fin 1000, i < j → Before F (cand r0 r1 (ec ((e3 i).castLE (by decide)))) (cand r0 r1 (ec ((e3 j).castLE (by decide))))) (j : Fin 1000) :
    F (cand r0 r1 (ec ((e3 j).castLE (by decide)))) = F (e (j.castLE (by decide)))
      ∧ (quarter < F (e (j.castLE (by decide))) → cand r0 r1 (ec ((e3 j).castLE (by decide))) = e (j.castLE (by decide))) := by
  subst he
  obtain ⟨S, hS⟩ := exists_top (by decide) F hF _ (best_sorted F) hcut
  exact agree (by decide) F hF _ (sortedFrom_injective _) (sorted_before F) S hS _ hK
    (found F S hS _ (cand_inj r0 r1 h0.1 h1.1) (cand_covers F S hS r0 r1 h0 h1) ec hec e3 h3) j

end Cert.Proof.Select
-- ==== Proof.KHost1.lean ====
/- The kernel's first part read at an index: its scores, its boxes' corners. -/
module

public import proofs.«01_k».proof.Proof.KScore0
public import proofs.«01_k».proof.Proof.KScore1
public import proofs.«01_k».proof.Proof.KScore2
public import proofs.«01_k».proof.Proof.KBox
public import proofs.«01_k».proof.Proof.Spec
public import proofs.«01_k».proof.Proof.Cand
public import Idealize.ShloMosaic.Lib.StableHlo.ReadAt

@[expose] public section
noncomputable section
namespace Cert.Proof.Ker
open Idealize.ShloMosaic Idealize.ShloMosaic.TcCoe Idealize.ShloMosaic.StableHlo Idealize.ShloMosaic.Tactic
open Cert.KernelIdeal Cert.KernelIdeal.Gen
open Cert.Proof.Model Cert.Proof.Select

set_option maxRecDepth 100000

section Lines
variable (V : Valuation τ sig (Elt Ideal))

/-- The first level, a row per box. -/
theorem v0_at (b : Fin 8) (j : Fin 19200) (k : Fin 85) : after hostOps0 V (Proc.devRef .tc main_v0) (ix3 b j k) =
    V (Proc.devRef .tc main_arg0) (ix5 b ⟨j.val / 240, by omega⟩ ⟨j.val / 3 % 80, by omega⟩ ⟨j.val % 3, by omega⟩ k) := by
  after_reads_at

/-- The second level, a row per box. -/
theorem v1_at (b : Fin 8) (j : Fin 4800) (k : Fin 85) : after hostOps0 V (Proc.devRef .tc main_v1) (ix3 b j k) =
    V (Proc.devRef .tc main_arg1) (ix5 b ⟨j.val / 120, by omega⟩ ⟨j.val / 3 % 40, by omega⟩ ⟨j.val % 3, by omega⟩ k) := by
  after_reads_at

/-- The third level, a row per box. -/
theorem v2_at (b : Fin 8) (j : Fin 1200) (k : Fin 85) : after hostOps0 V (Proc.devRef .tc main_v2) (ix3 b j k) =
    V (Proc.devRef .tc main_arg2) (ix5 b ⟨j.val / 60, by omega⟩ ⟨j.val / 3 % 20, by omega⟩ ⟨j.val % 3, by omega⟩ k) := by
  after_reads_at

/-- The coordinates of all the boxes, the levels one after the other. -/
theorem v10_at (b : Fin 8) (J : Fin 25200) (q : Fin 4) : after hostOps3 V (Proc.devRef .tc main_v10) (ix3 b q J) =
    if h0 : J.val < 19200 then V (Proc.devRef .tc main_v0) (ix3 b ⟨J.val, h0⟩ ⟨q.val, by omega⟩)
    else if h1 : J.val < 24000 then V (Proc.devRef .tc main_v1) (ix3 b ⟨J.val - 19200, by omega⟩ ⟨q.val, by omega⟩)
    else V (Proc.devRef .tc main_v2) (ix3 b ⟨J.val - 24000, by omega⟩ ⟨q.val, by omega⟩) := by
  after_reads_at
  by_cases h0 : J.val < 19200
  · rw [dif_pos h0, dif_pos h0]
    after_reads_at
  · rw [dif_neg h0, dif_neg h0]
    by_cases h1 : J.val < 24000
    · rw [dif_pos h1, dif_pos (by omega)]
      after_reads_at
    · rw [dif_neg h1, dif_neg (by omega)]
      after_reads_at
      exact congrArg _ (congrArg (fun p => ix3 b p _) (Fin.ext (Nat.sub_sub _ _ _)))

end Lines

/-- The score at a box and a class. -/
theorem scores_flat (r : Fin 25200 → Fin 85 → EReal) (i : Fin 25200) (l : Fin 80) :
    scores r (flat i l) = score (r i 4) (r i ⟨5 + l.val, by omega⟩) := by
  have e1 : (i.val * 80 + l.val) / 80 = i.val := by omega
  have e2 : (i.val * 80 + l.val) % 80 = l.val := by omega
  unfold scores flat
  simp only [e1, e2]

variable (m : (ℓ : Loc nD τ sig) → Buf (Elt Ideal) ℓ) (ρ : Dev nD → PrngReg) (c : Dev nD)

/-- The kernel's raw values. -/
abbrev KR (b : Fin 8) : Fin 25200 → Fin 85 → EReal :=
  Model.R (m ((c : Thread nD τ).loc main_arg0)) (m ((c : Thread nD τ).loc main_arg1)) (m ((c : Thread nD τ).loc main_arg2)) b

/-- The first level's rows are the raw values. -/
theorem w1_0 (b : Fin 8) (i : Fin 19200) (k : Fin 85) : W1 m ρ c (Proc.devRef .tc main_v0) (ix3 b i k) = KR m c b ⟨i.val, by omega⟩ k := by
  refine (v0_at (W0 m ρ c) b i k).trans ?_
  unfold KR Model.R raw
  rw [dif_pos i.isLt]

/-- The second level's rows are the raw values. -/
theorem w1_1 (b : Fin 8) (i : Fin 4800) (k : Fin 85) : W1 m ρ c (Proc.devRef .tc main_v1) (ix3 b i k) = KR m c b ⟨19200 + i.val, by omega⟩ k := by
  refine (v1_at (W0 m ρ c) b i k).trans ?_
  unfold KR Model.R raw
  rw [dif_neg (by simp), dif_pos (by simp; omega)]
  simp only [Nat.add_sub_cancel_left]

/-- The third level's rows are the raw values. -/
theorem w1_2 (b : Fin 8) (i : Fin 1200) (k : Fin 85) : W1 m ρ c (Proc.devRef .tc main_v2) (ix3 b i k) = KR m c b ⟨24000 + i.val, by omega⟩ k := by
  refine (v2_at (W0 m ρ c) b i k).trans ?_
  unfold KR Model.R raw
  rw [dif_neg (by simp; omega), dif_neg (by simp)]
  simp only [Nat.add_sub_cancel_left]

/-- The second level's rows before the second call. -/
theorem w2_1 (b : Fin 8) (i : Fin 4800) (k : Fin 85) : W2 m ρ c (Proc.devRef .tc main_v1) (ix3 b i k) = KR m c b ⟨19200 + i.val, by omega⟩ k := by
  rw [W2_of_ne m ρ c main_v1 (by decide)]; exact w1_1 m ρ c b i k

/-- The third level's rows before the third call. -/
theorem w3_2 (b : Fin 8) (i : Fin 1200) (k : Fin 85) : W3 m ρ c (Proc.devRef .tc main_v2) (ix3 b i k) = KR m c b ⟨24000 + i.val, by omega⟩ k := by
  rw [W3_of_ne m ρ c main_v2 (by decide), W2_of_ne m ρ c main_v2 (by decide)]; exact w1_2 m ρ c b i k

/-- The first level's scores. -/
theorem s0_at (b : Fin 8) (i : Fin 19200) (l : Fin 80) : W2 m ρ c (Proc.devRef .tc main_v3_0) (ix3 b i l) = scores (KR m c b) (flat ⟨i.val, by omega⟩ l) := by
  refine (congrFun ((hF0 m ρ c 1).symm.trans (score0 (V1 m ρ) c _ rfl)) (ix3 b i l)).trans ?_
  rw [scores_flat, ← w1_0 m ρ c, ← w1_0 m ρ c]
  rfl

/-- The first level's best scores. -/
theorem b0_at (b : Fin 8) (i : Fin 19200) : W2 m ρ c (Proc.devRef .tc main_v3_1) (ix3 b i 0) =
    Finset.fold max ⊥ (fun l : Fin 80 => scores (KR m c b) (flat ⟨i.val, by omega⟩ l)) Finset.univ := by
  refine (congrFun ((hF0 m ρ c 2).symm.trans (best0 (V1 m ρ) c _ rfl)) (ix3 b i 0)).trans ?_
  simp only [scores_flat, ← w1_0 m ρ c, ninf]
  rfl

/-- The second level's scores. -/
theorem s1_at (b : Fin 8) (i : Fin 4800) (l : Fin 80) : W3 m ρ c (Proc.devRef .tc main_v4_0) (ix3 b i l) = scores (KR m c b) (flat ⟨19200 + i.val, by omega⟩ l) := by
  refine (congrFun ((hF1 m ρ c 1).symm.trans (score1 (V2 m ρ) c _ rfl)) (ix3 b i l)).trans ?_
  rw [scores_flat, ← w2_1 m ρ c, ← w2_1 m ρ c]
  rfl

/-- The second level's best scores. -/
theorem b1_at (b : Fin 8) (i : Fin 4800) : W3 m ρ c (Proc.devRef .tc main_v4_1) (ix3 b i 0) =
    Finset.fold max ⊥ (fun l : Fin 80 => scores (KR m c b) (flat ⟨19200 + i.val, by omega⟩ l)) Finset.univ := by
  refine (congrFun ((hF1 m ρ c 2).symm.trans (best1 (V2 m ρ) c _ rfl)) (ix3 b i 0)).trans ?_
  simp only [scores_flat, ← w2_1 m ρ c, ninf]
  rfl

/-- The third level's scores. -/
theorem s2_at (b : Fin 8) (i : Fin 1200) (l : Fin 80) : W4 m ρ c (Proc.devRef .tc main_v5_0) (ix3 b i l) = scores (KR m c b) (flat ⟨24000 + i.val, by omega⟩ l) := by
  refine (congrFun ((hF2 m ρ c 1).symm.trans (score2 (V3 m ρ) c _ rfl)) (ix3 b i l)).trans ?_
  rw [scores_flat, ← w3_2 m ρ c, ← w3_2 m ρ c]
  rfl

/-- The coordinates of all the boxes. -/
theorem coords_at (b : Fin 8) (q : Fin 4) (J : Fin 25200) : W5 m ρ c (Proc.devRef .tc main_v10) (ix3 b q J) = KR m c b J ⟨q.val, by omega⟩ := by
  refine (v10_at (W4 m ρ c) b J q).trans ?_
  by_cases h0 : J.val < 19200
  · rw [dif_pos h0, W4_of_ne m ρ c main_v0 (by decide), W3_of_ne m ρ c main_v0 (by decide), W2_of m ρ c main_v0 (by decide)]
    exact w1_0 m ρ c b ⟨J.val, h0⟩ _
  · rw [dif_neg h0]
    by_cases h1 : J.val < 24000
    · rw [dif_pos h1, W4_of_ne m ρ c main_v1 (by decide), W3_of m ρ c main_v1 (by decide)]
      refine (w2_1 m ρ c b ⟨J.val - 19200, by omega⟩ _).trans ?_
      exact congrArg (fun p => KR m c b p _) (Fin.ext (by simp; omega))
    · rw [dif_neg h1, W4_of m ρ c main_v2 (by decide)]
      refine (w3_2 m ρ c b ⟨J.val - 24000, by omega⟩ _).trans ?_
      exact congrArg (fun p => KR m c b p _) (Fin.ext (by simp; omega))

/-- The boxes' clipped corners. -/
theorem box_at (b : Fin 8) (q : Fin 4) (J : Fin 25200) : W6 m ρ c (Proc.devRef .tc main_v11) (ix3 b q J) = corners (KR m c b) J q := by
  refine (congrFun ((hF3 m ρ c 1).symm.trans (box_arr (V5 m ρ) c (fun i => corner (fun q => V5 m ρ c main_v10 (ix3 (i 0) q (i 2))) (i 2).val (i 1)) fun _ _ _ => rfl))
    (ix3 b q J)).trans ?_
  unfold corners
  simp only [← coords_at m ρ c]
  rfl

end Cert.Proof.Ker
-- ==== Proof.Take.lean ====
/- `take_along_axis` over a leading image axis, read at an index: the three gathers both programs print, the wrap of a
   negative index, and the in-bounds mask, for indices that are words of naturals below the axis's extent. -/
module

public import Idealize.ShloMosaic.Lib.StableHlo.ReadAt
public import Idealize.ShloMosaic.Lib.Tactic.WordOmega
public import Idealize.ShloMosaic.Lib.ReduceAll

@[expose] public section

noncomputable section

namespace Cert.Proof.Take

open Idealize.ShloMosaic

variable {α : Type}

/-- The word of a natural below 2^31, read signed. -/
theorem toNat_word (p : ℕ) (h : p < 2 ^ 31) : (BitVec.ofNat 32 p).toInt.toNat = p := by
  have e : (BitVec.ofNat 32 p).toNat = p := by rw [BitVec.toNat_ofNat]; omega
  rw [BitVec.toInt_eq_toNat_of_lt (by rw [e]; omega), e, Int.toNat_natCast]

section Rows
variable {B N K C : ℕ} (wf : GatherDims.WF ⟨3, ![B, N, C]⟩ ⟨3, ![B, K, 1]⟩ ⟨3, ![B, K, C]⟩ [2] [1] [0] [1] [0] 2 ![1, 1, C])

/-- The dimension numbers that take whole rows by image. -/
def rowsD : GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

/-- Row `j` of image `b` is the row its index names. -/
theorem rows_at (x : (⟨3, ![B, N, C]⟩ : Shape).Idx → α) (idx : IVec ⟨3, ![B, K, 1]⟩ 32) (b : Fin B) (j : Fin K) (l : Fin C)
    (p : Fin N) (hp : idx (ix3 b j 0) = BitVec.ofNat 32 p.val) (hN : N ≤ 2 ^ 31) :
    Host.gather (rowsD wf) x idx (ix3 b j l) = x (ix3 b p l) := by
  unfold Host.gather
  refine congrArg x (funext fun a => Fin.ext ?_)
  match a with
  | ⟨0, _⟩ =>
    show (rowsD wf).start (ix3 b j l) idx 0 + (rowsD wf).batchCoord (ix3 b j l) 0 + (rowsD wf).offCoord (ix3 b j l) 0 = b.val
    have h1 : (rowsD wf).start (ix3 b j l) idx 0 = 0 := rfl
    have h2 : (rowsD wf).batchCoord (ix3 b j l) 0 = b.val := rfl
    have h3 : (rowsD wf).offCoord (ix3 b j l) 0 = 0 := rfl
    omega
  | ⟨1, _⟩ =>
    show (rowsD wf).start (ix3 b j l) idx 1 + (rowsD wf).batchCoord (ix3 b j l) 1 + (rowsD wf).offCoord (ix3 b j l) 1 = p.val
    have h1 : (rowsD wf).start (ix3 b j l) idx 1 = min (idx (ix3 b j 0)).toInt.toNat (N - 1) := by
      show min (idx _).toInt.toNat (N - 1) = _
      congr 4
      funext a'
      match a' with
      | ⟨0, _⟩ => rfl
      | ⟨1, _⟩ => rfl
      | ⟨2, _⟩ => rfl
    have h2 : (rowsD wf).batchCoord (ix3 b j l) 1 = 0 := rfl
    have h3 : (rowsD wf).offCoord (ix3 b j l) 1 = 0 := rfl
    rw [hp, toNat_word _ (by omega)] at h1
    omega
  | ⟨2, _⟩ =>
    show (rowsD wf).start (ix3 b j l) idx 2 + (rowsD wf).batchCoord (ix3 b j l) 2 + (rowsD wf).offCoord (ix3 b j l) 2 = l.val
    have h1 : (rowsD wf).start (ix3 b j l) idx 2 = 0 := rfl
    have h2 : (rowsD wf).batchCoord (ix3 b j l) 2 = 0 := rfl
    have h3 : (rowsD wf).offCoord (ix3 b j l) 2 = l.val := rfl
    omega

end Rows

section Line
variable {B N K : ℕ} (wf : GatherDims.WF ⟨2, ![B, N]⟩ ⟨3, ![B, K, 1]⟩ ⟨2, ![B, K]⟩ [] [1] [0] [1] [0] 2 ![1, 1])

/-- The dimension numbers that take single entries by image. -/
def lineD : GatherDims ⟨2, ![B, N]⟩ ⟨3, ![B, K, 1]⟩ ⟨2, ![B, K]⟩ where
  offsetDims := []
  collapsedSliceDims := [1]
  operandBatchingDims := [0]
  startIndicesBatchingDims := [0]
  startIndexMap := [1]
  indexVectorDim := 2
  sliceSizes := ![1, 1]
  wf := wf

/-- Entry `j` of image `b` is the entry its index names. -/
theorem line_at (x : (⟨2, ![B, N]⟩ : Shape).Idx → α) (idx : IVec ⟨3, ![B, K, 1]⟩ 32) (b : Fin B) (j : Fin K)
    (p : Fin N) (hp : idx (ix3 b j 0) = BitVec.ofNat 32 p.val) (hN : N ≤ 2 ^ 31) :
    Host.gather (lineD wf) x idx (ix2 b j) = x (ix2 b p) := by
  unfold Host.gather
  refine congrArg x (funext fun a => Fin.ext ?_)
  match a with
  | ⟨0, _⟩ =>
    show (lineD wf).start (ix2 b j) idx 0 + (lineD wf).batchCoord (ix2 b j) 0 + (lineD wf).offCoord (ix2 b j) 0 = b.val
    have h1 : (lineD wf).start (ix2 b j) idx 0 = 0 := rfl
    have h2 : (lineD wf).batchCoord (ix2 b j) 0 = b.val := rfl
    have h3 : (lineD wf).offCoord (ix2 b j) 0 = 0 := rfl
    omega
  | ⟨1, _⟩ =>
    show (lineD wf).start (ix2 b j) idx 1 + (lineD wf).batchCoord (ix2 b j) 1 + (lineD wf).offCoord (ix2 b j) 1 = p.val
    have h1 : (lineD wf).start (ix2 b j) idx 1 = min (idx (ix3 b j 0)).toInt.toNat (N - 1) := by
      show min (idx _).toInt.toNat (N - 1) = _
      congr 4
      funext a'
      match a' with
      | ⟨0, _⟩ => rfl
      | ⟨1, _⟩ => rfl
      | ⟨2, _⟩ => rfl
    have h2 : (lineD wf).batchCoord (ix2 b j) 1 = 0 := rfl
    have h3 : (lineD wf).offCoord (ix2 b j) 1 = 0 := rfl
    rw [hp, toNat_word _ (by omega)] at h1
    omega

end Line

section Last
variable {B N K C : ℕ} (wf : GatherDims.WF ⟨3, ![B, C, N]⟩ ⟨3, ![B, K, 1]⟩ ⟨3, ![B, C, K]⟩ [1] [2] [0] [2] [0] 2 ![1, C, 1])

/-- The dimension numbers that take along the last axis by image, every row alike. -/
def lastD : GatherDims ⟨3, ![B, C, N]⟩ ⟨3, ![B, K, 1]⟩ ⟨3, ![B, C, K]⟩ where
  offsetDims := [1]
  collapsedSliceDims := [2]
  operandBatchingDims := [0]
  startIndicesBatchingDims := [0]
  startIndexMap := [2]
  indexVectorDim := 2
  sliceSizes := ![1, C, 1]
  wf := wf

/-- Column `j` of image `b` is the column its index names. -/
theorem last_at (x : (⟨3, ![B, C, N]⟩ : Shape).Idx → α) (idx : IVec ⟨3, ![B, K, 1]⟩ 32) (b : Fin B) (l : Fin C) (j : Fin K)
    (p : Fin N) (hp : idx (ix3 b j 0) = BitVec.ofNat 32 p.val) (hN : N ≤ 2 ^ 31) :
    Host.gather (lastD wf) x idx (ix3 b l j) = x (ix3 b l p) := by
  unfold Host.gather
  refine congrArg x (funext fun a => Fin.ext ?_)
  match a with
  | ⟨0, _⟩ =>
    show (lastD wf).start (ix3 b l j) idx 0 + (lastD wf).batchCoord (ix3 b l j) 0 + (lastD wf).offCoord (ix3 b l j) 0 = b.val
    have h1 : (lastD wf).start (ix3 b l j) idx 0 = 0 := rfl
    have h2 : (lastD wf).batchCoord (ix3 b l j) 0 = b.val := rfl
    have h3 : (lastD wf).offCoord (ix3 b l j) 0 = 0 := rfl
    omega
  | ⟨1, _⟩ =>
    show (lastD wf).start (ix3 b l j) idx 1 + (lastD wf).batchCoord (ix3 b l j) 1 + (lastD wf).offCoord (ix3 b l j) 1 = l.val
    have h1 : (lastD wf).start (ix3 b l j) idx 1 = 0 := rfl
    have h2 : (lastD wf).batchCoord (ix3 b l j) 1 = 0 := rfl
    have h3 : (lastD wf).offCoord (ix3 b l j) 1 = l.val := rfl
    omega
  | ⟨2, _⟩ =>
    show (lastD wf).start (ix3 b l j) idx 2 + (lastD wf).batchCoord (ix3 b l j) 2 + (lastD wf).offCoord (ix3 b l j) 2 = p.val
    have h1 : (lastD wf).start (ix3 b l j) idx 2 = min (idx (ix3 b j 0)).toInt.toNat (N - 1) := by
      show min (idx _).toInt.toNat (N - 1) = _
      congr 4
      funext a'
      match a' with
      | ⟨0, _⟩ => rfl
      | ⟨1, _⟩ => rfl
      | ⟨2, _⟩ => rfl
    have h2 : (lastD wf).batchCoord (ix3 b l j) 2 = 0 := rfl
    have h3 : (lastD wf).offCoord (ix3 b l j) 2 = 0 := rfl
    rw [hp, toNat_word _ (by omega)] at h1
    omega

end Last

/-- A negative index's wrap leaves the word of a small natural. -/
theorem wrap (p n : ℕ) (hp : p < 2 ^ 31) :
    Scalar.select (IntOp.cmpi .slt (BitVec.ofNat 32 p) 0#32) (IntOp.addi (BitVec.ofNat 32 p) (BitVec.ofNat 32 n)) (BitVec.ofNat 32 p)
      = BitVec.ofNat 32 p := by
  have : IntOp.cmpi .slt (BitVec.ofNat 32 p) 0#32 = 0#1 := by
    rw [show (0#32 : BitVec 32) = BitVec.ofNat 32 0 from rfl]
    word_omega
  rw [this]; rfl

/-- The two bounds hold of the word of a natural up to the last position. -/
theorem inBounds (p n : ℕ) (hp : p ≤ n) (hn : n < 2 ^ 31) :
    IntOp.andi (IntOp.cmpi .sge (BitVec.ofNat 32 p) 0#32) (IntOp.cmpi .sle (BitVec.ofNat 32 p) (BitVec.ofNat 32 n)) = 1#1 := by
  have h1 : IntOp.cmpi .sge (BitVec.ofNat 32 p) 0#32 = 1#1 := by
    rw [show (0#32 : BitVec 32) = BitVec.ofNat 32 0 from rfl]
    word_omega
  have h2 : IntOp.cmpi .sle (BitVec.ofNat 32 p) (BitVec.ofNat 32 n) = 1#1 := by word_omega
  rw [h1, h2]; rfl

end Cert.Proof.Take

end

end
-- ==== Proof.HostWords.lean ====
/- Words on the host: floor division, remainder and the guards of a lookup, at small numbers. -/
module

public import proofs.«01_k».proof.Proof.Take
public import Idealize.ShloMosaic.Lib.Routing.Words

@[expose] public section
namespace Cert.Proof.Take
open Idealize.ShloMosaic Idealize.ShloMosaic.Routing Idealize.ShloMosaic.WordCmp

/-- Floor division as the host spells it, on small words. -/
theorem host_floor (a b : ℕ) (ha : a < 2 ^ 31) (h0 : 0 < b) (hb : b < 2 ^ 31) :
    Scalar.select
      (IntOp.andi
        (IntOp.cmpi CmpIPredicate.ne
          (if BitVec.ofNat 32 a = 0 then (0 : BitVec 32) else if BitVec.msb (BitVec.ofNat 32 a) = true then -1 else 1)
          (if BitVec.ofNat 32 b = 0 then (0 : BitVec 32) else if BitVec.msb (BitVec.ofNat 32 b) = true then -1 else 1))
        (IntOp.cmpi CmpIPredicate.ne (IntOp.remsi ArithUnit.host (BitVec.ofNat 32 a) (BitVec.ofNat 32 b)) 0#32))
      (IntOp.subi (IntOp.divsi ArithUnit.host (BitVec.ofNat 32 a) (BitVec.ofNat 32 b)) 1#32)
      (IntOp.divsi ArithUnit.host (BitVec.ofNat 32 a) (BitVec.ofNat 32 b)) = BitVec.ofNat 32 (a / b) := by
  rw [divsi_word _ ha h0 hb, remsi_word _ ha h0 hb]
  have eb : BitVec.ofNat 32 b ≠ 0 := ofNat32_ne_zero h0 (by omega)
  have mb : BitVec.msb (BitVec.ofNat 32 b) = false := by
    rw [BitVec.msb_eq_false_iff_two_mul_lt, BitVec.toNat_ofNat]; omega
  have sb : (if BitVec.ofNat 32 b = 0 then (0 : BitVec 32) else if BitVec.msb (BitVec.ofNat 32 b) = true then -1 else 1) = 1 := by
    rw [if_neg eb, mb]; rfl
  rw [sb]
  rcases Nat.eq_zero_or_pos a with h | h
  · subst h
    simp [IntOp.andi, IntOp.cmpi, Scalar.select]
  · have ea : BitVec.ofNat 32 a ≠ 0 := ofNat32_ne_zero h (by omega)
    have ma : BitVec.msb (BitVec.ofNat 32 a) = false := by
      rw [BitVec.msb_eq_false_iff_two_mul_lt, BitVec.toNat_ofNat]; omega
    have sa : (if BitVec.ofNat 32 a = 0 then (0 : BitVec 32) else if BitVec.msb (BitVec.ofNat 32 a) = true then -1 else 1) = 1 := by
      rw [if_neg ea, ma]; rfl
    rw [sa]
    simp [IntOp.andi, IntOp.cmpi, Scalar.select]

/-- The remainder as the host spells it, on small words. -/
theorem host_mod (a b : ℕ) (ha : a < 2 ^ 31) (h0 : 0 < b) (hb : b < 2 ^ 31) :
    Scalar.select
      (IntOp.andi
        (IntOp.cmpi CmpIPredicate.ne
          (IntOp.cmpi CmpIPredicate.slt
            (IntOp.remsi ArithUnit.host (BitVec.ofNat 32 a)
              (Scalar.select (IntOp.cmpi CmpIPredicate.eq (BitVec.ofNat 32 b) 0#32) (1#32) (BitVec.ofNat 32 b)))
            0#32)
          (IntOp.cmpi CmpIPredicate.slt
            (Scalar.select (IntOp.cmpi CmpIPredicate.eq (BitVec.ofNat 32 b) 0#32) (1#32) (BitVec.ofNat 32 b))
            0#32))
        (IntOp.cmpi CmpIPredicate.ne
          (IntOp.remsi ArithUnit.host (BitVec.ofNat 32 a)
            (Scalar.select (IntOp.cmpi CmpIPredicate.eq (BitVec.ofNat 32 b) 0#32) (1#32) (BitVec.ofNat 32 b)))
          0#32))
      (IntOp.addi
        (IntOp.remsi ArithUnit.host (BitVec.ofNat 32 a)
          (Scalar.select (IntOp.cmpi CmpIPredicate.eq (BitVec.ofNat 32 b) 0#32) (1#32) (BitVec.ofNat 32 b)))
        (Scalar.select (IntOp.cmpi CmpIPredicate.eq (BitVec.ofNat 32 b) 0#32) (1#32) (BitVec.ofNat 32 b)))
      (IntOp.remsi ArithUnit.host (BitVec.ofNat 32 a)
        (Scalar.select (IntOp.cmpi CmpIPredicate.eq (BitVec.ofNat 32 b) 0#32) (1#32) (BitVec.ofNat 32 b))) = BitVec.ofNat 32 (a % b) := by
  have hm : a % b < 2 ^ 31 := lt_of_le_of_lt (Nat.mod_le a b) ha
  rw [show (0#32 : BitVec 32) = BitVec.ofNat 32 0 from rfl, cmpi_eq_ofNat (w := 32) (by omega) (by decide), select_decide, if_neg (by omega),
    remsi_word _ ha h0 hb, cmpi_slt_ofNat (w := 32) hm (by decide), cmpi_slt_ofNat (w := 32) hb (by decide)]
  simp [IntOp.andi, IntOp.cmpi, Scalar.select]

/-- The one guard of a lookup passes. -/
theorem guard_one (p n N : ℕ) (hp : p ≤ n) (hn : n < 2 ^ 31) :
    Finset.fold IntOp.andi (1#1)
        (fun _ : Fin 1 =>
          IntOp.andi
            (IntOp.cmpi CmpIPredicate.sge
              (Scalar.select (IntOp.cmpi CmpIPredicate.slt (BitVec.ofNat 32 p) 0#32) (IntOp.addi (BitVec.ofNat 32 p) (BitVec.ofNat 32 N)) (BitVec.ofNat 32 p))
              0#32)
            (IntOp.cmpi CmpIPredicate.sle
              (Scalar.select (IntOp.cmpi CmpIPredicate.slt (BitVec.ofNat 32 p) 0#32) (IntOp.addi (BitVec.ofNat 32 p) (BitVec.ofNat 32 N)) (BitVec.ofNat 32 p))
              (BitVec.ofNat 32 n)))
        Finset.univ = 1#1 := by
  rw [wrap p N (by omega), inBounds p n hp hn]
  rfl

end Cert.Proof.Take
-- ==== Proof.KHost2.lean ====
/- The kernel's candidates read at an index, from the scores to the sorted list of chosen pairs; each stretch of host operations for any contents before it. -/
module

public import proofs.«01_k».proof.Proof.Gen.KernelIdeal.Frame
public import proofs.«01_k».proof.Proof.HostSort
public import proofs.«01_k».proof.Proof.HostWords
public import proofs.«01_k».proof.Proof.Cand
public import proofs.«01_k».proof.Proof.Spec
public import Idealize.ShloMosaic.Lib.StableHlo.ReadAt

@[expose] public section
noncomputable section
namespace Cert.Proof.Ker
open Idealize.ShloMosaic Idealize.ShloMosaic.TcCoe Idealize.ShloMosaic.StableHlo Idealize.ShloMosaic.Tactic
open Cert.KernelIdeal Cert.KernelIdeal.Gen
open Cert.Proof.Model Cert.Proof.Select Cert.Proof.Take

set_option maxRecDepth 100000
variable (V : Valuation τ sig (Elt Ideal))

/-- The first level's best rows. -/
theorem indices_at (b : Fin 8) (j : Fin 1536) : after hostOps4 V (Proc.devRef .tc main_indices) (ix2 b j) =
    BitVec.ofNat 32 (best (fun i : Fin 19200 => V (Proc.devRef .tc main_v3_1) (ix3 b i 0)) (j.castLE (by decide))).val := by
  after_reads_at
  exact (topK_at _ _ b j (by decide)).2

/-- The second level's best rows. -/
theorem indices1_at (b : Fin 8) (j : Fin 1536) : after hostOps4 V (Proc.devRef .tc main_indices_1) (ix2 b j) =
    BitVec.ofNat 32 (best (fun i : Fin 4800 => V (Proc.devRef .tc main_v4_1) (ix3 b i 0)) (j.castLE (by decide))).val := by
  after_reads_at
  exact (topK_at _ _ b j (by decide)).2

/-- The first level's best rows, shaped for the lookup. -/
theorem v14_at (b : Fin 8) (j : Fin 1536) : after hostOps4 V (Proc.devRef .tc main_v14) (ix3 b j 0) =
    BitVec.ofNat 32 (best (fun i : Fin 19200 => V (Proc.devRef .tc main_v3_1) (ix3 b i 0)) (j.castLE (by decide))).val := by
  after_reads_at
  exact (topK_at _ _ b j (by decide)).2

/-- The first level's candidate scores. -/
theorem v15_at (r : Fin 1536 → Fin 19200) (b : Fin 8) (h : ∀ j, V (Proc.devRef .tc main_v14) (ix3 b j 0) = BitVec.ofNat 32 (r j).val)
    (j : Fin 1536) (l : Fin 80) : after hostOps4_1 V (Proc.devRef .tc main_v15) (ix3 b j l) = V (Proc.devRef .tc main_v3_0) (ix3 b (r j) l) := by
  have h' : ∀ x : Fin 1, V (Proc.devRef .tc main_v14) (ix3 b j x) = BitVec.ofNat 32 (r j).val := fun x => by rw [Subsingleton.elim x 0]; exact h j
  after_reads_at
  simp only [h']
  rw [guard_one (r j).val 19199 19200 (by omega) (by decide)]
  refine rows_at _ _ _ b j l (r j) ?_ (by decide)
  show Scalar.select (IntOp.cmpi .slt (V (Proc.devRef .tc main_v14) (ix3 b j 0)) 0#32) (IntOp.addi (V (Proc.devRef .tc main_v14) (ix3 b j 0)) 19200#32)
    (V (Proc.devRef .tc main_v14) (ix3 b j 0)) = _
  rw [h j]
  exact wrap _ _ (by omega)

/-- The second level's best rows, shaped for the lookup. -/
theorem v16_at (b : Fin 8) (j : Fin 1536) : after hostOps4_2 V (Proc.devRef .tc main_v16) (ix3 b j 0) = V (Proc.devRef .tc main_indices_1) (ix2 b j) := by
  after_reads_at

/-- The second level's candidate scores. -/
theorem v17_at (r : Fin 1536 → Fin 4800) (b : Fin 8) (h : ∀ j, V (Proc.devRef .tc main_v16) (ix3 b j 0) = BitVec.ofNat 32 (r j).val)
    (j : Fin 1536) (l : Fin 80) : after hostOps4_3 V (Proc.devRef .tc main_v17) (ix3 b j l) = V (Proc.devRef .tc main_v4_0) (ix3 b (r j) l) := by
  have h' : ∀ x : Fin 1, V (Proc.devRef .tc main_v16) (ix3 b j x) = BitVec.ofNat 32 (r j).val := fun x => by rw [Subsingleton.elim x 0]; exact h j
  after_reads_at
  simp only [h']
  rw [guard_one (r j).val 4799 4800 (by omega) (by decide)]
  refine rows_at _ _ _ b j l (r j) ?_ (by decide)
  show Scalar.select (IntOp.cmpi .slt (V (Proc.devRef .tc main_v16) (ix3 b j 0)) 0#32) (IntOp.addi (V (Proc.devRef .tc main_v16) (ix3 b j 0)) 4800#32)
    (V (Proc.devRef .tc main_v16) (ix3 b j 0)) = _
  rw [h j]
  exact wrap _ _ (by omega)

/-- The candidates' boxes. -/
theorem v27_at (r0 : Fin 19200 → Fin 19200) (r1 : Fin 4800 → Fin 4800) (b : Fin 8)
    (h0 : ∀ j : Fin 1536, V (Proc.devRef .tc main_indices) (ix2 b j) = BitVec.ofNat 32 (r0 (j.castLE (by decide))).val)
    (h1 : ∀ j : Fin 1536, V (Proc.devRef .tc main_indices_1) (ix2 b j) = BitVec.ofNat 32 (r1 (j.castLE (by decide))).val) (j : Fin 4272) :
    after hostOps4_4 V (Proc.devRef .tc main_v27) (ix2 b j) = BitVec.ofNat 32 (gbox r0 r1 j.val) := by
  after_reads_at
  unfold gbox
  by_cases h : j.val < 1536
  · rw [dif_pos h, dif_pos h]
    exact h0 _
  · rw [dif_neg h, dif_neg h]
    by_cases h' : j.val - 1536 < 1536
    · rw [dif_pos h', dif_pos (by omega)]
      after_reads_at
      rw [h1, WordCmp.addi_ofNat, Nat.add_comm]
      rfl
    · rw [dif_neg h', dif_neg (by omega)]
      after_reads_at
      rw [WordCmp.addi_ofNat, WordCmp.addi_ofNat]
      exact congrArg _ (by omega)

/-- The candidates' scores. -/
theorem v29_at (f : Fin 2016000 → EReal) (r0 : Fin 19200 → Fin 19200) (r1 : Fin 4800 → Fin 4800) (b : Fin 8)
    (h0 : ∀ (j : Fin 1536) (l : Fin 80), V (Proc.devRef .tc main_v15) (ix3 b j l) = f (flat ⟨(r0 (j.castLE (by decide))).val, by omega⟩ l))
    (h1 : ∀ (j : Fin 1536) (l : Fin 80), V (Proc.devRef .tc main_v17) (ix3 b j l) = f (flat ⟨19200 + (r1 (j.castLE (by decide))).val, by omega⟩ l))
    (h2 : ∀ (j : Fin 1200) (l : Fin 80), V (Proc.devRef .tc main_v5_0) (ix3 b j l) = f (flat ⟨24000 + j.val, by omega⟩ l)) (p : Fin 341760) :
    after hostOps4_4 V (Proc.devRef .tc main_v29) (ix2 b p) = f (cand r0 r1 p) := by
  after_reads_at
  have hc : ∀ (i : Fin 25200), gbox r0 r1 (p.val / 80) = i.val → f (flat i ⟨p.val % 80, by omega⟩) = f (cand r0 r1 p) := fun i hi => by
    unfold flat cand
    simp only [hi]
  by_cases h : p.val / 80 < 1536
  · rw [dif_pos h]
    after_reads_at
    rw [h0]
    exact hc _ (by unfold gbox; rw [dif_pos h]; rfl)
  · rw [dif_neg h]
    by_cases h' : p.val / 80 - 1536 < 1536
    · rw [dif_pos h']
      after_reads_at
      rw [h1]
      exact hc _ (by unfold gbox; rw [dif_neg h, dif_pos (by omega)]; rfl)
    · rw [dif_neg h']
      after_reads_at
      rw [h2]
      exact hc _ (by unfold gbox; rw [dif_neg h, dif_neg (by omega)]; simp only []; omega)

/-- The best candidates' scores. -/
theorem values4_at (b : Fin 8) (j : Fin 1000) : after hostOps4_4 V (Proc.devRef .tc main_values_4) (ix2 b j) =
    after hostOps4_4 V (Proc.devRef .tc main_v29) (ix2 b (best (fun p : Fin 341760 => after hostOps4_4 V (Proc.devRef .tc main_v29) (ix2 b p)) (j.castLE (by decide)))) := by
  refine Eq.trans ?_ (topK_at (after hostOps4_4 V (Proc.devRef .tc main_v29)) sliceFits_S8x341760_S8x1000 b j (by decide)).1
  after_reads_simp

/-- Where the best candidates stand. -/
theorem indices5_at (b : Fin 8) (j : Fin 1000) : after hostOps4_4 V (Proc.devRef .tc main_indices_5) (ix2 b j) =
    BitVec.ofNat 32 (best (fun p : Fin 341760 => after hostOps4_4 V (Proc.devRef .tc main_v29) (ix2 b p)) (j.castLE (by decide))).val := by
  refine Eq.trans ?_ (topK_at (after hostOps4_4 V (Proc.devRef .tc main_v29)) sliceFits_S8x341760_S8x1000 b j (by decide)).2
  after_reads_simp

/-- The divisor eighty. -/
theorem c6_at : after hostOps4_4 V (Proc.devRef .tc main_c_6) ix0 = BitVec.ofNat 32 80 := by
  after_reads_at

/-- A candidate's row. -/
theorem v30_at (b : Fin 8) (j : Fin 1000) (p : ℕ) (hp : p < 2 ^ 31) (h : V (Proc.devRef .tc main_indices_5) (ix2 b j) = BitVec.ofNat 32 p)
    (hc : V (Proc.devRef .tc main_c_6) ix0 = BitVec.ofNat 32 80) : after hostOps4_5 V (Proc.devRef .tc main_v30) (ix2 b j) = BitVec.ofNat 32 (p / 80) := by
  after_reads_at
  have hc' : id (V (Proc.devRef .tc main_c_6)) ix0 = BitVec.ofNat 32 80 := hc
  rw [h, hc']
  exact host_floor p 80 hp (by decide) (by decide)

/-- A candidate's box. -/
theorem v31_at (b : Fin 8) (j : Fin 1000) (p : Fin 4272) (h : V (Proc.devRef .tc main_v30) (ix2 b j) = BitVec.ofNat 32 p.val) :
    after hostOps4_6 V (Proc.devRef .tc main_v31) (ix2 b j) = V (Proc.devRef .tc main_v27) (ix2 b p) := by
  after_reads_at
  rw [h]
  rw [guard_one p.val 4271 4272 (by omega) (by decide)]
  refine line_at _ _ _ b j p ?_ (by decide)
  show Scalar.select (IntOp.cmpi .slt (V (Proc.devRef .tc main_v30) (ix2 b j)) 0#32) (IntOp.addi (V (Proc.devRef .tc main_v30) (ix2 b j)) 4272#32)
    (V (Proc.devRef .tc main_v30) (ix2 b j)) = _
  rw [h]
  exact wrap _ _ (by omega)

/-- Eighty times a candidate's box. -/
theorem v33_at (b : Fin 8) (j : Fin 1000) (p : ℕ) (h : V (Proc.devRef .tc main_v31) (ix2 b j) = BitVec.ofNat 32 p) :
    after hostOps4_7 V (Proc.devRef .tc main_v33) (ix2 b j) = BitVec.ofNat 32 (p * 80) := by
  after_reads_at
  rw [h]
  exact WordCmp.muli_ofNat p 80

/-- The divisor eighty. -/
theorem c8_at : after hostOps4_7 V (Proc.devRef .tc main_c_8) ix0 = BitVec.ofNat 32 80 := by
  after_reads_at

/-- A candidate's class. -/
theorem v34_at (b : Fin 8) (j : Fin 1000) (p : ℕ) (hp : p < 2 ^ 31) (h : V (Proc.devRef .tc main_indices_5) (ix2 b j) = BitVec.ofNat 32 p)
    (hc : V (Proc.devRef .tc main_c_8) ix0 = BitVec.ofNat 32 80) : after hostOps4_8 V (Proc.devRef .tc main_v34) (ix2 b j) = BitVec.ofNat 32 (p % 80) := by
  after_reads_at
  have hc' : id (V (Proc.devRef .tc main_c_8)) ix0 = BitVec.ofNat 32 80 := hc
  rw [h, hc']
  exact host_mod p 80 hp (by decide) (by decide)

/-- A key as the comparison reads it: itself. -/
theorem key_eq (k : EReal) : (Scalar.select (FloatOps.cmpf (F := Ideal) (φ := .f32) .une k k) (FloatOps.ofBits (F := Ideal) .f32 0x7FC00000#32)
    (Scalar.select (FloatOps.cmpf (F := Ideal) (φ := .f32) .oeq k (FloatOps.ofBits (F := Ideal) .f32 0x00000000#32)) (FloatOps.ofBits (F := Ideal) .f32 0x00000000#32) k) : EReal) = k := by
  have h1 : FloatOps.cmpf (F := Ideal) (φ := .f32) .une k k = 0#1 := by
    show BitVec.ofBool (decide (k ≠ k)) = 0#1
    simp
  rw [h1]
  show Scalar.select (BitVec.ofBool (decide (k = Ideal.ofBits .f32 0#32))) (Ideal.ofBits .f32 0#32) k = k
  rw [WordCmp.select_decide]
  by_cases h : k = Ideal.ofBits .f32 0#32
  · rw [if_pos h, h]
  · rw [if_neg h]

/-- The comparison of the last sort: by descending score, then by pair. -/
theorem cmp_before (f : Fin 2016000 → EReal) (p q : Fin 2016000) (x y : EReal) (hx : x = f p) (hy : y = f q) :
    (comparator_f32_i32_f32_d1 (F := Ideal) ((-x : EReal), BitVec.ofNat 32 p.val, x) ((-y : EReal), BitVec.ofNat 32 q.val, y) == 1#1) = true ↔ Before f p q := by
  subst hx hy
  unfold comparator_f32_i32_f32_d1 Before
  simp only []
  rw [key_eq, key_eq, WordCmp.cmpi_slt_ofNat (w := 32) (by omega) (by omega)]
  show (IntOp.ori (BitVec.ofBool (decide (-f p < -f q))) (IntOp.andi (BitVec.ofBool (decide (-f p = -f q))) (BitVec.ofBool (decide (p.val < q.val)))) == 1#1) = true ↔ _
  simp only [EReal.neg_lt_neg_iff, neg_inj]
  by_cases h1 : f q < f p <;> by_cases h2 : f p = f q <;> by_cases h3 : p < q <;> simp [h1, h2, h3, IntOp.ori, IntOp.andi]

/-- The negated scores, as the last sort's keys. -/
def keys (x : (⟨2, ![8, 1000]⟩ : Shape).Idx → EReal) : (⟨2, ![8, 1000]⟩ : Shape).Idx → EReal := fun i => -(x i)

/-- The chosen pairs and their scores, in the order of the last sort. -/
theorem sorted_at (f : Fin 2016000 → EReal) (b : Fin 8) (P : Fin 1000 → Fin 2016000) (hP : Function.Injective P)
    (h4 : ∀ j, V (Proc.devRef .tc main_values_4) (ix2 b j) = f (P j))
    (h35 : ∀ j, IntOp.addi (V (Proc.devRef .tc main_v33) (ix2 b j)) (V (Proc.devRef .tc main_v34) (ix2 b j)) = BitVec.ofNat 32 (P j).val) :
    ∃ e3 : Fin 1000 → Fin 1000, Function.Injective e3 ∧ (∀ i j : Fin 1000, i < j → Before f (P (e3 i)) (P (e3 j)))
      ∧ ∀ j, after hostOps4_9 V (Proc.devRef .tc main_v37_1) (ix2 b j) = BitVec.ofNat 32 (P (e3 j)).val
        ∧ after hostOps4_9 V (Proc.devRef .tc main_v37_2) (ix2 b j) = f (P (e3 j)) := by
  refine ⟨order3 (comparator_f32_i32_f32_d1 (F := Ideal)) (keys (V (Proc.devRef .tc main_values_4))) (addi (V (Proc.devRef .tc main_v33)) (V (Proc.devRef .tc main_v34)))
    (V (Proc.devRef .tc main_values_4)) b, sortedFrom_injective _, fun i j hij => ?_, fun j => ⟨?_, ?_⟩⟩
  · refine order3_before f P hP _ (fun k k' => ?_) i j hij
    refine Iff.trans (iff_of_eq ?_) (cmp_before f _ _ _ _ (h4 k) (h4 k'))
    rw [← h35, ← h35]
    rfl
  · refine Eq.trans ?_ ((sort3_at (comparator_f32_i32_f32_d1 (F := Ideal)) (keys (V (Proc.devRef .tc main_values_4))) (addi (V (Proc.devRef .tc main_v33)) (V (Proc.devRef .tc main_v34))) (V (Proc.devRef .tc main_values_4)) b j).1.trans (h35 _))
    after_reads_simp
    rfl
  · refine Eq.trans ?_ ((sort3_at (comparator_f32_i32_f32_d1 (F := Ideal)) (keys (V (Proc.devRef .tc main_values_4))) (addi (V (Proc.devRef .tc main_v33)) (V (Proc.devRef .tc main_v34))) _ b j).2.trans (h4 _))
    after_reads_simp
    rfl

end Cert.Proof.Ker
-- ==== Proof.KHost3.lean ====
/- The kernel's chosen pairs, from its launch to its last sort. -/
module

public import proofs.«01_k».proof.Proof.KHost1
public import proofs.«01_k».proof.Proof.KHost2

@[expose] public section
noncomputable section
namespace Cert.Proof.Ker
open Idealize.ShloMosaic Idealize.ShloMosaic.TcCoe Idealize.ShloMosaic.StableHlo Idealize.ShloMosaic.Tactic
open Cert.KernelIdeal Cert.KernelIdeal.Gen
open Cert.Proof.Model Cert.Proof.Select Cert.Proof.Take

set_option maxRecDepth 100000
variable (m : (ℓ : Loc nD τ sig) → Buf (Elt Ideal) ℓ) (ρ : Dev nD → PrngReg) (c : Dev nD) (b : Fin 8)

/-- The kernel's scores. -/
abbrev KF : Fin 2016000 → EReal := scores (KR m c b)

/-- The first level's rows in the order of their best scores. -/
def rank0 : Fin 19200 → Fin 19200 := best (fun i => Finset.fold max ⊥ (fun l : Fin 80 => KF m c b (flat ⟨i.val, by omega⟩ l)) Finset.univ)
/-- The second level's rows in the order of their best scores. -/
def rank1 : Fin 4800 → Fin 4800 := best (fun i => Finset.fold max ⊥ (fun l : Fin 80 => KF m c b (flat ⟨19200 + i.val, by omega⟩ l)) Finset.univ)
/-- The candidates in the order of their scores. -/
def cands : Fin 341760 → Fin 341760 := best (fun p => KF m c b (cand (rank0 m c b) (rank1 m c b) p))

/-- The first level's best scores before the first pick. -/
theorem w6_b0 (i : Fin 19200) : W6 m ρ c (Proc.devRef .tc main_v3_1) (ix3 b i 0) =
    Finset.fold max ⊥ (fun l : Fin 80 => KF m c b (flat ⟨i.val, by omega⟩ l)) Finset.univ := by
  rw [W6_of_ne m ρ c main_v3_1 (by decide), W5_of m ρ c main_v3_1 (by decide), W4_of_ne m ρ c main_v3_1 (by decide), W3_of_ne m ρ c main_v3_1 (by decide)]
  exact b0_at m ρ c b i

/-- The second level's best scores before the second pick. -/
theorem w6_b1 (i : Fin 4800) : W6 m ρ c (Proc.devRef .tc main_v4_1) (ix3 b i 0) =
    Finset.fold max ⊥ (fun l : Fin 80 => KF m c b (flat ⟨19200 + i.val, by omega⟩ l)) Finset.univ := by
  rw [W6_of_ne m ρ c main_v4_1 (by decide), W5_of m ρ c main_v4_1 (by decide), W4_of_ne m ρ c main_v4_1 (by decide)]
  exact b1_at m ρ c b i

/-- The first level's rows picked. -/
theorem w7_i0 (j : Fin 1536) : W7 m ρ c (Proc.devRef .tc main_indices) (ix2 b j) = BitVec.ofNat 32 (rank0 m c b (j.castLE (by decide))).val := by
  refine (indices_at (W6 m ρ c) b j).trans ?_
  exact congrArg (fun f => BitVec.ofNat 32 (best f (j.castLE (by decide) : Fin 19200)).val) (funext (w6_b0 m ρ c b))

/-- The same, shaped for the lookup. -/
theorem w7_v14 (j : Fin 1536) : W7 m ρ c (Proc.devRef .tc main_v14) (ix3 b j 0) = BitVec.ofNat 32 (rank0 m c b (j.castLE (by decide))).val := by
  refine (v14_at (W6 m ρ c) b j).trans ?_
  exact congrArg (fun f => BitVec.ofNat 32 (best f (j.castLE (by decide) : Fin 19200)).val) (funext (w6_b0 m ρ c b))

/-- The second level's rows picked. -/
theorem w7_i1 (j : Fin 1536) : W7 m ρ c (Proc.devRef .tc main_indices_1) (ix2 b j) = BitVec.ofNat 32 (rank1 m c b (j.castLE (by decide))).val := by
  refine (indices1_at (W6 m ρ c) b j).trans ?_
  exact congrArg (fun f => BitVec.ofNat 32 (best f (j.castLE (by decide) : Fin 4800)).val) (funext (w6_b1 m ρ c b))

/-- The first level's candidate scores. -/
theorem w8_v15 (j : Fin 1536) (l : Fin 80) : W8 m ρ c (Proc.devRef .tc main_v15) (ix3 b j l) =
    KF m c b (flat ⟨(rank0 m c b (j.castLE (by decide))).val, by omega⟩ l) := by
  refine (v15_at (W7 m ρ c) (fun j => rank0 m c b (j.castLE (by decide))) b (w7_v14 m ρ c b) j l).trans ?_
  rw [W7_of m ρ c main_v3_0 (by decide), W6_of_ne m ρ c main_v3_0 (by decide), W5_of m ρ c main_v3_0 (by decide), W4_of_ne m ρ c main_v3_0 (by decide), W3_of_ne m ρ c main_v3_0 (by decide)]
  exact s0_at m ρ c b _ l

/-- The second level's candidate scores. -/
theorem w10_v17 (j : Fin 1536) (l : Fin 80) : W10 m ρ c (Proc.devRef .tc main_v17) (ix3 b j l) =
    KF m c b (flat ⟨19200 + (rank1 m c b (j.castLE (by decide))).val, by omega⟩ l) := by
  refine (v17_at (W9 m ρ c) (fun j => rank1 m c b (j.castLE (by decide))) b (fun j => ?_) j l).trans ?_
  · refine (v16_at (W8 m ρ c) b j).trans ?_
    rw [W8_of m ρ c main_indices_1 (by decide)]
    exact w7_i1 m ρ c b j
  rw [W9_of m ρ c main_v4_0 (by decide), W8_of m ρ c main_v4_0 (by decide), W7_of m ρ c main_v4_0 (by decide), W6_of_ne m ρ c main_v4_0 (by decide), W5_of m ρ c main_v4_0 (by decide),
    W4_of_ne m ρ c main_v4_0 (by decide)]
  exact s1_at m ρ c b _ l

/-- The candidates' boxes. -/
theorem w11_v27 (j : Fin 4272) : W11 m ρ c (Proc.devRef .tc main_v27) (ix2 b j) = BitVec.ofNat 32 (gbox (rank0 m c b) (rank1 m c b) j.val) := by
  refine v27_at (W10 m ρ c) _ _ b (fun j => ?_) (fun j => ?_) j
  · rw [W10_of m ρ c main_indices (by decide), W9_of m ρ c main_indices (by decide), W8_of m ρ c main_indices (by decide)]
    exact w7_i0 m ρ c b j
  · rw [W10_of m ρ c main_indices_1 (by decide), W9_of m ρ c main_indices_1 (by decide), W8_of m ρ c main_indices_1 (by decide)]
    exact w7_i1 m ρ c b j

/-- The candidates' scores. -/
theorem w11_v29 (p : Fin 341760) : W11 m ρ c (Proc.devRef .tc main_v29) (ix2 b p) = KF m c b (cand (rank0 m c b) (rank1 m c b) p) := by
  refine v29_at (W10 m ρ c) _ _ _ b (fun j l => ?_) (fun j l => w10_v17 m ρ c b j l) (fun j l => ?_) p
  · rw [W10_of m ρ c main_v15 (by decide), W9_of m ρ c main_v15 (by decide)]
    exact w8_v15 m ρ c b j l
  · rw [W10_of m ρ c main_v5_0 (by decide), W9_of m ρ c main_v5_0 (by decide), W8_of m ρ c main_v5_0 (by decide), W7_of m ρ c main_v5_0 (by decide), W6_of_ne m ρ c main_v5_0 (by decide), W5_of m ρ c main_v5_0 (by decide)]
    exact s2_at m ρ c b j l

/-- The best candidates' scores. -/
theorem w11_values (j : Fin 1000) : W11 m ρ c (Proc.devRef .tc main_values_4) (ix2 b j) =
    KF m c b (cand (rank0 m c b) (rank1 m c b) (cands m c b (j.castLE (by decide)))) := by
  refine (values4_at (W10 m ρ c) b j).trans ?_
  refine (w11_v29 m ρ c b _).trans ?_
  exact congrArg (fun f => KF m c b (cand (rank0 m c b) (rank1 m c b) (best f (j.castLE (by decide))))) (funext (w11_v29 m ρ c b))

/-- Where the best candidates stand. -/
theorem w11_indices (j : Fin 1000) : W11 m ρ c (Proc.devRef .tc main_indices_5) (ix2 b j) = BitVec.ofNat 32 (cands m c b (j.castLE (by decide))).val := by
  refine (indices5_at (W10 m ρ c) b j).trans ?_
  exact congrArg (fun f => BitVec.ofNat 32 (best f (j.castLE (by decide) : Fin 341760)).val) (funext (w11_v29 m ρ c b))

/-- The best candidates' boxes, times eighty. -/
theorem w14_v33 (j : Fin 1000) : W14 m ρ c (Proc.devRef .tc main_v33) (ix2 b j) =
    BitVec.ofNat 32 (gbox (rank0 m c b) (rank1 m c b) ((cands m c b (j.castLE (by decide))).val / 80) * 80) := by
  refine v33_at (W13 m ρ c) b j _ ?_
  refine (v31_at (W12 m ρ c) b j ⟨(cands m c b (j.castLE (by decide))).val / 80, by omega⟩ ?_).trans ?_
  · exact v30_at (W11 m ρ c) b j _ (by omega) (w11_indices m ρ c b j) (c6_at (W10 m ρ c))
  · rw [W12_of m ρ c main_v27 (by decide)]
    exact w11_v27 m ρ c b _

/-- The best candidates' classes. -/
theorem w15_v34 (j : Fin 1000) : W15 m ρ c (Proc.devRef .tc main_v34) (ix2 b j) = BitVec.ofNat 32 ((cands m c b (j.castLE (by decide))).val % 80) := by
  refine v34_at (W14 m ρ c) b j _ (by omega) ?_ (c8_at (W13 m ρ c))
  rw [W14_of m ρ c main_indices_5 (by decide), W13_of m ρ c main_indices_5 (by decide), W12_of m ρ c main_indices_5 (by decide)]
  exact w11_indices m ρ c b j

/-- A line's listing repeats nothing. -/
theorem best_injective {N : ℕ} (f : Fin N → EReal) : Function.Injective (best f) := sortedFrom_injective _

/-- No pair is chosen twice. -/
theorem chosen_inj {i j : Fin 1000} (h : cand (rank0 m c b) (rank1 m c b) (cands m c b (i.castLE (by decide))) =
    cand (rank0 m c b) (rank1 m c b) (cands m c b (j.castLE (by decide)))) : i = j := by
  have h0 : Function.Injective (rank0 m c b) := best_injective _
  have h1 : Function.Injective (rank1 m c b) := best_injective _
  have h2 : Function.Injective (cands m c b) := best_injective _
  exact Fin.castLE_injective _ (h2 (cand_inj _ _ h0 h1 h))

/-- The chosen pairs, after the last sort. -/
theorem chosen : ∃ e3 : Fin 1000 → Fin 1000, Function.Injective e3
    ∧ (∀ i j : Fin 1000, i < j → Before (KF m c b) (cand (rank0 m c b) (rank1 m c b) (cands m c b ((e3 i).castLE (by decide))))
        (cand (rank0 m c b) (rank1 m c b) (cands m c b ((e3 j).castLE (by decide)))))
    ∧ ∀ j, W16 m ρ c (Proc.devRef .tc main_v37_1) (ix2 b j) = BitVec.ofNat 32 (cand (rank0 m c b) (rank1 m c b) (cands m c b ((e3 j).castLE (by decide)))).val
      ∧ W16 m ρ c (Proc.devRef .tc main_v37_2) (ix2 b j) = KF m c b (cand (rank0 m c b) (rank1 m c b) (cands m c b ((e3 j).castLE (by decide)))) := by
  refine sorted_at (W15 m ρ c) (KF m c b) b (fun j => cand (rank0 m c b) (rank1 m c b) (cands m c b (j.castLE (by decide)))) ?_ (fun j => ?_) (fun j => ?_)
  · exact fun i j h => chosen_inj m c b h
  · rw [W15_of m ρ c main_values_4 (by decide), W14_of m ρ c main_values_4 (by decide), W13_of m ρ c main_values_4 (by decide), W12_of m ρ c main_values_4 (by decide)]
    exact w11_values m ρ c b j
  · rw [w15_v34, W15_of m ρ c main_v33 (by decide), w14_v33, WordCmp.addi_ofNat]
    rfl

end Cert.Proof.Ker
-- ==== Proof.KHost4.lean ====
/- The kernel from its chosen pairs to the lines its suppression works on, for any contents before each stretch of host operations. -/
module

public import proofs.«01_k».proof.Proof.Gen.KernelIdeal.Frame
public import proofs.«01_k».proof.Proof.HostWords
public import proofs.«01_k».proof.Proof.KBox
public import proofs.«01_k».proof.Proof.Spec
public import Idealize.ShloMosaic.Lib.StableHlo.ReadAt

@[expose] public section
noncomputable section
namespace Cert.Proof.Ker
open Idealize.ShloMosaic Idealize.ShloMosaic.TcCoe Idealize.ShloMosaic.StableHlo Idealize.ShloMosaic.Tactic
open Cert.KernelIdeal Cert.KernelIdeal.Gen
open Cert.Proof.Model Cert.Proof.Select Cert.Proof.Take

set_option maxRecDepth 100000
variable (V : Valuation τ sig (Elt Ideal))

/-- The divisor eighty. -/
theorem c9_at : after hostOps4_9 V (Proc.devRef .tc main_c_9) ix0 = BitVec.ofNat 32 80 := by
  after_reads_at

/-- The divisor eighty. -/
theorem c10_at : after hostOps4_11 V (Proc.devRef .tc main_c_10) ix0 = BitVec.ofNat 32 80 := by
  after_reads_at

/-- A chosen pair's box. -/
theorem v38_at (b : Fin 8) (j : Fin 1000) (p : ℕ) (hp : p < 2 ^ 31) (h : V (Proc.devRef .tc main_v37_1) (ix2 b j) = BitVec.ofNat 32 p)
    (hc : V (Proc.devRef .tc main_c_9) ix0 = BitVec.ofNat 32 80) : after hostOps4_10 V (Proc.devRef .tc main_v38) (ix2 b j) = BitVec.ofNat 32 (p / 80) := by
  after_reads_at
  have hc' : id (V (Proc.devRef .tc main_c_9)) ix0 = BitVec.ofNat 32 80 := hc
  rw [h, hc']
  exact host_floor p 80 hp (by decide) (by decide)

/-- A chosen pair's class. -/
theorem v39_at (b : Fin 8) (j : Fin 1000) (p : ℕ) (hp : p < 2 ^ 31) (h : V (Proc.devRef .tc main_v37_1) (ix2 b j) = BitVec.ofNat 32 p)
    (hc : V (Proc.devRef .tc main_c_10) ix0 = BitVec.ofNat 32 80) : after hostOps4_12 V (Proc.devRef .tc main_v39) (ix2 b j) = BitVec.ofNat 32 (p % 80) := by
  after_reads_at
  have hc' : id (V (Proc.devRef .tc main_c_10)) ix0 = BitVec.ofNat 32 80 := hc
  rw [h, hc']
  exact host_mod p 80 hp (by decide) (by decide)

/-- The chosen boxes, shaped for the lookup. -/
theorem v40_at (b : Fin 8) (j : Fin 1000) : after hostOps4_13 V (Proc.devRef .tc main_v40) (ix3 b 0 j) = V (Proc.devRef .tc main_v38) (ix2 b j) := by
  after_reads_at

/-- The chosen boxes' corners. -/
theorem v41_at (b : Fin 8) (q : Fin 4) (j : Fin 1000) (p : Fin 25200) (h : V (Proc.devRef .tc main_v40) (ix3 b 0 j) = BitVec.ofNat 32 p.val) :
    after hostOps4_14 V (Proc.devRef .tc main_v41) (ix3 b q j) = V (Proc.devRef .tc main_v11) (ix3 b q p) := by
  after_reads_at
  rw [h]
  rw [guard_one p.val 25199 25200 (by omega) (by decide)]
  refine last_at _ _ _ b q j p ?_ (by decide)
  show Scalar.select (IntOp.cmpi .slt (V (Proc.devRef .tc main_v40) (ix3 b 0 j)) 0#32) (IntOp.addi (V (Proc.devRef .tc main_v40) (ix3 b 0 j)) 25200#32)
    (V (Proc.devRef .tc main_v40) (ix3 b 0 j)) = _
  rw [h]
  exact wrap _ _ (by omega)

/-- The chosen boxes moved to their classes. -/
theorem v47_at (b : Fin 8) (q : Fin 4) (j : Fin 1000) (l : ℕ) (hl : l < 80) (h : V (Proc.devRef .tc main_v39) (ix2 b j) = BitVec.ofNat 32 l) :
    after hostOps4_15 V (Proc.devRef .tc main_v47) (ix3 b q j) = moved (fun q => V (Proc.devRef .tc main_v41) (ix3 b q j)) l q := by
  after_reads_at
  rw [h]
  unfold moved spacing
  rw [← word_real l (by omega)]

/-- The chosen boxes' areas. -/
theorem v58_at (b : Fin 8) (j : Fin 1000) (l : ℕ) (hl : l < 80) (h : V (Proc.devRef .tc main_v39) (ix2 b j) = BitVec.ofNat 32 l) :
    after hostOps4_15 V (Proc.devRef .tc main_v58) (ix2 b j) = area (moved (fun q => V (Proc.devRef .tc main_v41) (ix3 b q j)) l) := by
  after_reads_at
  rw [h]
  unfold area moved spacing
  rw [← word_real l (by omega)]

/-- The boxes padded to whole lines. -/
theorem v59_at (b : Fin 8) (q : Fin 4) (j : Fin 1000) :
    after hostOps4_16 V (Proc.devRef .tc main_v59) (ix3 b q (j.castLE (by decide))) = V (Proc.devRef .tc main_v47) (ix3 b q j) := by
  after_reads_at
  exact dif_pos j.isLt

/-- The areas padded to whole lines. -/
theorem v60_at (b : Fin 8) (j : Fin 1000) :
    after hostOps4_18 V (Proc.devRef .tc main_v60) (ix2 b (j.castLE (by decide))) = V (Proc.devRef .tc main_v58) (ix2 b j) := by
  after_reads_at
  exact dif_pos j.isLt

/-- The padding of the scores. -/
theorem cst13_at (i : S_.Idx) : after hostOps4_19 V (Proc.devRef .tc main_cst_13) i = neg1 := by
  after_reads_at
  rfl

/-- The scores padded to whole lines. -/
theorem v61_at (b : Fin 8) (j : Fin 1024) (hc : ∀ i, V (Proc.devRef .tc main_cst_13) i = neg1) : after hostOps4_20 V (Proc.devRef .tc main_v61) (ix2 b j) =
    if h : j.val < 1000 then V (Proc.devRef .tc main_v37_2) (ix2 b ⟨j.val, h⟩) else neg1 := by
  after_reads_at
  by_cases h : j.val < 1000
  · rw [dif_pos h, dif_pos h]
  · rw [dif_neg h, dif_neg h]
    exact hc _

/-- The lines' corners. -/
theorem v65_corner (b : Fin 8) (q : Fin 6) (hq : q.val < 4) (s : Fin 8) (l : Fin 128) : after hostOps4_21 V (Proc.devRef .tc main_v65) (ix4 b q s l) =
    V (Proc.devRef .tc main_v59) (ix3 b ⟨q.val, hq⟩ ⟨128 * s.val + l.val, by omega⟩) := by
  after_reads_at
  rw [dif_pos hq]
  after_reads_at
  exact congrArg _ (congrArg (ix3 b _) (Fin.ext (by simp only []; omega)))

/-- The lines' areas. -/
theorem v65_area (b : Fin 8) (q : Fin 6) (hq : q.val = 4) (s : Fin 8) (l : Fin 128) : after hostOps4_21 V (Proc.devRef .tc main_v65) (ix4 b q s l) =
    V (Proc.devRef .tc main_v60) (ix2 b ⟨128 * s.val + l.val, by omega⟩) := by
  after_reads_at
  rw [dif_neg (by omega), dif_pos (by omega)]
  after_reads_at
  exact congrArg _ (congrArg (ix2 b) (Fin.ext (by simp only []; omega)))

/-- The lines' scores. -/
theorem v65_score (b : Fin 8) (q : Fin 6) (hq : q.val = 5) (s : Fin 8) (l : Fin 128) : after hostOps4_21 V (Proc.devRef .tc main_v65) (ix4 b q s l) =
    V (Proc.devRef .tc main_v61) (ix2 b ⟨128 * s.val + l.val, by omega⟩) := by
  after_reads_at
  rw [dif_neg (by omega), dif_neg (by omega)]
  after_reads_at
  exact congrArg _ (congrArg (ix2 b) (Fin.ext (by simp only []; omega)))

/-- The rows' corners. -/
theorem v70_corner (b : Fin 8) (q : Fin 8) (hq : q.val < 4) (j : Fin 1024) : after hostOps4_21 V (Proc.devRef .tc main_v70) (ix3 b j q) =
    V (Proc.devRef .tc main_v59) (ix3 b ⟨q.val, hq⟩ j) := by
  after_reads_at
  rw [dif_pos hq]
  after_reads_at

/-- The rows' areas. -/
theorem v70_area (b : Fin 8) (q : Fin 8) (hq : q.val = 4) (j : Fin 1024) : after hostOps4_21 V (Proc.devRef .tc main_v70) (ix3 b j q) =
    V (Proc.devRef .tc main_v60) (ix2 b j) := by
  after_reads_at
  rw [dif_neg (by omega), dif_pos (by omega)]
  after_reads_at

end Cert.Proof.Ker
-- ==== Proof.KNms.lean ====
/- The kernel's suppression call: what it writes is the kept scores, minus one where suppressed. -/
module

public import proofs.«01_k».proof.Proof.Gen.KernelIdeal.Frame
public import proofs.«01_k».proof.Proof.Model
public import Idealize.ShloMosaic.Lib.StableHlo.ReadAt
public import Idealize.ShloMosaic.Lib.Pipeline.ValueKit
public import Idealize.ShloMosaic.Lib.WordArith.Masks

@[expose] public section
noncomputable section
/-! What the suppression call leaves: every kept score, and minus one elsewhere. -/
namespace Cert.Proof.Ker
open Idealize.ShloMosaic Idealize.ShloMosaic.TcCoe Idealize.ShloMosaic.StableHlo Idealize.ShloMosaic.Tactic
open Cert.KernelIdeal Cert.KernelIdeal.Gen
open Cert.Proof.Model
open Classical in
/-- One or zero, as a condition holds or not. -/
def ind (p : Prop) : EReal := if p then 1 else 0

/-- A truth's number is one. -/
theorem ind_pos {p : Prop} (h : p) : ind p = 1 := if_pos h
/-- A falsehood's number is zero. -/
theorem ind_neg {p : Prop} (h : ¬ p) : ind p = 0 := if_neg h

set_option maxRecDepth 100000

/-- The place of a lane, as a word. -/
theorem lane_word (s : Fin 8) (l : Fin 128) :
    IntOp.addi (IntOp.muli (BitVec.ofNat 32 s.val) 128#32) (BitVec.ofNat 32 l.val) = BitVec.ofNat 32 (128 * s.val + l.val) := by
  apply BitVec.eq_of_toNat_eq
  simp [IntOp.addi, IntOp.muli, BitVec.toNat_ofNat]
  omega

/-- The counter of round `k`, as a word. -/
theorem counter_word (k : ℕ) (hk : k < 2 ^ 32) : Scf.iv 0#32 1#32 k = BitVec.ofNat 32 k := by
  apply BitVec.eq_of_toNat_eq
  rw [WordArith.toNat_iv_zero_one k hk, BitVec.toNat_ofNat, Nat.mod_eq_of_lt hk]

/-- Signed comparison of two small words. -/
theorem sgt_word (a b : ℕ) (ha : a < 2 ^ 31) (hb : b < 2 ^ 31) :
    IntOp.cmpi .sgt (BitVec.ofNat 32 a) (BitVec.ofNat 32 b) = BitVec.ofBool (decide (b < a)) := by
  have h1 : (BitVec.ofNat 32 a).toNat = a := by rw [BitVec.toNat_ofNat]; omega
  have h2 : (BitVec.ofNat 32 b).toNat = b := by rw [BitVec.toNat_ofNat]; omega
  have e1 : (BitVec.ofNat 32 a).toInt = a := by rw [BitVec.toInt_eq_toNat_of_lt (by omega), h1]
  have e2 : (BitVec.ofNat 32 b).toInt = b := by rw [BitVec.toInt_eq_toNat_of_lt (by omega), h2]
  simp [IntOp.cmpi, BitVec.slt, e1, e2]

/-- Equality of two small words. -/
theorem eq_word (a b : ℕ) (ha : a < 2 ^ 31) (hb : b < 2 ^ 31) :
    IntOp.cmpi .eq (BitVec.ofNat 32 a) (BitVec.ofNat 32 b) = BitVec.ofBool (decide (a = b)) := by
  have h : (BitVec.ofNat 32 a = BitVec.ofNat 32 b) ↔ a = b := by
    constructor
    · intro h
      have := congrArg BitVec.toNat h
      simp only [BitVec.toNat_ofNat] at this
      omega
    · rintro rfl; rfl
  simp [IntOp.cmpi]
  by_cases e : a = b
  · simp [e]
  · have : (BitVec.ofNat 32 a == BitVec.ofNat 32 b) = false := by simpa using fun c => e (h.mp c)
    simp [e, this]

/-- One lane's arithmetic of a round: dropped when suppressed by a kept one. -/
theorem ind_step (q r p k : Prop) [Decidable q] [Decidable r] :
    ind p * (1 - Scalar.select (IntOp.andi (BitVec.ofBool (decide q)) (BitVec.ofBool (decide r))) (ind k) 0) = ind (p ∧ ¬ ((q ∧ r) ∧ k)) := by
  have h1 : (1 : EReal) - 1 = 0 := by rw [show (1 : EReal) = ((1 : ℝ) : EReal) by norm_cast, ← EReal.coe_sub]; simp
  by_cases hp : p <;> by_cases hq : q <;> by_cases hr : r <;> by_cases hk : k <;>
    simp [ind, hp, hq, hr, hk, Scalar.select, IntOp.andi, h1]

/-- Round `k`, seen at one lane: the state before it is a set of lanes, and so is the state after. -/
theorem round_at (v1 v3 v5 v7 v9 acc : FVec Ideal S8x8x128 .f32) (v30 : Vec Ideal S8x1x8 .f32) (k : Fin k4_t1_loop.trips) (hk : k.val < 1000)
    (b : Fin 8) (s : Fin 8) (l : Fin 128) (P : ℕ → Prop) (hP : ∀ s' l', acc (ix3 b s' l') = ind (P (128 * s'.val + l'.val))) :
    k4_pay11 acc (k4_pay2 v1 v3 v5 v7 v9 k4_pay9 (0#32) (1#32) k acc v30) (FloatOps.ofBits FTy.f32 1065353216#32) (ix3 b s l) =
      ind (P (128 * s.val + l.val) ∧ ¬ ((overlap < iou (v30 (ix3 b 0 0)) (v30 (ix3 b 0 1)) (v30 (ix3 b 0 2)) (v30 (ix3 b 0 3)) (v30 (ix3 b 0 4))
          (v1 (ix3 b s l)) (v3 (ix3 b s l)) (v5 (ix3 b s l)) (v7 (ix3 b s l)) (v9 (ix3 b s l)) ∧ k.val < 128 * s.val + l.val) ∧ P k.val)) := by
  unfold k4_pay11 k4_pay2 k4_pay9
  pointwise
  simp only [ninf, lane_word, counter_word k.val (by omega)]
  have hfold : (Finset.fold max (⊥ : EReal) (fun x : Fin 8 => Finset.fold max (⊥ : EReal) (fun x_1 : Fin 128 =>
      Scalar.select (IntOp.cmpi CmpIPredicate.eq (BitVec.ofNat 32 (128 * x.val + x_1.val)) (BitVec.ofNat 32 k.val))
        (acc (ix3 b x x_1)) 0) Finset.univ) Finset.univ) = ind (P k.val) := by
    apply le_antisymm
    · refine (Finset.fold_max_le _).mpr ⟨bot_le, fun x _ => (Finset.fold_max_le _).mpr ⟨bot_le, fun y _ => ?_⟩⟩
      rw [eq_word _ _ (by omega) (by omega)]
      by_cases e : 128 * x.val + y.val = k.val
      · simp [e, Scalar.select, hP]
      · simp [e, Scalar.select]
        unfold ind; split_ifs <;> simp
    · refine (Finset.le_fold_max _).mpr (Or.inr ⟨⟨k.val / 128, by omega⟩, Finset.mem_univ _, (Finset.le_fold_max _).mpr (Or.inr ⟨⟨k.val % 128, by omega⟩, Finset.mem_univ _, ?_⟩)⟩)
      have e : 128 * (k.val / 128) + k.val % 128 = k.val := by omega
      rw [eq_word _ _ (by simp only []; omega) (by omega)]
      simp [e, Scalar.select, hP]
  rw [hfold, hP, sgt_word _ _ (by omega) (by omega)]
  exact ind_step _ _ _ _

variable (V : (c : Dev nD) → (b : Ref sig .tc) → Buf (Elt Ideal) ((c : Thread nD τ).loc b))

/-- One round of the loop is the body's arithmetic over the row it loads. -/
theorem trip_eq (𝒱 : Variants) (c : Dev nD) (bd : Option 𝒱.V) (i : grid4.Coords) (arg1 : Memref sig .tc .vmem S8x1024x8 .f32) (harg1 : arg1.IsWhole) (arg2 : Memref sig .tc .vmem S8x6x8x128 .f32) (harg2 : arg2.IsWhole) (arg3 : Memref sig .tc .vmem S8x8x128 .f32) (harg3 : arg3.IsWhole)
    (v0 v2 v4 v6 v8 : Vec Ideal S8x1x8x128 .f32) (x0 : Vec Ideal S8x1024x8 .f32) (k : Fin k4_t1_loop.trips) (acc : FVec Ideal S8x8x128 .f32) :
    tripR_k4_t1 (F := Ideal) 𝒱 c bd i arg1 harg1 arg2 harg2 arg3 harg3 v0 v2 v4 v6 v8 (harg1.unread x0) k acc =
      k4_pay11 acc (k4_pay2 (k4_pay3 v0) (k4_pay4 v2) (k4_pay5 v4) (k4_pay6 v6) (k4_pay7 v8) k4_pay9 (0#32) (1#32) k acc
        (View.ld x0 (Rect.unit (s := S8x1024x8) (k4_off1 k) S8x1x8.size (k4_off1_inb k)))) (FloatOps.ofBits FTy.f32 1065353216#32) := by
  unfold tripR_k4_t1 trip_k4_t1
  dsimp only
  frame_out

/-- The row a round loads. -/
theorem row_at (x0 : Vec Ideal S8x1024x8 .f32) (k : Fin k4_t1_loop.trips) (hk : k.val < 1024) (b : Fin 8) (q : Fin 8) :
    (View.ld x0 (Rect.unit (s := S8x1024x8) (k4_off1 k) S8x1x8.size (k4_off1_inb k)) : Vec Ideal S8x1x8 .f32) (ix3 b 0 q) = x0 (ix3 b ⟨k.val, hk⟩ q) := by
  refine View.ld_unit_apply_of x0 _ _ _ (ix3 b 0 q) (ix3 b ⟨k.val, hk⟩ q) fun a => ?_
  fin_cases a
  · simp [k4_off1]
  · simp [k4_off1, Scalar.indexCast, WordArith.toNat_iv_zero_one k.val (by omega)]
    first | done | rfl
  · simp [k4_off1]

/-- A plane of the folded table, as the body reads it. -/
theorem plane_at (x : Vec Ideal S8x6x8x128 .f32) (q : Fin 6) (h) (b : Fin 8) (s : Fin 8) (l : Fin 128) :
    shapeCast S8x8x128 (View.ld x (Rect.unit (s := S8x6x8x128) ![0, q.val, 0, 0] S8x1x8x128.size h) : Vec Ideal S8x1x8x128 .f32) shapeCasts_S8x1x8x128_S8x8x128 (ix3 b s l) = x (ix4 b q s l) := by
  refine (shapeCast_apply _ _ _ (ix4 b 0 s l) ?_).trans ?_
  · rw [Shape.rowMajor_val_three, Shape.rowMajor_val_four]
    simp [ix3, ix4]
  · refine View.ld_unit_apply_of x _ _ _ (ix4 b 0 s l) (ix4 b q s l) fun a => ?_
    fin_cases a <;> simp [ix4]

/-- Which lane `p` lane `i` suppresses, read off the two tables of an image. -/
def sup (R : Vec Ideal S8x1024x8 .f32) (T : Vec Ideal S8x6x8x128 .f32) (b : Fin 8) (i p : ℕ) : Prop :=
  ∃ (hi : i < 1024) (hp : p < 1024), overlap < iou (R (ix3 b ⟨i, hi⟩ 0)) (R (ix3 b ⟨i, hi⟩ 1)) (R (ix3 b ⟨i, hi⟩ 2)) (R (ix3 b ⟨i, hi⟩ 3)) (R (ix3 b ⟨i, hi⟩ 4))
    (T (ix4 b 0 ⟨p / 128, by omega⟩ ⟨p % 128, by omega⟩)) (T (ix4 b 1 ⟨p / 128, by omega⟩ ⟨p % 128, by omega⟩)) (T (ix4 b 2 ⟨p / 128, by omega⟩ ⟨p % 128, by omega⟩))
    (T (ix4 b 3 ⟨p / 128, by omega⟩ ⟨p % 128, by omega⟩)) (T (ix4 b 4 ⟨p / 128, by omega⟩ ⟨p % 128, by omega⟩))

/-- The lanes kept at the start. -/
def start (T : Vec Ideal S8x6x8x128 .f32) (b : Fin 8) (p : ℕ) : Prop :=
  ∃ hp : p < 1024, quarter < T (ix4 b 5 ⟨p / 128, by omega⟩ ⟨p % 128, by omega⟩)

/-- Equal corners and areas, equal overlap. -/
theorem iou_congr {a0 a1 a2 a3 a4 a5 a6 a7 a8 a9 b0 b1 b2 b3 b4 b5 b6 b7 b8 b9 : EReal} (h0 : a0 = b0) (h1 : a1 = b1) (h2 : a2 = b2) (h3 : a3 = b3)
    (h4 : a4 = b4) (h5 : a5 = b5) (h6 : a6 = b6) (h7 : a7 = b7) (h8 : a8 = b8) (h9 : a9 = b9) :
    iou a0 a1 a2 a3 a4 a5 a6 a7 a8 a9 = iou b0 b1 b2 b3 b4 b5 b6 b7 b8 b9 := by
  subst h0 h1 h2 h3 h4 h5 h6 h7 h8 h9; rfl

/-- The loop's state before round `k`. -/
theorem state_at (𝒱 : Variants) (c : Dev nD) (bd : Option 𝒱.V) (i : grid4.Coords) (arg1 : Memref sig .tc .vmem S8x1024x8 .f32) (harg1 : arg1.IsWhole) (arg2 : Memref sig .tc .vmem S8x6x8x128 .f32) (harg2 : arg2.IsWhole) (arg3 : Memref sig .tc .vmem S8x8x128 .f32) (harg3 : arg3.IsWhole)
    (R : Vec Ideal S8x1024x8 .f32) (T : Vec Ideal S8x6x8x128 .f32) (k : ℕ) (hk : k ≤ 1000) (b : Fin 8) : ∀ (s : Fin 8) (l : Fin 128),
    st_k4_t1 (F := Ideal) 𝒱 c bd i arg1 harg1 arg2 harg2 arg3 harg3
          (View.ld T (Rect.unit ![0, 0, 0, 0] ![8, 1, 8, 128] inb_S8x6x8x128_S8x1x8x128_0_0_0_0))
          (View.ld T (Rect.unit ![0, 1, 0, 0] ![8, 1, 8, 128] inb_S8x6x8x128_S8x1x8x128_0_1_0_0))
          (View.ld T (Rect.unit ![0, 2, 0, 0] ![8, 1, 8, 128] inb_S8x6x8x128_S8x1x8x128_0_2_0_0))
          (View.ld T (Rect.unit ![0, 3, 0, 0] ![8, 1, 8, 128] inb_S8x6x8x128_S8x1x8x128_0_3_0_0))
          (View.ld T (Rect.unit ![0, 4, 0, 0] ![8, 1, 8, 128] inb_S8x6x8x128_S8x1x8x128_0_4_0_0))
          (harg1.unread R)
          (k4_pay10 (View.ld T (Rect.unit ![0, 5, 0, 0] ![8, 1, 8, 128] inb_S8x6x8x128_S8x1x8x128_0_5_0_0))) k (ix3 b s l)
      = ind (kept (sup R T b) (start T b) k (128 * s.val + l.val)) := by
  have hdiv : ∀ (s : Fin 8) (l : Fin 128) h, (⟨(128 * s.val + l.val) / 128, h⟩ : Fin 8) = s := fun s l h => by ext; simp only; omega
  have hmod : ∀ (s : Fin 8) (l : Fin 128) h, (⟨(128 * s.val + l.val) % 128, h⟩ : Fin 128) = l := fun s l h => by ext; simp only; omega
  induction k with
  | zero =>
    intro s l
    rw [st_k4_t1_zero]
    unfold k4_pay10 k4_pay8
    pointwise
    have e := plane_at T 5 inb_S8x6x8x128_S8x1x8x128_0_5_0_0 b s l
    simp only [kept, start, hdiv, hmod]
    have hlt : 128 * s.val + l.val < 1024 := by omega
    by_cases hq : quarter < T (ix4 b 5 s l)
    · rw [ind_pos ⟨hlt, hq⟩]; exact if_pos hq
    · rw [ind_neg (fun h => hq h.2)]; exact if_neg hq
  | succ k ih =>
    intro s l
    have ht : k < k4_t1_loop.trips := by have : k4_t1_loop.trips = 1000 := by decide +kernel
                                         omega
    rw [st_k4_t1_succ _ _ _ _ _ _ _ _ _ _ _ _ _ _ _ _ _ ⟨k, ht⟩, trip_eq,
      round_at _ _ _ _ _ _ _ ⟨k, ht⟩ (by simp only; omega) b s l _ (ih (by omega))]
    unfold k4_pay3 k4_pay4 k4_pay5 k4_pay6 k4_pay7
    have e0 := plane_at T 0 inb_S8x6x8x128_S8x1x8x128_0_0_0_0 b s l
    have e1 := plane_at T 1 inb_S8x6x8x128_S8x1x8x128_0_1_0_0 b s l
    have e2 := plane_at T 2 inb_S8x6x8x128_S8x1x8x128_0_2_0_0 b s l
    have e3 := plane_at T 3 inb_S8x6x8x128_S8x1x8x128_0_3_0_0 b s l
    have e4 := plane_at T 4 inb_S8x6x8x128_S8x1x8x128_0_4_0_0 b s l
    have hk' : k < 1024 := by omega
    have r := row_at R ⟨k, ht⟩ hk' b
    refine Eq.trans (congrArg (fun z => ind (kept (sup R T b) (start T b) k (128 * s.val + l.val) ∧
      ¬((overlap < z ∧ k < 128 * s.val + l.val) ∧ kept (sup R T b) (start T b) k k)))
      (iou_congr (r 0) (r 1) (r 2) (r 3) (r 4) e0 e1 e2 e3 e4)) ?_
    have hlt : 128 * s.val + l.val < 1024 := by omega
    have hs : sup R T b k (128 * s.val + l.val) ↔ overlap < iou (R (ix3 b ⟨k, hk'⟩ 0)) (R (ix3 b ⟨k, hk'⟩ 1)) (R (ix3 b ⟨k, hk'⟩ 2)) (R (ix3 b ⟨k, hk'⟩ 3)) (R (ix3 b ⟨k, hk'⟩ 4))
        (T (ix4 b 0 s l)) (T (ix4 b 1 s l)) (T (ix4 b 2 s l)) (T (ix4 b 3 s l)) (T (ix4 b 4 s l)) := by
      simp only [sup, hdiv, hmod]
      exact ⟨fun ⟨_, _, h⟩ => h, fun h => ⟨hk', hlt, h⟩⟩
    simp only [kept, hs]

/-- What the suppression call leaves. -/
theorem nms_arr (c : Dev nD) (G : Vec Ideal S8x8x128 .f32) (R : Vec Ideal S8x1024x8 .f32) (T : Vec Ideal S8x6x8x128 .f32)
    (hR : V c main_v70 = R) (hT : V c main_v65 = T)
    (hk : ∀ b s l, kept (sup R T b) (start T b) 1000 (128 * s.val + l.val) → G (ix3 b s l) = T (ix4 b 5 s l))
    (hn : ∀ b s l, ¬ kept (sup R T b) (start T b) 1000 (128 * s.val + l.val) → G (ix3 b s l) = neg1) :
    (dat4 V c).arrAt 2 cfg4.N = G := by
  refine (dat4 V c).arrAt_eq_of_after_last 2 t4_0 (by decide +kernel) _ fun j => ?_
  blk_simp
  rw [after4_2]
  unfold outsAt4
  frame_out
  have b0 : iblk4 V c 0 t4_0 = R := by
    subst hR
    funext y
    unfold iblk4
    blk_simp
    congr 1
    funext a
    apply Fin.ext
    have i0 : ∀ a, win4_0.index t4_0 a = 0 := by decide +kernel
    fin_cases a <;> blk_simp [i0] <;> simp
  have b1 : iblk4 V c 1 t4_0 = T := by
    subst hT
    funext y
    unfold iblk4
    blk_simp
    congr 1
    funext a
    apply Fin.ext
    have i0 : ∀ a, win4_1.index t4_0 a = 0 := by decide +kernel
    fin_cases a <;> blk_simp [i0] <;> simp
  rw [b0, b1]
  obtain ⟨b, s, l, rfl⟩ : ∃ (b : Fin 8) (s : Fin 8) (l : Fin 128), j = ix3 b s l := ⟨j 0, j 1, j 2, by funext a; fin_cases a <;> rfl⟩
  have ht : Scf.trips (0#32) (Scalar.addi 0#32 1000#32) 1#32 = 1000 := by decide +kernel
  rw [ht]
  have st := state_at Variants.none c none (grid4.coords t4_0) (ms4_0 t4_0) (hs4_0 t4_0) (ms4_1 t4_0) (hs4_1 t4_0) (ms4_2 t4_0) (hs4_2 t4_0) R T 1000 le_rfl b s l
  unfold k4_pay1 k4_pay12 k4_pay8
  pointwise
  by_cases h : kept (sup R T b) (start T b) 1000 (128 * s.val + l.val)
  · rw [ind_pos h] at st
    rw [hk b s l h]
    exact if_pos (by rw [st]; exact zero_lt_one)
  · rw [ind_neg h] at st
    rw [hn b s l h]
    exact if_neg (by rw [st]; exact lt_irrefl _)

end Cert.Proof.Ker
-- ==== Proof.KHost5.lean ====
/- The kernel from its suppressed scores to its result, for any contents before each stretch of host operations. -/
module

public import proofs.«01_k».proof.Proof.Gen.KernelIdeal.Frame
public import proofs.«01_k».proof.Proof.HostWords
public import proofs.«01_k».proof.Proof.KBox
public import proofs.«01_k».proof.Proof.KNms
public import proofs.«01_k».proof.Proof.Spec
public import Idealize.ShloMosaic.Lib.StableHlo.ReadAt

@[expose] public section
noncomputable section
namespace Cert.Proof.Ker
open Idealize.ShloMosaic Idealize.ShloMosaic.TcCoe Idealize.ShloMosaic.StableHlo Idealize.ShloMosaic.Tactic
open Cert.KernelIdeal Cert.KernelIdeal.Gen
open Cert.Proof.Model Cert.Proof.Select Cert.Proof.Take

set_option maxRecDepth 100000
variable (V : Valuation τ sig (Elt Ideal))

/-- The lines left after suppression, one after the other. -/
def lanes (x : (⟨3, ![8, 8, 128]⟩ : Shape).Idx → EReal) (b : Fin 8) (j : Fin 1000) : EReal := x (ix3 b ⟨j.val / 128, by omega⟩ ⟨j.val % 128, by omega⟩)

/-- The first thousand lanes. -/
theorem v73_at (b : Fin 8) (j : Fin 1000) : after hostOps5 V (Proc.devRef .tc main_v73) (ix2 b j) = lanes (V (Proc.devRef .tc main_v71)) b j := by
  after_reads_at
  rfl

/-- The best scores left. -/
theorem values15_at (b : Fin 8) (k : Fin 300) : after hostOps5 V (Proc.devRef .tc main_values_15) (ix2 b k) =
    lanes (V (Proc.devRef .tc main_v71)) b (best (lanes (V (Proc.devRef .tc main_v71)) b) (k.castLE (by decide))) := by
  have e := funext (v73_at V b)
  have h := (topK_at (after hostOps5 V (Proc.devRef .tc main_v73)) sliceFits_S8x1000_S8x300 b k (by decide)).1
  refine Eq.trans ?_ (h.trans ((v73_at V b _).trans (congrArg (fun f => lanes (V (Proc.devRef .tc main_v71)) b (best f (k.castLE (by decide)))) e)))
  after_reads_simp

/-- Where the best scores left stand. -/
theorem indices16_at (b : Fin 8) (k : Fin 300) : after hostOps5 V (Proc.devRef .tc main_indices_16) (ix2 b k) =
    BitVec.ofNat 32 (best (lanes (V (Proc.devRef .tc main_v71)) b) (k.castLE (by decide))).val := by
  have e := funext (v73_at V b)
  have h := (topK_at (after hostOps5 V (Proc.devRef .tc main_v73)) sliceFits_S8x1000_S8x300 b k (by decide)).2
  refine Eq.trans ?_ (h.trans (congrArg (fun f => BitVec.ofNat 32 (best f (k.castLE (by decide) : Fin 1000)).val) e))
  after_reads_simp

/-- The same, shaped for the lookup. -/
theorem v74_at (b : Fin 8) (k : Fin 300) : after hostOps5 V (Proc.devRef .tc main_v74) (ix3 b 0 k) = after hostOps5 V (Proc.devRef .tc main_indices_16) (ix2 b k) := by
  after_reads_at

/-- The detections' corners. -/
theorem v75_at (b : Fin 8) (q : Fin 4) (k : Fin 300) (p : Fin 1000) (h : V (Proc.devRef .tc main_v74) (ix3 b 0 k) = BitVec.ofNat 32 p.val) :
    after hostOps5_1 V (Proc.devRef .tc main_v75) (ix3 b q k) = V (Proc.devRef .tc main_v41) (ix3 b q p) := by
  after_reads_at
  rw [h]
  rw [guard_one p.val 999 1000 (by omega) (by decide)]
  refine last_at _ _ _ b q k p ?_ (by decide)
  show Scalar.select (IntOp.cmpi .slt (V (Proc.devRef .tc main_v74) (ix3 b 0 k)) 0#32) (IntOp.addi (V (Proc.devRef .tc main_v74) (ix3 b 0 k)) 1000#32)
    (V (Proc.devRef .tc main_v74) (ix3 b 0 k)) = _
  rw [h]
  exact wrap _ _ (by omega)

/-- The detections' corners over the scale. -/
theorem v78_at (b : Fin 8) (q : Fin 4) (k : Fin 300) : after hostOps5_2 V (Proc.devRef .tc main_v78) (ix3 b q k) =
    Ideal.div (V (Proc.devRef .tc main_v75) (ix3 b q k)) (V (Proc.devRef .tc main_arg3) (ix1 b)) := by
  after_reads_at

/-- The detections' classes. -/
theorem v79_at (b : Fin 8) (k : Fin 300) (p : Fin 1000) (h : V (Proc.devRef .tc main_indices_16) (ix2 b k) = BitVec.ofNat 32 p.val) :
    after hostOps5_3 V (Proc.devRef .tc main_v79) (ix2 b k) = V (Proc.devRef .tc main_v39) (ix2 b p) := by
  after_reads_at
  rw [h]
  rw [guard_one p.val 999 1000 (by omega) (by decide)]
  refine line_at _ _ _ b k p ?_ (by decide)
  show Scalar.select (IntOp.cmpi .slt (V (Proc.devRef .tc main_indices_16) (ix2 b k)) 0#32) (IntOp.addi (V (Proc.devRef .tc main_indices_16) (ix2 b k)) 1000#32)
    (V (Proc.devRef .tc main_indices_16) (ix2 b k)) = _
  rw [h]
  exact wrap _ _ (by omega)

/-- The result: corners, score and class, or zeros. -/
theorem v92_at (b : Fin 8) (k : Fin 300) (t : Fin 6) (l : ℕ) (hl : l < 80) (h : V (Proc.devRef .tc main_v79) (ix2 b k) = BitVec.ofNat 32 l) :
    after hostOps5_4 V (Proc.devRef .tc main_v92) (ix3 b k t) =
    masked (if ht : t.val < 4 then V (Proc.devRef .tc main_v78) (ix3 b ⟨t.val, ht⟩ k) else if t.val = 4 then V (Proc.devRef .tc main_values_15) (ix2 b k) else ((l : ℝ) : EReal))
      (V (Proc.devRef .tc main_values_15) (ix2 b k)) := by
  after_reads_at
  by_cases ht : t.val < 4
  · rw [dif_pos ht, dif_pos ht]
    after_reads_at
    rw [bit_word]
    rfl
  · rw [dif_neg ht, dif_neg ht]
    by_cases h4 : t.val = 4
    · rw [dif_pos (by omega), if_pos h4]
      after_reads_at
      rw [bit_word]
      rfl
    · rw [dif_neg (by omega), if_neg h4]
      after_reads_at
      rw [bit_word, h, word_real l (by omega)]
      rfl

end Cert.Proof.Ker
-- ==== Proof.KHost6.lean ====
/- The kernel from its chosen pairs to its result: its result is the detections of the chosen pairs. -/
module

public import proofs.«01_k».proof.Proof.KHost3
public import proofs.«01_k».proof.Proof.KHost4
public import proofs.«01_k».proof.Proof.KHost5

@[expose] public section
noncomputable section
namespace Cert.Proof.Ker
open Idealize.ShloMosaic Idealize.ShloMosaic.TcCoe Idealize.ShloMosaic.StableHlo Idealize.ShloMosaic.Tactic
open Cert.KernelIdeal Cert.KernelIdeal.Gen
open Cert.Proof.Model Cert.Proof.Select Cert.Proof.Take

set_option maxRecDepth 100000
variable (m : (ℓ : Loc nD τ sig) → Buf (Elt Ideal) ℓ) (ρ : Dev nD → PrngReg) (c : Dev nD) (b : Fin 8)

/-- The kernel's corners. -/
abbrev KC : Fin 25200 → Fin 4 → EReal := corners (KR m c b)

variable (K : Fin 1000 → Fin 2016000)
  (hK1 : ∀ j, W16 m ρ c (Proc.devRef .tc main_v37_1) (ix2 b j) = BitVec.ofNat 32 (K j).val)
  (hK2 : ∀ j, W16 m ρ c (Proc.devRef .tc main_v37_2) (ix2 b j) = KF m c b (K j))

section Pairs
include hK1

/-- The chosen boxes. -/
theorem w17_v38 (j : Fin 1000) : W17 m ρ c (Proc.devRef .tc main_v38) (ix2 b j) = BitVec.ofNat 32 ((K j).val / 80) :=
  v38_at (W16 m ρ c) b j _ (by omega) (hK1 j) (c9_at (W15 m ρ c))

/-- The chosen classes. -/
theorem w19_v39 (j : Fin 1000) : W19 m ρ c (Proc.devRef .tc main_v39) (ix2 b j) = BitVec.ofNat 32 ((K j).val % 80) := by
  refine v39_at (W18 m ρ c) b j _ (by omega) ?_ (c10_at (W17 m ρ c))
  rw [W18_of m ρ c main_v37_1 (by decide), W17_of m ρ c main_v37_1 (by decide)]
  exact hK1 j

/-- The chosen corners. -/
theorem w21_v41 (q : Fin 4) (j : Fin 1000) : W21 m ρ c (Proc.devRef .tc main_v41) (ix3 b q j) = KC m c b ⟨(K j).val / 80, by omega⟩ q := by
  refine (v41_at (W20 m ρ c) b q j ⟨(K j).val / 80, by omega⟩ ?_).trans ?_
  · refine (v40_at (W19 m ρ c) b j).trans ?_
    rw [W19_of m ρ c main_v38 (by decide), W18_of m ρ c main_v38 (by decide)]
    exact w17_v38 m ρ c b K hK1 j
  · rw [W20_of m ρ c main_v11 (by decide), W19_of m ρ c main_v11 (by decide), W18_of m ρ c main_v11 (by decide), W17_of m ρ c main_v11 (by decide), W16_of m ρ c main_v11 (by decide), W15_of m ρ c main_v11 (by decide), W14_of m ρ c main_v11 (by decide), W13_of m ρ c main_v11 (by decide), W12_of m ρ c main_v11 (by decide), W11_of m ρ c main_v11 (by decide), W10_of m ρ c main_v11 (by decide), W9_of m ρ c main_v11 (by decide), W8_of m ρ c main_v11 (by decide), W7_of m ρ c main_v11 (by decide)]
    exact box_at m ρ c b q _

/-- The chosen corners, moved to their classes. -/
theorem w22_v47 (q : Fin 4) (j : Fin 1000) : W22 m ρ c (Proc.devRef .tc main_v47) (ix3 b q j) = placed (KC m c b) (K j) q := by
  refine (v47_at (W21 m ρ c) b q j ((K j).val % 80) (by omega) ?_).trans ?_
  · rw [W21_of m ρ c main_v39 (by decide), W20_of m ρ c main_v39 (by decide)]
    exact w19_v39 m ρ c b K hK1 j
  · exact congrArg (fun f => moved f ((K j).val % 80) q) (funext fun q => w21_v41 m ρ c b K hK1 q j)

/-- The chosen areas. -/
theorem w22_v58 (j : Fin 1000) : W22 m ρ c (Proc.devRef .tc main_v58) (ix2 b j) = area (placed (KC m c b) (K j)) := by
  refine (v58_at (W21 m ρ c) b j ((K j).val % 80) (by omega) ?_).trans ?_
  · rw [W21_of m ρ c main_v39 (by decide), W20_of m ρ c main_v39 (by decide)]
    exact w19_v39 m ρ c b K hK1 j
  · exact congrArg (fun f => area (moved f ((K j).val % 80))) (funext fun q => w21_v41 m ρ c b K hK1 q j)

/-- The padded corners. -/
theorem w27_v59 (q : Fin 4) (j : Fin 1000) : W27 m ρ c (Proc.devRef .tc main_v59) (ix3 b q (j.castLE (by decide))) = placed (KC m c b) (K j) q := by
  rw [W27_of m ρ c main_v59 (by decide), W26_of m ρ c main_v59 (by decide), W25_of m ρ c main_v59 (by decide), W24_of m ρ c main_v59 (by decide)]
  exact (v59_at (W22 m ρ c) b q j).trans (w22_v47 m ρ c b K hK1 q j)

/-- The padded areas. -/
theorem w27_v60 (j : Fin 1000) : W27 m ρ c (Proc.devRef .tc main_v60) (ix2 b (j.castLE (by decide))) = area (placed (KC m c b) (K j)) := by
  rw [W27_of m ρ c main_v60 (by decide), W26_of m ρ c main_v60 (by decide)]
  refine (v60_at (W24 m ρ c) b j).trans ?_
  rw [W24_of m ρ c main_v58 (by decide), W23_of m ρ c main_v58 (by decide)]
  exact w22_v58 m ρ c b K hK1 j

/-- A row's corners. -/
theorem row_corner (q : Fin 8) (hq : q.val < 4) (i : ℕ) (hi : i < 1000) :
    W28 m ρ c (Proc.devRef .tc main_v70) (ix3 b ⟨i, by omega⟩ q) = placed (KC m c b) (K ⟨i, hi⟩) ⟨q.val, hq⟩ :=
  (v70_corner (W27 m ρ c) b q hq ⟨i, by omega⟩).trans (w27_v59 m ρ c b K hK1 ⟨q.val, hq⟩ ⟨i, hi⟩)

/-- A row's area. -/
theorem row_area (i : ℕ) (hi : i < 1000) :
    W28 m ρ c (Proc.devRef .tc main_v70) (ix3 b ⟨i, by omega⟩ 4) = area (placed (KC m c b) (K ⟨i, hi⟩)) :=
  (v70_area (W27 m ρ c) b 4 rfl ⟨i, by omega⟩).trans (w27_v60 m ρ c b K hK1 ⟨i, hi⟩)

/-- A lane's corners. -/
theorem lane_corner (q : Fin 6) (hq : q.val < 4) (p : ℕ) (hp : p < 1000) :
    W28 m ρ c (Proc.devRef .tc main_v65) (ix4 b q ⟨p / 128, by omega⟩ ⟨p % 128, by omega⟩) = placed (KC m c b) (K ⟨p, hp⟩) ⟨q.val, hq⟩ := by
  refine (v65_corner (W27 m ρ c) b q hq ⟨p / 128, by omega⟩ ⟨p % 128, by omega⟩).trans ?_
  refine Eq.trans ?_ (w27_v59 m ρ c b K hK1 ⟨q.val, hq⟩ ⟨p, hp⟩)
  exact congrArg _ (congrArg (ix3 b _) (Fin.ext (Nat.div_add_mod p 128)))

/-- A lane's area. -/
theorem lane_area (p : ℕ) (hp : p < 1000) :
    W28 m ρ c (Proc.devRef .tc main_v65) (ix4 b 4 ⟨p / 128, by omega⟩ ⟨p % 128, by omega⟩) = area (placed (KC m c b) (K ⟨p, hp⟩)) := by
  refine (v65_area (W27 m ρ c) b 4 rfl ⟨p / 128, by omega⟩ ⟨p % 128, by omega⟩).trans ?_
  refine Eq.trans ?_ (w27_v60 m ρ c b K hK1 ⟨p, hp⟩)
  exact congrArg _ (congrArg (ix2 b) (Fin.ext (Nat.div_add_mod p 128)))

/-- Suppression among the lanes is suppression among the chosen pairs. -/
theorem sup_iff (i p : ℕ) (hi : i < 1000) (hp : p < 1000) :
    sup (W28 m ρ c (Proc.devRef .tc main_v70)) (W28 m ρ c (Proc.devRef .tc main_v65)) b i p ↔ supP (KC m c b) K i p := by
  have e := iou_congr (row_corner m ρ c b K hK1 0 (by decide) i hi) (row_corner m ρ c b K hK1 1 (by decide) i hi) (row_corner m ρ c b K hK1 2 (by decide) i hi)
    (row_corner m ρ c b K hK1 3 (by decide) i hi) (row_area m ρ c b K hK1 i hi)
    (lane_corner m ρ c b K hK1 0 (by decide) p hp) (lane_corner m ρ c b K hK1 1 (by decide) p hp) (lane_corner m ρ c b K hK1 2 (by decide) p hp)
    (lane_corner m ρ c b K hK1 3 (by decide) p hp) (lane_area m ρ c b K hK1 p hp)
  constructor
  · rintro ⟨_, _, h⟩
    exact ⟨hi, hp, lt_of_lt_of_eq h e⟩
  · rintro ⟨_, _, h⟩
    exact ⟨by omega, by omega, lt_of_lt_of_eq h e.symm⟩

end Pairs

section Scores
include hK2

/-- The padded scores. -/
theorem w27_v61 (j : Fin 1024) : W27 m ρ c (Proc.devRef .tc main_v61) (ix2 b j) = if h : j.val < 1000 then KF m c b (K ⟨j.val, h⟩) else neg1 := by
  refine (v61_at (W26 m ρ c) b j (cst13_at (W25 m ρ c))).trans ?_
  by_cases h : j.val < 1000
  · rw [dif_pos h, dif_pos h]
    rw [W26_of m ρ c main_v37_2 (by decide), W25_of m ρ c main_v37_2 (by decide), W24_of m ρ c main_v37_2 (by decide), W23_of m ρ c main_v37_2 (by decide), W22_of m ρ c main_v37_2 (by decide), W21_of m ρ c main_v37_2 (by decide), W20_of m ρ c main_v37_2 (by decide), W19_of m ρ c main_v37_2 (by decide), W18_of m ρ c main_v37_2 (by decide), W17_of m ρ c main_v37_2 (by decide)]
    exact hK2 _
  · rw [dif_neg h, dif_neg h]

/-- A lane's score. -/
theorem lane_score (p : ℕ) (hp : p < 1024) :
    W28 m ρ c (Proc.devRef .tc main_v65) (ix4 b 5 ⟨p / 128, by omega⟩ ⟨p % 128, by omega⟩) = if h : p < 1000 then KF m c b (K ⟨p, h⟩) else neg1 := by
  refine (v65_score (W27 m ρ c) b 5 rfl ⟨p / 128, by omega⟩ ⟨p % 128, by omega⟩).trans ?_
  refine Eq.trans ?_ (w27_v61 m ρ c b K hK2 ⟨p, hp⟩)
  exact congrArg _ (congrArg (ix2 b) (Fin.ext (Nat.div_add_mod p 128)))

/-- The lanes that start are the chosen pairs that pass. -/
theorem start_iff (p : ℕ) : start (W28 m ρ c (Proc.devRef .tc main_v65)) b p ↔ startP (KF m c b) K p := by
  constructor
  · rintro ⟨hp, h⟩
    have h' := lt_of_lt_of_eq h (lane_score m ρ c b K hK2 p hp)
    by_cases g : p < 1000
    · rw [dif_pos g] at h'
      exact ⟨g, h'⟩
    · rw [dif_neg g] at h'
      exact absurd h' (not_lt.mpr (le_of_lt neg1_lt_quarter))
  · rintro ⟨hp, h⟩
    refine ⟨by omega, lt_of_lt_of_eq h ?_⟩
    rw [lane_score m ρ c b K hK2 p (by omega), dif_pos hp]

end Scores

open Classical in
/-- The suppression's output, lane by lane. -/
def keptLanes : (⟨3, ![8, 8, 128]⟩ : Shape).Idx → EReal := fun i =>
  if kept (sup (W28 m ρ c (Proc.devRef .tc main_v70)) (W28 m ρ c (Proc.devRef .tc main_v65)) (i 0)) (start (W28 m ρ c (Proc.devRef .tc main_v65)) (i 0)) 1000
      (128 * (i 1).val + (i 2).val)
  then W28 m ρ c (Proc.devRef .tc main_v65) (ix4 (i 0) 5 (i 1) (i 2)) else neg1

/-- The suppression's output. -/
theorem w29_v71 : W29 m ρ c (Proc.devRef .tc main_v71) = keptLanes m ρ c := by
  refine (hF4 m ρ c 2).symm.trans (nms_arr (V28 m ρ) c (keptLanes m ρ c) _ _ rfl rfl (fun b s l h => ?_) (fun b s l h => ?_))
  · exact if_pos h
  · exact if_neg h

section All
include hK1 hK2

/-- The scores left after suppression. -/
theorem lanes_left : lanes (W29 m ρ c (Proc.devRef .tc main_v71)) b = left (KF m c b) (KC m c b) K := by
  funext j
  rw [w29_v71]
  have e := kept_congr (start_iff m ρ c b K hK2) (sup := sup (W28 m ρ c (Proc.devRef .tc main_v70)) (W28 m ρ c (Proc.devRef .tc main_v65)) b) (sup' := supP (KC m c b) K)
    (fun i p hi hp => by
      obtain ⟨hi', _⟩ := (start_iff m ρ c b K hK2 i).mp hi
      obtain ⟨hp', _⟩ := (start_iff m ρ c b K hK2 p).mp hp
      exact sup_iff m ρ c b K hK1 i p hi' hp') 1000 j.val
  have ej : 128 * (j.val / 128) + j.val % 128 = j.val := Nat.div_add_mod _ _
  unfold lanes keptLanes left
  by_cases h : kept (supP (KC m c b) K) (startP (KF m c b) K) 1000 j.val
  · rw [if_pos h]
    refine (if_pos ?_).trans ((lane_score m ρ c b K hK2 j.val (by omega)).trans (dif_pos j.isLt))
    show kept _ _ 1000 (128 * (j.val / 128) + j.val % 128)
    rw [ej]
    exact e.mpr h
  · rw [if_neg h]
    refine if_neg fun h' => h ?_
    have h'' : kept (sup (W28 m ρ c (Proc.devRef .tc main_v70)) (W28 m ρ c (Proc.devRef .tc main_v65)) b) (start (W28 m ρ c (Proc.devRef .tc main_v65)) b) 1000
      (128 * (j.val / 128) + j.val % 128) := h'
    rw [ej] at h''
    exact e.mp h''

/-- Where the best scores left stand. -/
theorem w30_indices (k : Fin 300) : W30 m ρ c (Proc.devRef .tc main_indices_16) (ix2 b k) =
    BitVec.ofNat 32 (best (left (KF m c b) (KC m c b) K) (k.castLE (by decide))).val := by
  rw [← lanes_left m ρ c b K hK1 hK2]
  exact indices16_at (W29 m ρ c) b k

/-- The best scores left. -/
theorem w30_values (k : Fin 300) : W30 m ρ c (Proc.devRef .tc main_values_15) (ix2 b k) =
    left (KF m c b) (KC m c b) K (best (left (KF m c b) (KC m c b) K) (k.castLE (by decide))) := by
  rw [← lanes_left m ρ c b K hK1 hK2]
  exact values15_at (W29 m ρ c) b k

/-- The kernel's result is the detections of its chosen pairs. -/
theorem result_at (k : Fin 300) (t : Fin 6) : W34 m ρ c (Proc.devRef .tc main_v92) (ix3 b k t) =
    detection (KF m c b) (KC m c b) K (m ((c : Thread nD τ).loc main_arg3) (ix1 b)) k t := by
  have hl : W33 m ρ c (Proc.devRef .tc main_v79) (ix2 b k) = BitVec.ofNat 32 ((K (best (left (KF m c b) (KC m c b) K) (k.castLE (by decide)))).val % 80) := by
    refine (v79_at (W32 m ρ c) b k (best (left (KF m c b) (KC m c b) K) (k.castLE (by decide))) ?_).trans ?_
    · rw [W32_of m ρ c main_indices_16 (by decide), W31_of m ρ c main_indices_16 (by decide)]
      exact w30_indices m ρ c b K hK1 hK2 k
    · rw [W32_of m ρ c main_v39 (by decide), W31_of m ρ c main_v39 (by decide), W30_of m ρ c main_v39 (by decide), W29_of_ne m ρ c main_v39 (by decide), W28_of m ρ c main_v39 (by decide), W27_of m ρ c main_v39 (by decide), W26_of m ρ c main_v39 (by decide), W25_of m ρ c main_v39 (by decide), W24_of m ρ c main_v39 (by decide), W23_of m ρ c main_v39 (by decide), W22_of m ρ c main_v39 (by decide), W21_of m ρ c main_v39 (by decide), W20_of m ρ c main_v39 (by decide)]
      exact w19_v39 m ρ c b K hK1 _
  have hb : ∀ q : Fin 4, W33 m ρ c (Proc.devRef .tc main_v78) (ix3 b q k) =
      Ideal.div (KC m c b ⟨(K (best (left (KF m c b) (KC m c b) K) (k.castLE (by decide)))).val / 80, by omega⟩ q) (m ((c : Thread nD τ).loc main_arg3) (ix1 b)) := fun q => by
    rw [W33_of m ρ c main_v78 (by decide)]
    refine (v78_at (W31 m ρ c) b q k).trans ?_
    rw [W31_args m ρ c main_arg3 (by decide)]
    refine congrArg (fun x => Ideal.div x (m ((c : Thread nD τ).loc main_arg3) (ix1 b))) ?_
    refine (v75_at (W30 m ρ c) b q k (best (left (KF m c b) (KC m c b) K) (k.castLE (by decide))) ?_).trans ?_
    · exact (v74_at (W29 m ρ c) b k).trans (w30_indices m ρ c b K hK1 hK2 k)
    · rw [W30_of m ρ c main_v41 (by decide), W29_of_ne m ρ c main_v41 (by decide), W28_of m ρ c main_v41 (by decide), W27_of m ρ c main_v41 (by decide), W26_of m ρ c main_v41 (by decide), W25_of m ρ c main_v41 (by decide), W24_of m ρ c main_v41 (by decide), W23_of m ρ c main_v41 (by decide), W22_of m ρ c main_v41 (by decide)]
      exact w21_v41 m ρ c b K hK1 q _
  have hv : W33 m ρ c (Proc.devRef .tc main_values_15) (ix2 b k) = left (KF m c b) (KC m c b) K (best (left (KF m c b) (KC m c b) K) (k.castLE (by decide))) := by
    rw [W33_of m ρ c main_values_15 (by decide), W32_of m ρ c main_values_15 (by decide), W31_of m ρ c main_values_15 (by decide)]
    exact w30_values m ρ c b K hK1 hK2 k
  refine (v92_at (W33 m ρ c) b k t _ (Nat.mod_lt _ (by decide)) hl).trans ?_
  rw [hv]
  unfold detection entry
  by_cases ht : t.val < 4
  · rw [dif_pos ht, dif_pos ht, hb]
  · rw [dif_neg ht, dif_neg ht]

end All

end Cert.Proof.Ker
-- ==== Proof.Ref1.lean ====
/- The reference's decoding of the three levels, read at an index: scores and raw boxes. -/
module

public import proofs.«01_k».proof.Proof.RefFrame
public import proofs.«01_k».proof.Proof.Spec
public import proofs.«01_k».proof.Proof.KBox
public import proofs.«01_k».proof.Proof.HostWords
public import Idealize.ShloMosaic.Lib.StableHlo.ReadAt

@[expose] public section
noncomputable section
namespace Cert.Proof.Ref
open Idealize.ShloMosaic Idealize.ShloMosaic.TcCoe Idealize.ShloMosaic.StableHlo Idealize.ShloMosaic.Tactic
open Cert.ReferenceIdeal Cert.ReferenceIdeal.Gen
open Cert.Proof.Model Cert.Proof.Select

set_option maxRecDepth 100000

/-- The product of an object's and a class's probability, zero where the object's does not pass the threshold. -/
def plain (x y : EReal) : EReal := Ideal.logistic x * Ideal.logistic y * (if quarter < Ideal.logistic x then 1 else 0)

/-- The score is the product where it passes the threshold, else minus one. -/
theorem score_plain (x y : EReal) : score x y = if quarter < plain x y then plain x y else neg1 := rfl

/-- Coordinate `q` of box `J` before the corners are formed: centre and size. -/
def rawbox (t : Fin 4 → EReal) (J : ℕ) (q : Fin 4) : EReal :=
  if q.val = 0 then centre (t 0) (gx J) (side J)
  else if q.val = 1 then centre (t 1) (gy J) (side J)
  else if q.val = 2 then extent (t 2) (aw J)
  else extent (t 3) (ah J)

/-- The anchors of level 0, width. -/
theorem lit0_0 (a : Fin 3) (q : Fin 2) (hq : q.val = 0) : lit0 (S3x2.rowMajor (ix2 a q)) = three a.val 0x41200000#32 0x41800000#32 0x42040000#32 := by
  revert a q; decide +kernel

/-- The anchors of level 0, height. -/
theorem lit0_1 (a : Fin 3) (q : Fin 2) (hq : q.val = 1) : lit0 (S3x2.rowMajor (ix2 a q)) = three a.val 0x41500000#32 0x41F00000#32 0x41B80000#32 := by
  revert a q; decide +kernel

/-- The anchors of level 1, width. -/
theorem lit1_0 (a : Fin 3) (q : Fin 2) (hq : q.val = 0) : lit1 (S3x2.rowMajor (ix2 a q)) = three a.val 0x41F00000#32 0x42780000#32 0x426C0000#32 := by
  revert a q; decide +kernel

/-- The anchors of level 1, height. -/
theorem lit1_1 (a : Fin 3) (q : Fin 2) (hq : q.val = 1) : lit1 (S3x2.rowMajor (ix2 a q)) = three a.val 0x42740000#32 0x42340000#32 0x42EE0000#32 := by
  revert a q; decide +kernel

/-- The anchors of level 2, width. -/
theorem lit2_0 (a : Fin 3) (q : Fin 2) (hq : q.val = 0) : lit2 (S3x2.rowMajor (ix2 a q)) = three a.val 0x42E80000#32 0x431C0000#32 0x43BA8000#32 := by
  revert a q; decide +kernel

/-- The anchors of level 2, height. -/
theorem lit2_1 (a : Fin 3) (q : Fin 2) (hq : q.val = 1) : lit2 (S3x2.rowMajor (ix2 a q)) = three a.val 0x42B40000#32 0x43460000#32 0x43A30000#32 := by
  revert a q; decide +kernel

/-- A choice among three is read through a function. -/
theorem three_map {α β : Type} (f : α → β) (a : ℕ) (p q r : α) : f (three a p q r) = three a (f p) (f q) (f r) := by
  unfold three
  split
  · rfl
  · split <;> rfl

section Lines
variable (V : Valuation τ sig (Elt Ideal))

/-- Level 0's products. -/
theorem plain0_at (b : Fin 8) (i : Fin 19200) (k : Fin 80) : after hostOps0 V (Proc.devRef .tc main_v41) (ix3 b i k) =
    plain (V (Proc.devRef .tc main_arg0) (ix5 b ⟨i.val / 240, by omega⟩ ⟨i.val / 3 % 80, by omega⟩ ⟨i.val % 3, by omega⟩ 4)) (V (Proc.devRef .tc main_arg0) (ix5 b ⟨i.val / 240, by omega⟩ ⟨i.val / 3 % 80, by omega⟩ ⟨i.val % 3, by omega⟩ ⟨5 + k.val, by omega⟩)) := by
  after_reads_at
  rw [bit_word]
  rfl

/-- Level 0's boxes, coordinate 0. -/
theorem box0_0 (b : Fin 8) (i : Fin 19200) (q : Fin 4) (hq : q.val = 0) : after hostOps0 V (Proc.devRef .tc main_v40) (ix3 b i q) =
    centre (V (Proc.devRef .tc main_arg0) (ix5 b ⟨i.val / 240, by omega⟩ ⟨i.val / 3 % 80, by omega⟩ ⟨i.val % 3, by omega⟩ 0)) (i.val / 3 % 80) (Ideal.ofBits .f32 0x41000000#32) := by
  have hq' : q = 0 := Fin.ext hq
  after_reads_at
  rw [dif_pos (by omega)]
  after_reads_at
  rw [dif_pos (by omega)]
  after_reads_at
  rw [Ker.word_real _ (by omega)]
  subst hq'
  rfl

/-- Level 0's boxes, coordinate 1. -/
theorem box0_1 (b : Fin 8) (i : Fin 19200) (q : Fin 4) (hq : q.val = 1) : after hostOps0 V (Proc.devRef .tc main_v40) (ix3 b i q) =
    centre (V (Proc.devRef .tc main_arg0) (ix5 b ⟨i.val / 240, by omega⟩ ⟨i.val / 3 % 80, by omega⟩ ⟨i.val % 3, by omega⟩ 1)) (i.val / 240) (Ideal.ofBits .f32 0x41000000#32) := by
  have hq' : q = 1 := Fin.ext hq
  after_reads_at
  rw [dif_pos (by omega)]
  after_reads_at
  rw [dif_neg (by omega)]
  after_reads_at
  rw [Ker.word_real _ (by omega)]
  subst hq'
  rfl

/-- Level 0's boxes, coordinate 2. -/
theorem box0_2 (b : Fin 8) (i : Fin 19200) (q : Fin 4) (hq : q.val = 2) : after hostOps0 V (Proc.devRef .tc main_v40) (ix3 b i q) =
    extent (V (Proc.devRef .tc main_arg0) (ix5 b ⟨i.val / 240, by omega⟩ ⟨i.val / 3 % 80, by omega⟩ ⟨i.val % 3, by omega⟩ 2)) (three (i.val % 3) (Ideal.ofBits .f32 0x41200000#32) (Ideal.ofBits .f32 0x41800000#32) (Ideal.ofBits .f32 0x42040000#32)) := by
  have hq' : q = 2 := Fin.ext hq
  after_reads_at
  rw [dif_neg (by omega)]
  after_reads_at
  rw [lit0_0 ⟨i.val % 3, by omega⟩ ⟨q.val - 2, by omega⟩ (by show q.val - 2 = 0; omega)]
  subst hq'
  exact congrArg (extent _) (three_map (Ideal.ofBits .f32) _ _ _ _)

/-- Level 0's boxes, coordinate 3. -/
theorem box0_3 (b : Fin 8) (i : Fin 19200) (q : Fin 4) (hq : q.val = 3) : after hostOps0 V (Proc.devRef .tc main_v40) (ix3 b i q) =
    extent (V (Proc.devRef .tc main_arg0) (ix5 b ⟨i.val / 240, by omega⟩ ⟨i.val / 3 % 80, by omega⟩ ⟨i.val % 3, by omega⟩ 3)) (three (i.val % 3) (Ideal.ofBits .f32 0x41500000#32) (Ideal.ofBits .f32 0x41F00000#32) (Ideal.ofBits .f32 0x41B80000#32)) := by
  have hq' : q = 3 := Fin.ext hq
  after_reads_at
  rw [dif_neg (by omega)]
  after_reads_at
  rw [lit0_1 ⟨i.val % 3, by omega⟩ ⟨q.val - 2, by omega⟩ (by show q.val - 2 = 1; omega)]
  subst hq'
  exact congrArg (extent _) (three_map (Ideal.ofBits .f32) _ _ _ _)

/-- Level 1's products. -/
theorem plain1_at (b : Fin 8) (i : Fin 4800) (k : Fin 80) : after hostOps0 V (Proc.devRef .tc main_v83) (ix3 b i k) =
    plain (V (Proc.devRef .tc main_arg1) (ix5 b ⟨i.val / 120, by omega⟩ ⟨i.val / 3 % 40, by omega⟩ ⟨i.val % 3, by omega⟩ 4)) (V (Proc.devRef .tc main_arg1) (ix5 b ⟨i.val / 120, by omega⟩ ⟨i.val / 3 % 40, by omega⟩ ⟨i.val % 3, by omega⟩ ⟨5 + k.val, by omega⟩)) := by
  after_reads_at
  rw [bit_word]
  rfl

/-- Level 1's boxes, coordinate 0. -/
theorem box1_0 (b : Fin 8) (i : Fin 4800) (q : Fin 4) (hq : q.val = 0) : after hostOps0 V (Proc.devRef .tc main_v82) (ix3 b i q) =
    centre (V (Proc.devRef .tc main_arg1) (ix5 b ⟨i.val / 120, by omega⟩ ⟨i.val / 3 % 40, by omega⟩ ⟨i.val % 3, by omega⟩ 0)) (i.val / 3 % 40) (Ideal.ofBits .f32 0x41800000#32) := by
  have hq' : q = 0 := Fin.ext hq
  after_reads_at
  rw [dif_pos (by omega)]
  after_reads_at
  rw [dif_pos (by omega)]
  after_reads_at
  rw [Ker.word_real _ (by omega)]
  subst hq'
  rfl

/-- Level 1's boxes, coordinate 1. -/
theorem box1_1 (b : Fin 8) (i : Fin 4800) (q : Fin 4) (hq : q.val = 1) : after hostOps0 V (Proc.devRef .tc main_v82) (ix3 b i q) =
    centre (V (Proc.devRef .tc main_arg1) (ix5 b ⟨i.val / 120, by omega⟩ ⟨i.val / 3 % 40, by omega⟩ ⟨i.val % 3, by omega⟩ 1)) (i.val / 120) (Ideal.ofBits .f32 0x41800000#32) := by
  have hq' : q = 1 := Fin.ext hq
  after_reads_at
  rw [dif_pos (by omega)]
  after_reads_at
  rw [dif_neg (by omega)]
  after_reads_at
  rw [Ker.word_real _ (by omega)]
  subst hq'
  rfl

/-- Level 1's boxes, coordinate 2. -/
theorem box1_2 (b : Fin 8) (i : Fin 4800) (q : Fin 4) (hq : q.val = 2) : after hostOps0 V (Proc.devRef .tc main_v82) (ix3 b i q) =
    extent (V (Proc.devRef .tc main_arg1) (ix5 b ⟨i.val / 120, by omega⟩ ⟨i.val / 3 % 40, by omega⟩ ⟨i.val % 3, by omega⟩ 2)) (three (i.val % 3) (Ideal.ofBits .f32 0x41F00000#32) (Ideal.ofBits .f32 0x42780000#32) (Ideal.ofBits .f32 0x426C0000#32)) := by
  have hq' : q = 2 := Fin.ext hq
  after_reads_at
  rw [dif_neg (by omega)]
  after_reads_at
  rw [lit1_0 ⟨i.val % 3, by omega⟩ ⟨q.val - 2, by omega⟩ (by show q.val - 2 = 0; omega)]
  subst hq'
  exact congrArg (extent _) (three_map (Ideal.ofBits .f32) _ _ _ _)

/-- Level 1's boxes, coordinate 3. -/
theorem box1_3 (b : Fin 8) (i : Fin 4800) (q : Fin 4) (hq : q.val = 3) : after hostOps0 V (Proc.devRef .tc main_v82) (ix3 b i q) =
    extent (V (Proc.devRef .tc main_arg1) (ix5 b ⟨i.val / 120, by omega⟩ ⟨i.val / 3 % 40, by omega⟩ ⟨i.val % 3, by omega⟩ 3)) (three (i.val % 3) (Ideal.ofBits .f32 0x42740000#32) (Ideal.ofBits .f32 0x42340000#32) (Ideal.ofBits .f32 0x42EE0000#32)) := by
  have hq' : q = 3 := Fin.ext hq
  after_reads_at
  rw [dif_neg (by omega)]
  after_reads_at
  rw [lit1_1 ⟨i.val % 3, by omega⟩ ⟨q.val - 2, by omega⟩ (by show q.val - 2 = 1; omega)]
  subst hq'
  exact congrArg (extent _) (three_map (Ideal.ofBits .f32) _ _ _ _)

/-- Level 2's products. -/
theorem plain2_at (b : Fin 8) (i : Fin 1200) (k : Fin 80) : after hostOps0 V (Proc.devRef .tc main_v125) (ix3 b i k) =
    plain (V (Proc.devRef .tc main_arg2) (ix5 b ⟨i.val / 60, by omega⟩ ⟨i.val / 3 % 20, by omega⟩ ⟨i.val % 3, by omega⟩ 4)) (V (Proc.devRef .tc main_arg2) (ix5 b ⟨i.val / 60, by omega⟩ ⟨i.val / 3 % 20, by omega⟩ ⟨i.val % 3, by omega⟩ ⟨5 + k.val, by omega⟩)) := by
  after_reads_at
  rw [bit_word]
  rfl

/-- Level 2's boxes, coordinate 0. -/
theorem box2_0 (b : Fin 8) (i : Fin 1200) (q : Fin 4) (hq : q.val = 0) : after hostOps0 V (Proc.devRef .tc main_v124) (ix3 b i q) =
    centre (V (Proc.devRef .tc main_arg2) (ix5 b ⟨i.val / 60, by omega⟩ ⟨i.val / 3 % 20, by omega⟩ ⟨i.val % 3, by omega⟩ 0)) (i.val / 3 % 20) (Ideal.ofBits .f32 0x42000000#32) := by
  have hq' : q = 0 := Fin.ext hq
  after_reads_at
  rw [dif_pos (by omega)]
  after_reads_at
  rw [dif_pos (by omega)]
  after_reads_at
  rw [Ker.word_real _ (by omega)]
  subst hq'
  rfl

/-- Level 2's boxes, coordinate 1. -/
theorem box2_1 (b : Fin 8) (i : Fin 1200) (q : Fin 4) (hq : q.val = 1) : after hostOps0 V (Proc.devRef .tc main_v124) (ix3 b i q) =
    centre (V (Proc.devRef .tc main_arg2) (ix5 b ⟨i.val / 60, by omega⟩ ⟨i.val / 3 % 20, by omega⟩ ⟨i.val % 3, by omega⟩ 1)) (i.val / 60) (Ideal.ofBits .f32 0x42000000#32) := by
  have hq' : q = 1 := Fin.ext hq
  after_reads_at
  rw [dif_pos (by omega)]
  after_reads_at
  rw [dif_neg (by omega)]
  after_reads_at
  rw [Ker.word_real _ (by omega)]
  subst hq'
  rfl

/-- Level 2's boxes, coordinate 2. -/
theorem box2_2 (b : Fin 8) (i : Fin 1200) (q : Fin 4) (hq : q.val = 2) : after hostOps0 V (Proc.devRef .tc main_v124) (ix3 b i q) =
    extent (V (Proc.devRef .tc main_arg2) (ix5 b ⟨i.val / 60, by omega⟩ ⟨i.val / 3 % 20, by omega⟩ ⟨i.val % 3, by omega⟩ 2)) (three (i.val % 3) (Ideal.ofBits .f32 0x42E80000#32) (Ideal.ofBits .f32 0x431C0000#32) (Ideal.ofBits .f32 0x43BA8000#32)) := by
  have hq' : q = 2 := Fin.ext hq
  after_reads_at
  rw [dif_neg (by omega)]
  after_reads_at
  rw [lit2_0 ⟨i.val % 3, by omega⟩ ⟨q.val - 2, by omega⟩ (by show q.val - 2 = 0; omega)]
  subst hq'
  exact congrArg (extent _) (three_map (Ideal.ofBits .f32) _ _ _ _)

/-- Level 2's boxes, coordinate 3. -/
theorem box2_3 (b : Fin 8) (i : Fin 1200) (q : Fin 4) (hq : q.val = 3) : after hostOps0 V (Proc.devRef .tc main_v124) (ix3 b i q) =
    extent (V (Proc.devRef .tc main_arg2) (ix5 b ⟨i.val / 60, by omega⟩ ⟨i.val / 3 % 20, by omega⟩ ⟨i.val % 3, by omega⟩ 3)) (three (i.val % 3) (Ideal.ofBits .f32 0x42B40000#32) (Ideal.ofBits .f32 0x43460000#32) (Ideal.ofBits .f32 0x43A30000#32)) := by
  have hq' : q = 3 := Fin.ext hq
  after_reads_at
  rw [dif_neg (by omega)]
  after_reads_at
  rw [lit2_1 ⟨i.val % 3, by omega⟩ ⟨q.val - 2, by omega⟩ (by show q.val - 2 = 1; omega)]
  subst hq'
  exact congrArg (extent _) (three_map (Ideal.ofBits .f32) _ _ _ _)

end Lines

end Cert.Proof.Ref
-- ==== Proof.Ref2.lean ====
/- All the reference's products and raw boxes, the three levels one after the other. -/
module

public import proofs.«01_k».proof.Proof.Ref1

@[expose] public section
noncomputable section
namespace Cert.Proof.Ref
open Idealize.ShloMosaic Idealize.ShloMosaic.TcCoe Idealize.ShloMosaic.StableHlo Idealize.ShloMosaic.Tactic
open Cert.ReferenceIdeal Cert.ReferenceIdeal.Gen
open Cert.Proof.Model Cert.Proof.Select
set_option maxRecDepth 100000
variable (V : Valuation τ sig (Elt Ideal))

/-- The raw values among `V`'s arguments. -/
abbrev VR (b : Fin 8) : Fin 25200 → Fin 85 → EReal :=
  Model.R (V (Proc.devRef .tc main_arg0)) (V (Proc.devRef .tc main_arg1)) (V (Proc.devRef .tc main_arg2)) b

/-- The products of all pairs. -/
theorem v128_at (b : Fin 8) (p : Fin 2016000) : after hostOps0 V (Proc.devRef .tc main_v128) (ix2 b p) =
    plain (VR V b ⟨p.val / 80, by omega⟩ 4) (VR V b ⟨p.val / 80, by omega⟩ ⟨5 + p.val % 80, by omega⟩) := by
  after_reads_at
  by_cases h0 : p.val / 80 < 19200
  · rw [dif_pos h0]
    refine Eq.trans ?_ ((plain0_at V b ⟨p.val / 80, h0⟩ ⟨p.val % 80, by omega⟩).trans ?_)
    · after_reads_at
    · unfold VR Model.R raw
      rw [dif_pos h0, dif_pos h0]
  · rw [dif_neg h0]
    by_cases h1 : p.val / 80 < 24000
    · rw [dif_pos (by omega)]
      refine Eq.trans ?_ ((plain1_at V b ⟨p.val / 80 - 19200, by omega⟩ ⟨p.val % 80, by omega⟩).trans ?_)
      · after_reads_at
      · unfold VR Model.R raw
        rw [dif_neg h0, dif_pos h1, dif_neg h0, dif_pos h1]
    · rw [dif_neg (by omega)]
      refine Eq.trans ?_ ((plain2_at V b ⟨p.val / 80 - 24000, by omega⟩ ⟨p.val % 80, by omega⟩).trans ?_)
      · have e : (⟨p.val / 80 - 19200 - 4800, by omega⟩ : Fin 1200) = ⟨p.val / 80 - 24000, by omega⟩ := Fin.ext (Nat.sub_sub _ _ _)
        rw [e]
        after_reads_at
      · unfold VR Model.R raw
        rw [dif_neg h0, dif_neg h1, dif_neg h0, dif_neg h1]

/-- Which products pass the threshold. -/
theorem v130_at (b : Fin 8) (p : Fin 2016000) : after hostOps0 V (Proc.devRef .tc main_v130) (ix2 b p) =
    BitVec.ofBool (decide (quarter < plain (VR V b ⟨p.val / 80, by omega⟩ 4) (VR V b ⟨p.val / 80, by omega⟩ ⟨5 + p.val % 80, by omega⟩))) := by
  refine Eq.trans ?_ (congrArg (fun x : EReal => BitVec.ofBool (decide (quarter < x))) (v128_at V b p))
  after_reads_at
  rfl

/-- The threshold's constant. -/
theorem cst24_at : after hostOps0 V (Proc.devRef .tc main_cst_24) ix0 = neg1 := by
  after_reads_at
  rfl

/-- The raw boxes. -/
theorem v126_at (b : Fin 8) (J : Fin 25200) (q : Fin 4) : after hostOps0 V (Proc.devRef .tc main_v126) (ix3 b J q) =
    rawbox (fun q => VR V b J ⟨q.val, by omega⟩) J.val q := by
  have hq : q.val = 0 ∨ q.val = 1 ∨ q.val = 2 ∨ q.val = 3 := by omega
  after_reads_at
  by_cases h0 : J.val < 19200
  · rw [dif_pos h0]
    have hr : rel J.val = J.val := by unfold rel lvl; rw [if_neg (show ¬ 24000 ≤ J.val by omega), if_neg (show ¬ 19200 ≤ J.val by omega)]; rfl
    rcases hq with hq | hq | hq | hq
    · refine Eq.trans ?_ ((box0_0 V b ⟨J.val, by omega⟩ q hq).trans ?_)
      · after_reads_at
      · unfold rawbox VR Model.R raw
        rw [if_pos hq]
        simp only [dif_pos h0]
        unfold gx side lvl
        simp only [hr, if_neg (show ¬ 24000 ≤ J.val by omega), if_neg (show ¬ 19200 ≤ J.val by omega)] <;> rfl
    · refine Eq.trans ?_ ((box0_1 V b ⟨J.val, by omega⟩ q hq).trans ?_)
      · after_reads_at
      · unfold rawbox VR Model.R raw
        rw [if_neg (by omega), if_pos hq]
        simp only [dif_pos h0]
        unfold gy side lvl
        simp only [hr, if_neg (show ¬ 24000 ≤ J.val by omega), if_neg (show ¬ 19200 ≤ J.val by omega)] <;> rfl
    · refine Eq.trans ?_ ((box0_2 V b ⟨J.val, by omega⟩ q hq).trans ?_)
      · after_reads_at
      · unfold rawbox VR Model.R raw
        rw [if_neg (by omega), if_neg (by omega), if_pos hq]
        simp only [dif_pos h0]
        unfold aw lvl
        simp only [hr, if_neg (show ¬ 24000 ≤ J.val by omega), if_neg (show ¬ 19200 ≤ J.val by omega)] <;> rfl
    · refine Eq.trans ?_ ((box0_3 V b ⟨J.val, by omega⟩ q hq).trans ?_)
      · after_reads_at
      · unfold rawbox VR Model.R raw
        rw [if_neg (by omega), if_neg (by omega), if_neg (by omega)]
        simp only [dif_pos h0]
        unfold ah lvl
        simp only [hr, if_neg (show ¬ 24000 ≤ J.val by omega), if_neg (show ¬ 19200 ≤ J.val by omega)] <;> rfl
  · rw [dif_neg h0]
    by_cases h1 : J.val < 24000
    · rw [dif_pos (by omega)]
      have hr : rel J.val = J.val - 19200 := by unfold rel lvl; rw [if_neg (show ¬ 24000 ≤ J.val by omega), if_pos (show 19200 ≤ J.val by omega)]
      rcases hq with hq | hq | hq | hq
      · refine Eq.trans ?_ ((box1_0 V b ⟨J.val - 19200, by omega⟩ q hq).trans ?_)
        · after_reads_at
        · unfold rawbox VR Model.R raw
          rw [if_pos hq]
          simp only [dif_neg h0, dif_pos h1]
          unfold gx side lvl
          simp only [hr, if_neg (show ¬ 24000 ≤ J.val by omega), if_pos (show 19200 ≤ J.val by omega)] <;> rfl
      · refine Eq.trans ?_ ((box1_1 V b ⟨J.val - 19200, by omega⟩ q hq).trans ?_)
        · after_reads_at
        · unfold rawbox VR Model.R raw
          rw [if_neg (by omega), if_pos hq]
          simp only [dif_neg h0, dif_pos h1]
          unfold gy side lvl
          simp only [hr, if_neg (show ¬ 24000 ≤ J.val by omega), if_pos (show 19200 ≤ J.val by omega)] <;> rfl
      · refine Eq.trans ?_ ((box1_2 V b ⟨J.val - 19200, by omega⟩ q hq).trans ?_)
        · after_reads_at
        · unfold rawbox VR Model.R raw
          rw [if_neg (by omega), if_neg (by omega), if_pos hq]
          simp only [dif_neg h0, dif_pos h1]
          unfold aw lvl
          simp only [hr, if_neg (show ¬ 24000 ≤ J.val by omega), if_pos (show 19200 ≤ J.val by omega)] <;> rfl
      · refine Eq.trans ?_ ((box1_3 V b ⟨J.val - 19200, by omega⟩ q hq).trans ?_)
        · after_reads_at
        · unfold rawbox VR Model.R raw
          rw [if_neg (by omega), if_neg (by omega), if_neg (by omega)]
          simp only [dif_neg h0, dif_pos h1]
          unfold ah lvl
          simp only [hr, if_neg (show ¬ 24000 ≤ J.val by omega), if_pos (show 19200 ≤ J.val by omega)] <;> rfl
    · rw [dif_neg (by omega)]
      have e : (⟨J.val - 19200 - 4800, by omega⟩ : Fin 1200) = ⟨J.val - 24000, by omega⟩ := Fin.ext (Nat.sub_sub _ _ _)
      rw [e]
      have hr : rel J.val = J.val - 24000 := by unfold rel lvl; rw [if_pos (show 24000 ≤ J.val by omega)]
      rcases hq with hq | hq | hq | hq
      · refine Eq.trans ?_ ((box2_0 V b ⟨J.val - 24000, by omega⟩ q hq).trans ?_)
        · after_reads_at
        · unfold rawbox VR Model.R raw
          rw [if_pos hq]
          simp only [dif_neg h0, dif_neg h1]
          unfold gx side lvl
          simp only [hr, if_pos (show 24000 ≤ J.val by omega)] <;> rfl
      · refine Eq.trans ?_ ((box2_1 V b ⟨J.val - 24000, by omega⟩ q hq).trans ?_)
        · after_reads_at
        · unfold rawbox VR Model.R raw
          rw [if_neg (by omega), if_pos hq]
          simp only [dif_neg h0, dif_neg h1]
          unfold gy side lvl
          simp only [hr, if_pos (show 24000 ≤ J.val by omega)] <;> rfl
      · refine Eq.trans ?_ ((box2_2 V b ⟨J.val - 24000, by omega⟩ q hq).trans ?_)
        · after_reads_at
        · unfold rawbox VR Model.R raw
          rw [if_neg (by omega), if_neg (by omega), if_pos hq]
          simp only [dif_neg h0, dif_neg h1]
          unfold aw lvl
          simp only [hr, if_pos (show 24000 ≤ J.val by omega)] <;> rfl
      · refine Eq.trans ?_ ((box2_3 V b ⟨J.val - 24000, by omega⟩ q hq).trans ?_)
        · after_reads_at
        · unfold rawbox VR Model.R raw
          rw [if_neg (by omega), if_neg (by omega), if_neg (by omega)]
          simp only [dif_neg h0, dif_neg h1]
          unfold ah lvl
          simp only [hr, if_pos (show 24000 ≤ J.val by omega)] <;> rfl

end Cert.Proof.Ref
-- ==== Proof.Ref3.lean ====
/- The reference's stretches before the loop, each read at an index from what it starts with. -/
module

public import proofs.«01_k».proof.Proof.Ref2

@[expose] public section
noncomputable section
namespace Cert.Proof.Ref
open Idealize.ShloMosaic Idealize.ShloMosaic.TcCoe Idealize.ShloMosaic.StableHlo Idealize.ShloMosaic.Tactic
open Cert.ReferenceIdeal Cert.ReferenceIdeal.Gen
open Cert.Proof.Model Cert.Proof.Select Cert.Proof.Take
set_option maxRecDepth 100000
variable (V : Valuation τ sig (Elt Ideal))

/-- The products that pass, minus one elsewhere. -/
theorem v131_at (b : Fin 8) (p : Fin 2016000) (x : EReal) (h1 : V (Proc.devRef .tc main_v130) (ix2 b p) = BitVec.ofBool (decide (quarter < x)))
    (h2 : V (Proc.devRef .tc main_v128) (ix2 b p) = x) (hc : V (Proc.devRef .tc main_cst_24) ix0 = neg1) :
    after hostOps0_1 V (Proc.devRef .tc main_v131) (ix2 b p) = if quarter < x then x else neg1 := by
  after_reads_at
  have hc' : id (V (Proc.devRef .tc main_cst_24)) ix0 = neg1 := hc
  rw [h1, h2, hc', WordCmp.select_decide]

/-- The best thousand scores. -/
theorem values_at (b : Fin 8) (F : Fin 2016000 → EReal) (h : ∀ q, V (Proc.devRef .tc main_v131) (ix2 b q) = F q) (j : Fin 1000) :
    after hostOps0_2 V (Proc.devRef .tc main_values) (ix2 b j) = F (best F (j.castLE (by decide))) := by
  have e : (fun q => V (Proc.devRef .tc main_v131) (ix2 b q)) = F := funext h
  have t := (topK_at (V (Proc.devRef .tc main_v131)) sliceFits_S8x2016000_S8x1000 b j (by decide)).1
  refine Eq.trans ?_ (t.trans (congrArg (fun f => f (best f (j.castLE (by decide) : Fin 2016000))) e))
  after_reads_simp

/-- Where the best thousand scores stand. -/
theorem indices_at (b : Fin 8) (F : Fin 2016000 → EReal) (h : ∀ q, V (Proc.devRef .tc main_v131) (ix2 b q) = F q) (j : Fin 1000) :
    after hostOps0_2 V (Proc.devRef .tc main_indices) (ix2 b j) = BitVec.ofNat 32 (best F (j.castLE (by decide))).val := by
  have e : (fun q => V (Proc.devRef .tc main_v131) (ix2 b q)) = F := funext h
  have t := (topK_at (V (Proc.devRef .tc main_v131)) sliceFits_S8x2016000_S8x1000 b j (by decide)).2
  refine Eq.trans ?_ (t.trans (congrArg (fun f => BitVec.ofNat 32 (best f (j.castLE (by decide) : Fin 2016000)).val) e))
  after_reads_simp

/-- The divisor eighty. -/
theorem c_at : after hostOps0_2 V (Proc.devRef .tc main_c) ix0 = BitVec.ofNat 32 80 := by
  after_reads_at

/-- The divisor eighty. -/
theorem c25_at : after hostOps0_4 V (Proc.devRef .tc main_c_25) ix0 = BitVec.ofNat 32 80 := by
  after_reads_at

/-- A chosen pair's box. -/
theorem v132_at (b : Fin 8) (j : Fin 1000) (p : ℕ) (hp : p < 2 ^ 31) (h : V (Proc.devRef .tc main_indices) (ix2 b j) = BitVec.ofNat 32 p)
    (hc : V (Proc.devRef .tc main_c) ix0 = BitVec.ofNat 32 80) : after hostOps0_3 V (Proc.devRef .tc main_v132) (ix2 b j) = BitVec.ofNat 32 (p / 80) := by
  after_reads_at
  have hc' : id (V (Proc.devRef .tc main_c)) ix0 = BitVec.ofNat 32 80 := hc
  rw [h, hc']
  exact host_floor p 80 hp (by decide) (by decide)

/-- A chosen pair's class. -/
theorem v133_at (b : Fin 8) (j : Fin 1000) (p : ℕ) (hp : p < 2 ^ 31) (h : V (Proc.devRef .tc main_indices) (ix2 b j) = BitVec.ofNat 32 p)
    (hc : V (Proc.devRef .tc main_c_25) ix0 = BitVec.ofNat 32 80) : after hostOps0_5 V (Proc.devRef .tc main_v133) (ix2 b j) = BitVec.ofNat 32 (p % 80) := by
  after_reads_at
  have hc' : id (V (Proc.devRef .tc main_c_25)) ix0 = BitVec.ofNat 32 80 := hc
  rw [h, hc']
  exact host_mod p 80 hp (by decide) (by decide)

/-- The chosen boxes, shaped for the lookup. -/
theorem v134_at (b : Fin 8) (j : Fin 1000) (x : Fin 1) : after hostOps0_6 V (Proc.devRef .tc main_v134) (ix3 b j x) = V (Proc.devRef .tc main_v132) (ix2 b j) := by
  after_reads_at

/-- The chosen boxes' raw coordinates. -/
theorem v135_at (b : Fin 8) (j : Fin 1000) (q : Fin 4) (p : Fin 25200) (h : ∀ x : Fin 1, V (Proc.devRef .tc main_v134) (ix3 b j x) = BitVec.ofNat 32 p.val) :
    after hostOps0_7 V (Proc.devRef .tc main_v135) (ix3 b j q) = V (Proc.devRef .tc main_v126) (ix3 b p q) := by
  after_reads_at
  simp only [h]
  rw [guard_one p.val 25199 25200 (by omega) (by decide)]
  refine rows_at _ _ _ b j q p ?_ (by decide)
  show Scalar.select (IntOp.cmpi .slt (V (Proc.devRef .tc main_v134) (ix3 b j 0)) 0#32) (IntOp.addi (V (Proc.devRef .tc main_v134) (ix3 b j 0)) 25200#32)
    (V (Proc.devRef .tc main_v134) (ix3 b j 0)) = _
  rw [h]
  exact wrap _ _ (by omega)

/-- A clip read off its constants. -/
theorem clip_read (x : EReal) : min (id (constant (F := Ideal) S_ FTy.f32 1142947840#32) ix0) (max (id (constant (F := Ideal) S_ FTy.f32 0#32) ix0) x) = clip x := by
  show min (Ideal.ofBits .f32 1142947840#32) (max (Ideal.ofBits .f32 0#32) x) = _
  rw [Ideal.ofBits_zero_f32]
  rfl

/-- The left edges. -/
theorem v143_at (b : Fin 8) (j : Fin 1000) : after hostOps0_9 (after hostOps0_8 V) (Proc.devRef .tc main_v143) (ix2 b j) =
    low (V (Proc.devRef .tc main_v135) (ix3 b j 0)) (V (Proc.devRef .tc main_v135) (ix3 b j 2)) := by
  after_reads_at
  exact clip_read _

/-- The upper edges. -/
theorem v151_at (b : Fin 8) (j : Fin 1000) : after hostOps0_11 (after hostOps0_10 V) (Proc.devRef .tc main_v151) (ix2 b j) =
    low (V (Proc.devRef .tc main_v135) (ix3 b j 1)) (V (Proc.devRef .tc main_v135) (ix3 b j 3)) := by
  after_reads_at
  exact clip_read _

/-- The right edges. -/
theorem v159_at (b : Fin 8) (j : Fin 1000) : after hostOps0_13 (after hostOps0_12 V) (Proc.devRef .tc main_v159) (ix2 b j) =
    high (V (Proc.devRef .tc main_v135) (ix3 b j 0)) (V (Proc.devRef .tc main_v135) (ix3 b j 2)) := by
  after_reads_at
  exact clip_read _

/-- The lower edges. -/
theorem v167_at (b : Fin 8) (j : Fin 1000) : after hostOps0_15 (after hostOps0_14 V) (Proc.devRef .tc main_v167) (ix2 b j) =
    high (V (Proc.devRef .tc main_v135) (ix3 b j 1)) (V (Proc.devRef .tc main_v135) (ix3 b j 3)) := by
  after_reads_at
  exact clip_read _

/-- The four edges together. -/
theorem v172_at (b : Fin 8) (j : Fin 1000) (q : Fin 4) : after hostOps0_16 V (Proc.devRef .tc main_v172) (ix3 b j q) =
    if q.val = 0 then V (Proc.devRef .tc main_v143) (ix2 b j) else if q.val = 1 then V (Proc.devRef .tc main_v151) (ix2 b j)
    else if q.val = 2 then V (Proc.devRef .tc main_v159) (ix2 b j) else V (Proc.devRef .tc main_v167) (ix2 b j) := by
  have hq : q.val = 0 ∨ q.val = 1 ∨ q.val = 2 ∨ q.val = 3 := by omega
  rcases hq with hq | hq | hq | hq
  · rw [if_pos hq]
    after_reads_at
    rw [dif_pos (show q.val < 1 by omega)]
    after_reads_at
  · rw [if_neg (by omega), if_pos hq]
    after_reads_at
    rw [dif_neg (show ¬ q.val < 1 by omega), dif_pos (show q.val - 1 < 1 by omega)]
    after_reads_at
  · rw [if_neg (by omega), if_neg (by omega), if_pos hq]
    after_reads_at
    rw [dif_neg (show ¬ q.val < 1 by omega), dif_neg (show ¬ q.val - 1 < 1 by omega), dif_pos (show q.val - 1 - 1 < 1 by omega)]
    after_reads_at
  · rw [if_neg (by omega), if_neg (by omega), if_neg (by omega)]
    after_reads_at
    rw [dif_neg (show ¬ q.val < 1 by omega), dif_neg (show ¬ q.val - 1 < 1 by omega), dif_neg (show ¬ q.val - 1 - 1 < 1 by omega)]
    after_reads_at

/-- The boxes moved to their classes' copies of the image. -/
theorem v178_at (b : Fin 8) (j : Fin 1000) (q : Fin 4) (x : EReal) (l : ℕ) (hl : l < 2 ^ 31) (h : after hostOps0_16 V (Proc.devRef .tc main_v172) (ix3 b j q) = x)
    (h' : V (Proc.devRef .tc main_v133) (ix2 b j) = BitVec.ofNat 32 l) :
    after hostOps0_16 V (Proc.devRef .tc main_v178) (ix3 b j q) = x + ((l : ℝ) : EReal) * spacing := by
  rw [← h, ← Ker.word_real l hl, ← h']
  after_reads_at
  rfl

/-- The common part of two boxes: its sides, before clipping at zero. -/
theorem v193_at (b : Fin 8) (i p : Fin 1000) (q : Fin 2) (o u : Fin 4 → EReal)
    (ho : ∀ q, after hostOps0_16 V (Proc.devRef .tc main_v178) (ix3 b i q) = o q) (hu : ∀ q, after hostOps0_16 V (Proc.devRef .tc main_v178) (ix3 b p q) = u q) :
    after hostOps0_16 V (Proc.devRef .tc main_v193) (ix4 b i p q) =
    min (o ⟨2 + q.val, by omega⟩) (u ⟨2 + q.val, by omega⟩) - max (o ⟨q.val, by omega⟩) (u ⟨q.val, by omega⟩) := by
  rw [← ho, ← ho, ← hu, ← hu]
  after_reads_at

/-- The bound zero. -/
theorem cst39_at : after hostOps0_16 V (Proc.devRef .tc main_cst_39) ix0 = (0 : EReal) := by
  after_reads_at

/-- The common part's sides. -/
theorem v194_at (b : Fin 8) (i p : Fin 1000) (q : Fin 2) (hc : V (Proc.devRef .tc main_cst_39) ix0 = (0 : EReal)) : after hostOps0_17 V (Proc.devRef .tc main_v194) (ix4 b i p q) =
    max (0 : EReal) (V (Proc.devRef .tc main_v193) (ix4 b i p q)) := by
  after_reads_at
  have hc' : id (V (Proc.devRef .tc main_cst_39)) ix0 = (0 : EReal) := hc
  rw [hc']

/-- The overlaps. -/
theorem v230_at (b : Fin 8) (i p : Fin 1000) (o u : Fin 4 → EReal)
    (ho : ∀ q, V (Proc.devRef .tc main_v178) (ix3 b i q) = o q) (hu : ∀ q, V (Proc.devRef .tc main_v178) (ix3 b p q) = u q)
    (h0 : V (Proc.devRef .tc main_v194) (ix4 b i p 0) = max 0 (min (o 2) (u 2) - max (o 0) (u 0)))
    (h1 : V (Proc.devRef .tc main_v194) (ix4 b i p 1) = max 0 (min (o 3) (u 3) - max (o 1) (u 1))) :
    after hostOps0_18 V (Proc.devRef .tc main_v233_0) (ix3 b i p) = iou (o 0) (o 1) (o 2) (o 3) (area o) (u 0) (u 1) (u 2) (u 3) (area u) := by
  have e : after hostOps0_18 V (Proc.devRef .tc main_v233_0) = after hostOps0_18 V (Proc.devRef .tc main_v230) := by
    after_reads_simp
    rfl
  rw [e]
  after_reads_at
  rw [h0, h1, ho, ho, ho, ho, hu, hu, hu, hu]
  rfl

/-- Which chosen pairs pass the threshold. -/
theorem v232_at (b : Fin 8) (j : Fin 1000) (x : EReal) (h : V (Proc.devRef .tc main_values) (ix2 b j) = x) :
    after hostOps0_18 V (Proc.devRef .tc main_v233_3) (ix2 b j) = BitVec.ofBool (decide (quarter < x)) := by
  after_reads_at
  show BitVec.ofBool (decide (Ideal.ofBits .f32 1048576000#32 < (V (Proc.devRef .tc main_values) (ix2 b j) : EReal))) = _
  rw [h]
  rfl

/-- The loop's row number starts at zero. -/
theorem row_start : after hostOps0_18 V (Proc.devRef .tc main_v233_2) = fun _ => (0#32 : BitVec 32) := by
  after_reads_simp
  rfl

end Cert.Proof.Ref
-- ==== Proof.Ref4.lean ====
/- The reference before its loop: the chosen pairs, their corners and their overlaps, from the arguments. -/
module

public import proofs.«01_k».proof.Proof.Ref3

@[expose] public section
noncomputable section
namespace Cert.Proof.Ref
open Idealize.ShloMosaic Idealize.ShloMosaic.TcCoe Idealize.ShloMosaic.StableHlo Idealize.ShloMosaic.Tactic
open Cert.ReferenceIdeal Cert.ReferenceIdeal.Gen Cert.ReferenceIdeal.Value
open Cert.Proof.Model Cert.Proof.Select Cert.Proof.Take
set_option maxRecDepth 100000
variable (V : Valuation τ sig (Elt Ideal))

/-- The contents after stretch 0. -/
def X0 : Valuation τ sig (Elt Ideal) := after hostOps0 V

/-- The contents after stretch 1. -/
def X1 : Valuation τ sig (Elt Ideal) := after hostOps0_1 (X0 V)

/-- What stretch 1 does not write is kept. -/
theorem X1_of (r : Ref sig .tc) (h : r ∉ hostOps0_1_W) : X1 V (Proc.devRef .tc r) = X0 V (Proc.devRef .tc r) :=
  after_of_writes_sub hostOps0_1 (X0 V) hostOps0_1_writes h

/-- The contents after stretch 2. -/
def X2 : Valuation τ sig (Elt Ideal) := after hostOps0_2 (X1 V)

/-- What stretch 2 does not write is kept. -/
theorem X2_of (r : Ref sig .tc) (h : r ∉ hostOps0_2_W) : X2 V (Proc.devRef .tc r) = X1 V (Proc.devRef .tc r) :=
  after_of_writes_sub hostOps0_2 (X1 V) hostOps0_2_writes h

/-- The contents after stretch 3. -/
def X3 : Valuation τ sig (Elt Ideal) := after hostOps0_3 (X2 V)

/-- What stretch 3 does not write is kept. -/
theorem X3_of (r : Ref sig .tc) (h : r ∉ hostOps0_3_W) : X3 V (Proc.devRef .tc r) = X2 V (Proc.devRef .tc r) :=
  after_of_writes_sub hostOps0_3 (X2 V) hostOps0_3_writes h

/-- The contents after stretch 4. -/
def X4 : Valuation τ sig (Elt Ideal) := after hostOps0_4 (X3 V)

/-- What stretch 4 does not write is kept. -/
theorem X4_of (r : Ref sig .tc) (h : r ∉ hostOps0_4_W) : X4 V (Proc.devRef .tc r) = X3 V (Proc.devRef .tc r) :=
  after_of_writes_sub hostOps0_4 (X3 V) hostOps0_4_writes h

/-- The contents after stretch 5. -/
def X5 : Valuation τ sig (Elt Ideal) := after hostOps0_5 (X4 V)

/-- What stretch 5 does not write is kept. -/
theorem X5_of (r : Ref sig .tc) (h : r ∉ hostOps0_5_W) : X5 V (Proc.devRef .tc r) = X4 V (Proc.devRef .tc r) :=
  after_of_writes_sub hostOps0_5 (X4 V) hostOps0_5_writes h

/-- The contents after stretch 6. -/
def X6 : Valuation τ sig (Elt Ideal) := after hostOps0_6 (X5 V)

/-- What stretch 6 does not write is kept. -/
theorem X6_of (r : Ref sig .tc) (h : r ∉ hostOps0_6_W) : X6 V (Proc.devRef .tc r) = X5 V (Proc.devRef .tc r) :=
  after_of_writes_sub hostOps0_6 (X5 V) hostOps0_6_writes h

/-- The contents after stretch 7. -/
def X7 : Valuation τ sig (Elt Ideal) := after hostOps0_7 (X6 V)

/-- What stretch 7 does not write is kept. -/
theorem X7_of (r : Ref sig .tc) (h : r ∉ hostOps0_7_W) : X7 V (Proc.devRef .tc r) = X6 V (Proc.devRef .tc r) :=
  after_of_writes_sub hostOps0_7 (X6 V) hostOps0_7_writes h

/-- The contents after stretch 8. -/
def X8 : Valuation τ sig (Elt Ideal) := after hostOps0_8 (X7 V)

/-- What stretch 8 does not write is kept. -/
theorem X8_of (r : Ref sig .tc) (h : r ∉ hostOps0_8_W) : X8 V (Proc.devRef .tc r) = X7 V (Proc.devRef .tc r) :=
  after_of_writes_sub hostOps0_8 (X7 V) hostOps0_8_writes h

/-- The contents after stretch 9. -/
def X9 : Valuation τ sig (Elt Ideal) := after hostOps0_9 (X8 V)

/-- What stretch 9 does not write is kept. -/
theorem X9_of (r : Ref sig .tc) (h : r ∉ hostOps0_9_W) : X9 V (Proc.devRef .tc r) = X8 V (Proc.devRef .tc r) :=
  after_of_writes_sub hostOps0_9 (X8 V) hostOps0_9_writes h

/-- The contents after stretch 10. -/
def X10 : Valuation τ sig (Elt Ideal) := after hostOps0_10 (X9 V)

/-- What stretch 10 does not write is kept. -/
theorem X10_of (r : Ref sig .tc) (h : r ∉ hostOps0_10_W) : X10 V (Proc.devRef .tc r) = X9 V (Proc.devRef .tc r) :=
  after_of_writes_sub hostOps0_10 (X9 V) hostOps0_10_writes h

/-- The contents after stretch 11. -/
def X11 : Valuation τ sig (Elt Ideal) := after hostOps0_11 (X10 V)

/-- What stretch 11 does not write is kept. -/
theorem X11_of (r : Ref sig .tc) (h : r ∉ hostOps0_11_W) : X11 V (Proc.devRef .tc r) = X10 V (Proc.devRef .tc r) :=
  after_of_writes_sub hostOps0_11 (X10 V) hostOps0_11_writes h

/-- The contents after stretch 12. -/
def X12 : Valuation τ sig (Elt Ideal) := after hostOps0_12 (X11 V)

/-- What stretch 12 does not write is kept. -/
theorem X12_of (r : Ref sig .tc) (h : r ∉ hostOps0_12_W) : X12 V (Proc.devRef .tc r) = X11 V (Proc.devRef .tc r) :=
  after_of_writes_sub hostOps0_12 (X11 V) hostOps0_12_writes h

/-- The contents after stretch 13. -/
def X13 : Valuation τ sig (Elt Ideal) := after hostOps0_13 (X12 V)

/-- What stretch 13 does not write is kept. -/
theorem X13_of (r : Ref sig .tc) (h : r ∉ hostOps0_13_W) : X13 V (Proc.devRef .tc r) = X12 V (Proc.devRef .tc r) :=
  after_of_writes_sub hostOps0_13 (X12 V) hostOps0_13_writes h

/-- The contents after stretch 14. -/
def X14 : Valuation τ sig (Elt Ideal) := after hostOps0_14 (X13 V)

/-- What stretch 14 does not write is kept. -/
theorem X14_of (r : Ref sig .tc) (h : r ∉ hostOps0_14_W) : X14 V (Proc.devRef .tc r) = X13 V (Proc.devRef .tc r) :=
  after_of_writes_sub hostOps0_14 (X13 V) hostOps0_14_writes h

/-- The contents after stretch 15. -/
def X15 : Valuation τ sig (Elt Ideal) := after hostOps0_15 (X14 V)

/-- What stretch 15 does not write is kept. -/
theorem X15_of (r : Ref sig .tc) (h : r ∉ hostOps0_15_W) : X15 V (Proc.devRef .tc r) = X14 V (Proc.devRef .tc r) :=
  after_of_writes_sub hostOps0_15 (X14 V) hostOps0_15_writes h

/-- The contents after stretch 16. -/
def X16 : Valuation τ sig (Elt Ideal) := after hostOps0_16 (X15 V)

/-- What stretch 16 does not write is kept. -/
theorem X16_of (r : Ref sig .tc) (h : r ∉ hostOps0_16_W) : X16 V (Proc.devRef .tc r) = X15 V (Proc.devRef .tc r) :=
  after_of_writes_sub hostOps0_16 (X15 V) hostOps0_16_writes h

/-- The contents after stretch 17. -/
def X17 : Valuation τ sig (Elt Ideal) := after hostOps0_17 (X16 V)

/-- What stretch 17 does not write is kept. -/
theorem X17_of (r : Ref sig .tc) (h : r ∉ hostOps0_17_W) : X17 V (Proc.devRef .tc r) = X16 V (Proc.devRef .tc r) :=
  after_of_writes_sub hostOps0_17 (X16 V) hostOps0_17_writes h

/-- The contents after stretch 18. -/
def X18 : Valuation τ sig (Elt Ideal) := after hostOps0_18 (X17 V)

/-- What stretch 18 does not write is kept. -/
theorem X18_of (r : Ref sig .tc) (h : r ∉ hostOps0_18_W) : X18 V (Proc.devRef .tc r) = X17 V (Proc.devRef .tc r) :=
  after_of_writes_sub hostOps0_18 (X17 V) hostOps0_18_writes h

/-- The contents the loop starts with. -/
theorem X_entry : afterL preI V = X18 V := rfl

/-- The scores of the image's pairs. -/
abbrev VF (b : Fin 8) : Fin 2016000 → EReal := scores (VR V b)

/-- The chosen pairs, best first. -/
def VP (b : Fin 8) (j : Fin 1000) : Fin 2016000 := best (VF V b) (j.castLE (by decide))

/-- The corners of the image's boxes. -/
abbrev VC (b : Fin 8) : Fin 25200 → Fin 4 → EReal := corners (VR V b)

variable (b : Fin 8)

/-- The scores. -/
theorem x1_v131 (q : Fin 2016000) : X1 V (Proc.devRef .tc main_v131) (ix2 b q) = VF V b q :=
  v131_at (X0 V) b q _ (v130_at V b q) (v128_at V b q) (cst24_at V)

/-- The chosen pairs' scores. -/
theorem x2_values (j : Fin 1000) : X2 V (Proc.devRef .tc main_values) (ix2 b j) = VF V b (VP V b j) :=
  values_at (X1 V) b (VF V b) (x1_v131 V b) j

/-- The chosen pairs. -/
theorem x2_indices (j : Fin 1000) : X2 V (Proc.devRef .tc main_indices) (ix2 b j) = BitVec.ofNat 32 (VP V b j).val :=
  indices_at (X1 V) b (VF V b) (x1_v131 V b) j

/-- The chosen pairs' boxes. -/
theorem x3_v132 (j : Fin 1000) : X3 V (Proc.devRef .tc main_v132) (ix2 b j) = BitVec.ofNat 32 ((VP V b j).val / 80) :=
  v132_at (X2 V) b j _ (by have := (VP V b j).isLt; omega) (x2_indices V b j) (c_at (X1 V))

/-- The chosen pairs' classes. -/
theorem x5_v133 (j : Fin 1000) : X5 V (Proc.devRef .tc main_v133) (ix2 b j) = BitVec.ofNat 32 ((VP V b j).val % 80) := by
  refine v133_at (X4 V) b j _ (by have := (VP V b j).isLt; omega) ?_ (c25_at (X3 V))
  rw [X4_of V main_indices (by decide), X3_of V main_indices (by decide)]
  exact x2_indices V b j

/-- The chosen pairs' boxes, shaped for the lookup. -/
theorem x6_v134 (j : Fin 1000) (x : Fin 1) : X6 V (Proc.devRef .tc main_v134) (ix3 b j x) = BitVec.ofNat 32 ((VP V b j).val / 80) := by
  refine (v134_at (X5 V) b j x).trans ?_
  rw [X5_of V main_v132 (by decide), X4_of V main_v132 (by decide)]
  exact x3_v132 V b j

/-- The chosen boxes' raw coordinates. -/
theorem x7_v135 (j : Fin 1000) (q : Fin 4) : X7 V (Proc.devRef .tc main_v135) (ix3 b j q) =
    rawbox (fun q => VR V b ⟨(VP V b j).val / 80, by omega⟩ ⟨q.val, by omega⟩) ((VP V b j).val / 80) q := by
  refine (v135_at (X6 V) b j q ⟨(VP V b j).val / 80, by omega⟩ (x6_v134 V b j)).trans ?_
  rw [X6_of V main_v126 (by decide), X5_of V main_v126 (by decide), X4_of V main_v126 (by decide), X3_of V main_v126 (by decide), X2_of V main_v126 (by decide), X1_of V main_v126 (by decide)]
  exact v126_at V b _ q

/-- A box's left edge, from its raw coordinates. -/
theorem edge0 (r : Fin 25200 → Fin 85 → EReal) (J : Fin 25200) :
    low (rawbox (fun q => r J ⟨q.val, by omega⟩) J.val 0) (rawbox (fun q => r J ⟨q.val, by omega⟩) J.val 2) = corners r J 0 := by
  simp [corners, corner, rawbox]

/-- The chosen boxes' left edges. -/
theorem x9_v143 (j : Fin 1000) : X9 V (Proc.devRef .tc main_v143) (ix2 b j) = VC V b ⟨(VP V b j).val / 80, by omega⟩ 0 := by
  refine (v143_at (X7 V) b j).trans ?_
  rw [x7_v135, x7_v135]
  exact edge0 (VR V b) ⟨(VP V b j).val / 80, by omega⟩

/-- A box's upper edge, from its raw coordinates. -/
theorem edge1 (r : Fin 25200 → Fin 85 → EReal) (J : Fin 25200) :
    low (rawbox (fun q => r J ⟨q.val, by omega⟩) J.val 1) (rawbox (fun q => r J ⟨q.val, by omega⟩) J.val 3) = corners r J 1 := by
  simp [corners, corner, rawbox]

/-- The chosen boxes' upper edges. -/
theorem x11_v151 (j : Fin 1000) : X11 V (Proc.devRef .tc main_v151) (ix2 b j) = VC V b ⟨(VP V b j).val / 80, by omega⟩ 1 := by
  refine (v151_at (X9 V) b j).trans ?_
  rw [X9_of V main_v135 (by decide), X8_of V main_v135 (by decide), x7_v135, x7_v135]
  exact edge1 (VR V b) ⟨(VP V b j).val / 80, by omega⟩

/-- A box's right edge, from its raw coordinates. -/
theorem edge2 (r : Fin 25200 → Fin 85 → EReal) (J : Fin 25200) :
    high (rawbox (fun q => r J ⟨q.val, by omega⟩) J.val 0) (rawbox (fun q => r J ⟨q.val, by omega⟩) J.val 2) = corners r J 2 := by
  simp [corners, corner, rawbox]

/-- The chosen boxes' right edges. -/
theorem x13_v159 (j : Fin 1000) : X13 V (Proc.devRef .tc main_v159) (ix2 b j) = VC V b ⟨(VP V b j).val / 80, by omega⟩ 2 := by
  refine (v159_at (X11 V) b j).trans ?_
  rw [X11_of V main_v135 (by decide), X10_of V main_v135 (by decide), X9_of V main_v135 (by decide), X8_of V main_v135 (by decide), x7_v135, x7_v135]
  exact edge2 (VR V b) ⟨(VP V b j).val / 80, by omega⟩

/-- A box's lower edge, from its raw coordinates. -/
theorem edge3 (r : Fin 25200 → Fin 85 → EReal) (J : Fin 25200) :
    high (rawbox (fun q => r J ⟨q.val, by omega⟩) J.val 1) (rawbox (fun q => r J ⟨q.val, by omega⟩) J.val 3) = corners r J 3 := by
  simp [corners, corner, rawbox]

/-- The chosen boxes' lower edges. -/
theorem x15_v167 (j : Fin 1000) : X15 V (Proc.devRef .tc main_v167) (ix2 b j) = VC V b ⟨(VP V b j).val / 80, by omega⟩ 3 := by
  refine (v167_at (X13 V) b j).trans ?_
  rw [X13_of V main_v135 (by decide), X12_of V main_v135 (by decide), X11_of V main_v135 (by decide), X10_of V main_v135 (by decide), X9_of V main_v135 (by decide), X8_of V main_v135 (by decide), x7_v135, x7_v135]
  exact edge3 (VR V b) ⟨(VP V b j).val / 80, by omega⟩

/-- The chosen boxes' corners. -/
theorem x16_v172 (j : Fin 1000) (q : Fin 4) : X16 V (Proc.devRef .tc main_v172) (ix3 b j q) = VC V b ⟨(VP V b j).val / 80, by omega⟩ q := by
  refine (v172_at (X15 V) b j q).trans ?_
  rw [X15_of V main_v143 (by decide), X14_of V main_v143 (by decide), X13_of V main_v143 (by decide), X12_of V main_v143 (by decide), X11_of V main_v143 (by decide), X10_of V main_v143 (by decide), X15_of V main_v151 (by decide), X14_of V main_v151 (by decide), X13_of V main_v151 (by decide), X12_of V main_v151 (by decide), X15_of V main_v159 (by decide), X14_of V main_v159 (by decide), x9_v143, x11_v151, x13_v159, x15_v167]
  match q with
  | ⟨0, _⟩ => rfl
  | ⟨1, _⟩ => rfl
  | ⟨2, _⟩ => rfl
  | ⟨3, _⟩ => rfl

/-- The chosen boxes moved to their classes. -/
theorem x16_v178 (j : Fin 1000) (q : Fin 4) : X16 V (Proc.devRef .tc main_v178) (ix3 b j q) = placed (VC V b) (VP V b j) q := by
  refine (v178_at (X15 V) b j q _ ((VP V b j).val % 80) (by omega) (x16_v172 V b j q) ?_).trans rfl
  rw [X15_of V main_v133 (by decide), X14_of V main_v133 (by decide), X13_of V main_v133 (by decide), X12_of V main_v133 (by decide), X11_of V main_v133 (by decide), X10_of V main_v133 (by decide), X9_of V main_v133 (by decide), X8_of V main_v133 (by decide), X7_of V main_v133 (by decide), X6_of V main_v133 (by decide)]
  exact x5_v133 V b j

/-- The common parts' sides. -/
theorem x17_v194 (i p : Fin 1000) (q : Fin 2) : X17 V (Proc.devRef .tc main_v194) (ix4 b i p q) =
    max (0 : EReal) (min (placed (VC V b) (VP V b i) ⟨2 + q.val, by omega⟩) (placed (VC V b) (VP V b p) ⟨2 + q.val, by omega⟩)
      - max (placed (VC V b) (VP V b i) ⟨q.val, by omega⟩) (placed (VC V b) (VP V b p) ⟨q.val, by omega⟩)) := by
  refine (v194_at (X16 V) b i p q (cst39_at (X15 V))).trans ?_
  rw [show X16 V (Proc.devRef .tc main_v193) (ix4 b i p q) = _ from v193_at (X15 V) b i p q _ _ (x16_v178 V b i) (x16_v178 V b p)]

/-- The overlaps of the chosen boxes. -/
theorem x18_iou (i p : Fin 1000) : X18 V (Proc.devRef .tc main_v233_0) (ix3 b i p) =
    iou (placed (VC V b) (VP V b i) 0) (placed (VC V b) (VP V b i) 1) (placed (VC V b) (VP V b i) 2) (placed (VC V b) (VP V b i) 3) (area (placed (VC V b) (VP V b i)))
      (placed (VC V b) (VP V b p) 0) (placed (VC V b) (VP V b p) 1) (placed (VC V b) (VP V b p) 2) (placed (VC V b) (VP V b p) 3) (area (placed (VC V b) (VP V b p))) := by
  refine v230_at (X17 V) b i p (placed (VC V b) (VP V b i)) (placed (VC V b) (VP V b p)) (fun q => ?_) (fun q => ?_) (x17_v194 V b i p 0) (x17_v194 V b i p 1)
  · rw [X17_of V main_v178 (by decide)]
    exact x16_v178 V b i q
  · rw [X17_of V main_v178 (by decide)]
    exact x16_v178 V b p q

/-- The chosen pairs that pass the threshold. -/
theorem x18_keep (j : Fin 1000) : X18 V (Proc.devRef .tc main_v233_3) (ix2 b j) = BitVec.ofBool (decide (quarter < VF V b (VP V b j))) := by
  refine v232_at (X17 V) b j _ ?_
  rw [X17_of V main_values (by decide), X16_of V main_values (by decide), X15_of V main_values (by decide), X14_of V main_values (by decide), X13_of V main_values (by decide), X12_of V main_values (by decide), X11_of V main_values (by decide), X10_of V main_values (by decide), X9_of V main_values (by decide), X8_of V main_values (by decide), X7_of V main_values (by decide), X6_of V main_values (by decide), X5_of V main_values (by decide), X4_of V main_values (by decide), X3_of V main_values (by decide)]
  exact x2_values V b j

/-- The loop's row number starts at zero. -/
theorem x18_row : X18 V (Proc.devRef .tc main_v233_2) = fun _ => (0#32 : BitVec 32) := row_start (X17 V)

/-- The chosen pairs' scores, before the loop. -/
theorem x18_values (j : Fin 1000) : X18 V (Proc.devRef .tc main_values) (ix2 b j) = VF V b (VP V b j) := by
  rw [X18_of V main_values (by decide), X17_of V main_values (by decide), X16_of V main_values (by decide), X15_of V main_values (by decide), X14_of V main_values (by decide), X13_of V main_values (by decide), X12_of V main_values (by decide), X11_of V main_values (by decide), X10_of V main_values (by decide), X9_of V main_values (by decide), X8_of V main_values (by decide), X7_of V main_values (by decide), X6_of V main_values (by decide), X5_of V main_values (by decide), X4_of V main_values (by decide), X3_of V main_values (by decide)]
  exact x2_values V b j

/-- The chosen pairs' classes, before the loop. -/
theorem x18_v133 (j : Fin 1000) : X18 V (Proc.devRef .tc main_v133) (ix2 b j) = BitVec.ofNat 32 ((VP V b j).val % 80) := by
  rw [X18_of V main_v133 (by decide), X17_of V main_v133 (by decide), X16_of V main_v133 (by decide), X15_of V main_v133 (by decide), X14_of V main_v133 (by decide), X13_of V main_v133 (by decide), X12_of V main_v133 (by decide), X11_of V main_v133 (by decide), X10_of V main_v133 (by decide), X9_of V main_v133 (by decide), X8_of V main_v133 (by decide), X7_of V main_v133 (by decide), X6_of V main_v133 (by decide)]
  exact x5_v133 V b j

/-- The chosen boxes' corners, before the loop. -/
theorem x18_v172 (j : Fin 1000) (q : Fin 4) : X18 V (Proc.devRef .tc main_v172) (ix3 b j q) = VC V b ⟨(VP V b j).val / 80, by omega⟩ q := by
  rw [X18_of V main_v172 (by decide), X17_of V main_v172 (by decide)]
  exact x16_v172 V b j q

end Cert.Proof.Ref
-- ==== Proof.Ref5.lean ====
/- The reference's loop: after its thousand trips exactly the pairs no earlier kept pair suppresses are kept. -/
module

public import proofs.«01_k».proof.Proof.Ref4
public import Idealize.ShloMosaic.Lib.DynamicIndex

@[expose] public section
noncomputable section
namespace Cert.Proof.Ref
open Idealize.ShloMosaic Idealize.ShloMosaic.TcCoe Idealize.ShloMosaic.StableHlo Idealize.ShloMosaic.Tactic
open Cert.ReferenceIdeal Cert.ReferenceIdeal.Gen Cert.ReferenceIdeal.Value
open Cert.Proof.Model Cert.Proof.Select
set_option maxRecDepth 100000
variable (V : Valuation τ sig (Elt Ideal))

/-- Row `k` of the overlaps. -/
theorem row_read (x : S8x1000x1000.Idx → EReal) (start : Fin 3 → Int) (k : Fin 1000) (hs : ∀ a, start a = ((![0, k.val, 0] : Fin 3 → ℕ) a : Int)) (h h')
    (b : Fin 8) (p : Fin 1000) :
    shapeCast S8x1000 (Host.dynamicSlice S8x1x1000 x start h) h' (ix2 b p) = x (ix3 b k p) := by
  have hf : S8x1000x1000.Slices (![0, k.val, 0] : Fin 3 → ℕ) S8x1x1000 := ⟨rfl, fun a => by
    have := k.isLt
    match a with
    | ⟨0, _⟩ => exact Nat.le_refl 8
    | ⟨1, _⟩ => exact this
    | ⟨2, _⟩ => exact Nat.le_refl 1000⟩
  rw [Host.dynamicSlice_eq_extractStridedSlice S8x1x1000 x start (![0, k.val, 0] : Fin 3 → ℕ) h hf hs]
  pointwise

/-- Place `k` of what is kept. -/
theorem one_read (x : S8x1000.Idx → BitVec 1) (start : Fin 2 → Int) (k : Fin 1000) (hs : ∀ a, start a = ((![0, k.val] : Fin 2 → ℕ) a : Int)) (h h')
    (b : Fin 8) (p : Fin 1000) :
    broadcastInDim S8x1000 ![0, 1] h' (Host.dynamicSlice S8x1 x start h) (ix2 b p) = x (ix2 b k) := by
  have hf : S8x1000.Slices (![0, k.val] : Fin 2 → ℕ) S8x1 := ⟨rfl, fun a => by
    have := k.isLt
    match a with
    | ⟨0, _⟩ => exact Nat.le_refl 8
    | ⟨1, _⟩ => exact this⟩
  rw [Host.dynamicSlice_eq_extractStridedSlice S8x1 x start (![0, k.val] : Fin 2 → ℕ) h hf hs]
  pointwise

/-- The loop's row number as a start. -/
theorem start_word (k : ℕ) (hk : k < 2 ^ 31) (u : IVec S_ 32) (hu : u = fun _ => BitVec.ofNat 32 k) :
    (select (cmpi .slt u (constantI S_ 32 0#32)) (addi (id u) (constantI S_ 32 1000#32)) u (Shape.Idx.first h_S_)).toInt = (k : Int) := by
  subst hu
  exact toInt_wrap_ofNat k hk

/-- One bit of what a round leaves. -/
theorem bit_read (kp K : S8x1000.Idx → BitVec 1) (R : S8x1000.Idx → EReal) (u : IVec S_ 32) (b : Fin 8) (p : Fin 1000) (h1 h2 h3 h4) :
    (id (andi kp (noti (andi (andi (cmpf (F := Ideal) (φ := .f32) .ogt R (broadcastInDim S8x1000 ![] h1 (constant (F := Ideal) S_ .f32 0x3EE66666#32)))
      (broadcastInDim S8x1000 ![0, 1] h2 (broadcastInDim S1x1000 ![1] h3 (cmpi .sgt (iotaInDim S1000 32 0) (broadcastInDim S1000 ![] h4 (id u)))))) K)))) (ix2 b p) =
    IntOp.andi (kp (ix2 b p)) (~~~ IntOp.andi (IntOp.andi (BitVec.ofBool (decide (overlap < R (ix2 b p)))) (IntOp.cmpi .sgt (BitVec.ofNat 32 p.val) (u ix0))) (K (ix2 b p))) := by
  simp only [id]
  pointwise
  rfl

/-- The bits of a round, as propositions. -/
theorem bit_word3 (a r l k : Prop) [Decidable a] [Decidable r] [Decidable l] [Decidable k] :
    IntOp.andi (BitVec.ofBool (decide a)) (~~~ IntOp.andi (IntOp.andi (BitVec.ofBool (decide r)) (BitVec.ofBool (decide l))) (BitVec.ofBool (decide k)))
      = BitVec.ofBool (decide (a ∧ ¬ ((r ∧ l) ∧ k))) := by
  by_cases a <;> by_cases r <;> by_cases l <;> by_cases k <;> simp [*, IntOp.andi]

/-- A later place, as words compare. -/
theorem later_word (k p : ℕ) (hk : k < 1000) (hp : p < 1000) : IntOp.cmpi .sgt (BitVec.ofNat 32 p) (BitVec.ofNat 32 k) = BitVec.ofBool (decide (k < p)) :=
  WordCmp.cmpi_slt_ofNat (w := 32) (a := k) (b := p) (by omega) (by omega)

/-- A round of the loop: what is kept after it. -/
theorem round_at (k : Fin 1000) (b : Fin 8) (K : ℕ → Prop) [DecidablePred K] (hu : V (Proc.devRef .tc main_v233_2) = fun _ => BitVec.ofNat 32 k.val)
    (hK : ∀ p : Fin 1000, V (Proc.devRef .tc main_v233_3) (ix2 b p) = BitVec.ofBool (decide (K p.val))) (p : Fin 1000) (x : EReal)
    (hx : V (Proc.devRef .tc main_v233_0) (ix3 b k p) = x) :
    afterL bodyI V (Proc.devRef .tc main_v233_3) (ix2 b p) = BitVec.ofBool (decide (K p.val ∧ ¬ ((overlap < x ∧ k.val < p.val) ∧ K k.val))) := by
  refine (congrFun (trip_main_v233_3 V) (ix2 b p)).trans ((bit_read _ _ _ _ b p _ _ _ _).trans ?_)
  have hw := start_word k.val (by omega) (V (Proc.devRef .tc main_v233_2)) hu
  rw [row_read (V (Proc.devRef .tc main_v233_0)) _ k (fun a => by
      match a with
      | ⟨0, _⟩ => rfl
      | ⟨1, _⟩ => exact hw
      | ⟨2, _⟩ => rfl) _ _ b p,
    one_read (V (Proc.devRef .tc main_v233_3)) _ k (fun a => by
      match a with
      | ⟨0, _⟩ => rfl
      | ⟨1, _⟩ => exact hw) _ _ b p, hx, hK p, hK k, hu, later_word k.val p.val k.isLt p.isLt, bit_word3]

/-- The row number after a round. -/
theorem round_row (k : ℕ) (hu : V (Proc.devRef .tc main_v233_2) = fun _ => BitVec.ofNat 32 k) :
    afterL bodyI V (Proc.devRef .tc main_v233_2) = fun _ => BitVec.ofNat 32 (k + 1) := by
  refine (trip_main_v233_2 V).trans ?_
  rw [hu]
  funext i
  exact WordCmp.addi_ofNat k 1

section Trips
variable (E : Dev nD → Valuation τ sig (Elt Ideal)) (c : Dev nD)

/-- The loop's condition changes nothing the rounds read. -/
theorem cond_of (X : Valuation τ sig (Elt Ideal)) (r : Ref sig .tc) (h : r ∉ condOps_W) : after condOps X (Proc.devRef .tc r) = X (Proc.devRef .tc r) :=
  after_of_writes_sub condOps X condOps_writes h

/-- A buffer the loop does not write. -/
theorem trips_of (r : Ref sig .tc) (h : r ∉ condOps_W) (h' : r ∉ while0Ops0_W) : ∀ k, atTrip condOps bodyI E k c (Proc.devRef .tc r) = E c (Proc.devRef .tc r)
  | 0 => rfl
  | k + 1 => (after_of_writes_sub while0Ops0 _ while0Ops0_writes h').trans ((cond_of _ r h).trans (trips_of r h h' k))

/-- The table of overlaps, at every trip. -/
theorem trips_iou : ∀ k, atTrip condOps bodyI E k c (Proc.devRef .tc main_v233_0) = E c (Proc.devRef .tc main_v233_0)
  | 0 => rfl
  | k + 1 => (trip_main_v233_0 _).trans ((cond_of _ main_v233_0 (by decide)).trans (trips_iou k))

/-- The row number, at every trip. -/
theorem trips_row (h : E c (Proc.devRef .tc main_v233_2) = fun _ => (0#32 : BitVec 32)) :
    ∀ k, atTrip condOps bodyI E k c (Proc.devRef .tc main_v233_2) = fun _ => BitVec.ofNat 32 k
  | 0 => h
  | k + 1 => round_row _ k ((cond_of _ main_v233_2 (by decide)).trans (trips_row h k))

open Classical in
/-- What is kept, at every trip. -/
theorem trips_keep (b : Fin 8) (sup : ℕ → ℕ → Prop) (k0 : ℕ → Prop) (h : E c (Proc.devRef .tc main_v233_2) = fun _ => (0#32 : BitVec 32))
    (h0 : ∀ p : Fin 1000, E c (Proc.devRef .tc main_v233_3) (ix2 b p) = BitVec.ofBool (decide (k0 p.val)))
    (x : Fin 1000 → Fin 1000 → EReal) (hx : ∀ i p, E c (Proc.devRef .tc main_v233_0) (ix3 b i p) = x i p) (hs : ∀ i p : Fin 1000, sup i.val p.val ↔ overlap < x i p) :
    ∀ k ≤ 1000, ∀ p : Fin 1000, atTrip condOps bodyI E k c (Proc.devRef .tc main_v233_3) (ix2 b p) = BitVec.ofBool (decide (kept sup k0 k p.val))
  | 0, _, p => h0 p
  | k + 1, hk, p => by
    refine (round_at (after condOps (atTrip condOps bodyI E k c)) ⟨k, hk⟩ b (kept sup k0 k) ((cond_of _ main_v233_2 (by decide)).trans (trips_row E c h k))
      (fun p => (congrFun (cond_of _ main_v233_3 (by decide)) (ix2 b p)).trans (trips_keep b sup k0 h h0 x hx hs k (by omega) p)) p (x ⟨k, hk⟩ p)
      ((congrFun ((cond_of _ main_v233_0 (by decide)).trans (trips_iou E c k)) (ix3 b ⟨k, hk⟩ p)).trans (hx ⟨k, hk⟩ p))).trans ?_
    refine congrArg BitVec.ofBool (decide_eq_decide.mpr ?_)
    rw [← hs ⟨k, hk⟩ p]
    exact Iff.rfl

/-- The overlap of two boxes. -/
def meet (o u : Fin 4 → EReal) : EReal := iou (o 0) (o 1) (o 2) (o 3) (area o) (u 0) (u 1) (u 2) (u 3) (area u)

/-- One chosen pair suppresses another exactly when their overlap is large. -/
theorem supP_iff (C : Fin 25200 → Fin 4 → EReal) (P : Fin 1000 → Fin 2016000) (i p : Fin 1000) :
    supP C P i.val p.val ↔ overlap < meet (placed C (P i)) (placed C (P p)) := ⟨fun ⟨_, _, h⟩ => h, fun h => ⟨i.isLt, p.isLt, h⟩⟩

/-- A chosen pair starts as kept exactly when its score is large. -/
theorem startP_iff (F : Fin 2016000 → EReal) (P : Fin 1000 → Fin 2016000) (p : Fin 1000) : quarter < F (P p) ↔ startP F P p.val :=
  ⟨fun h => ⟨p.isLt, h⟩, fun ⟨_, h⟩ => h⟩

open Classical in
/-- What the loop leaves: the pairs kept. -/
theorem loop_keep (V : Valuation τ sig (Elt Ideal)) (hE : ∀ r, E c (Proc.devRef .tc r) = X18 V (Proc.devRef .tc r)) (b : Fin 8) (p : Fin 1000) :
    atTrip condOps bodyI E 1000 c (Proc.devRef .tc main_v233_3) (ix2 b p) =
      BitVec.ofBool (decide (kept (supP (VC V b) (VP V b)) (startP (VF V b) (VP V b)) 1000 p.val)) :=
  trips_keep E c b (supP (VC V b) (VP V b)) (startP (VF V b) (VP V b)) ((hE main_v233_2).trans (x18_row V))
    (fun p => (congrFun (hE main_v233_3) (ix2 b p)).trans ((x18_keep V b p).trans (congrArg BitVec.ofBool (decide_eq_decide.mpr (startP_iff (VF V b) (VP V b) p)))))
    (fun i p => meet (placed (VC V b) (VP V b i)) (placed (VC V b) (VP V b p)))
    (fun i p => (congrFun (hE main_v233_0) (ix3 b i p)).trans (x18_iou V b i p)) (supP_iff (VC V b) (VP V b)) 1000 (Nat.le_refl _) p

end Trips
end Cert.Proof.Ref
-- ==== Proof.Ref6.lean ====
/- The reference from its loop to its result: its result is the detections of its chosen pairs. -/
module

public import proofs.«01_k».proof.Proof.Ref5

@[expose] public section
noncomputable section
namespace Cert.Proof.Ref
open Idealize.ShloMosaic Idealize.ShloMosaic.TcCoe Idealize.ShloMosaic.StableHlo Idealize.ShloMosaic.Tactic
open Cert.ReferenceIdeal Cert.ReferenceIdeal.Gen Cert.ReferenceIdeal.Value
open Cert.Proof.Model Cert.Proof.Select Cert.Proof.Take
set_option maxRecDepth 100000

/-- A cleared bit is not a set one. -/
theorem off_ne_on : ¬ BitVec.ofBool false = 1#1 := by decide

section Reads
variable (V : Valuation τ sig (Elt Ideal))

/-- The score of what is not kept. -/
theorem cst44_at : after hostOps0_19 V (Proc.devRef .tc main_cst_44) ix0 = neg1 := by
  after_reads_at
  rfl

/-- The scores left: minus one where not kept. -/
theorem v234_at (b : Fin 8) (j : Fin 1000) (P : Prop) [Decidable P] (x : EReal) (h : V (Proc.devRef .tc main_v233_3) (ix2 b j) = BitVec.ofBool (decide P))
    (hx : V (Proc.devRef .tc main_values) (ix2 b j) = x) (hc : V (Proc.devRef .tc main_cst_44) ix0 = neg1) :
    after hostOps0_20 V (Proc.devRef .tc main_v234) (ix2 b j) = if P then x else neg1 := by
  after_reads_at
  have hc' : id (V (Proc.devRef .tc main_cst_44)) ix0 = neg1 := hc
  rw [h, hx, hc', WordCmp.select_decide]

/-- The best scores left. -/
theorem values45_at (b : Fin 8) (f : Fin 1000 → EReal) (h : ∀ q, V (Proc.devRef .tc main_v234) (ix2 b q) = f q) (k : Fin 300) :
    after hostOps0_21 V (Proc.devRef .tc main_values_45) (ix2 b k) = f (best f (k.castLE (by decide))) := by
  have e : (fun q => V (Proc.devRef .tc main_v234) (ix2 b q)) = f := funext h
  have t := (topK_at (V (Proc.devRef .tc main_v234)) sliceFits_S8x1000_S8x300 b k (by decide)).1
  refine Eq.trans ?_ (t.trans (congrArg (fun f => f (best f (k.castLE (by decide) : Fin 1000))) e))
  after_reads_simp

/-- Where the best scores left stand. -/
theorem indices46_at (b : Fin 8) (f : Fin 1000 → EReal) (h : ∀ q, V (Proc.devRef .tc main_v234) (ix2 b q) = f q) (k : Fin 300) :
    after hostOps0_21 V (Proc.devRef .tc main_indices_46) (ix2 b k) = BitVec.ofNat 32 (best f (k.castLE (by decide))).val := by
  have e : (fun q => V (Proc.devRef .tc main_v234) (ix2 b q)) = f := funext h
  have t := (topK_at (V (Proc.devRef .tc main_v234)) sliceFits_S8x1000_S8x300 b k (by decide)).2
  refine Eq.trans ?_ (t.trans (congrArg (fun f => BitVec.ofNat 32 (best f (k.castLE (by decide) : Fin 1000)).val) e))
  after_reads_simp

/-- The same, shaped for the lookup. -/
theorem v235_at (b : Fin 8) (f : Fin 1000 → EReal) (h : ∀ q, V (Proc.devRef .tc main_v234) (ix2 b q) = f q) (k : Fin 300) (x : Fin 1) :
    after hostOps0_21 V (Proc.devRef .tc main_v235) (ix3 b k x) = BitVec.ofNat 32 (best f (k.castLE (by decide))).val := by
  refine Eq.trans ?_ (indices46_at V b f h k)
  after_reads_at

/-- The detections' corners. -/
theorem v236_at (b : Fin 8) (k : Fin 300) (q : Fin 4) (p : Fin 1000) (h : ∀ x : Fin 1, V (Proc.devRef .tc main_v235) (ix3 b k x) = BitVec.ofNat 32 p.val) :
    after hostOps0_22 V (Proc.devRef .tc main_v236) (ix3 b k q) = V (Proc.devRef .tc main_v172) (ix3 b p q) := by
  after_reads_at
  simp only [h]
  rw [guard_one p.val 999 1000 (by omega) (by decide)]
  refine rows_at _ _ _ b k q p ?_ (by decide)
  show Scalar.select (IntOp.cmpi .slt (V (Proc.devRef .tc main_v235) (ix3 b k 0)) 0#32) (IntOp.addi (V (Proc.devRef .tc main_v235) (ix3 b k 0)) 1000#32)
    (V (Proc.devRef .tc main_v235) (ix3 b k 0)) = _
  rw [h]
  exact wrap _ _ (by omega)

/-- The detections' corners, in the image's own scale. -/
theorem v239_at (b : Fin 8) (k : Fin 300) (q : Fin 4) : after hostOps0_23 V (Proc.devRef .tc main_v239) (ix3 b k q) =
    Ideal.div (V (Proc.devRef .tc main_v236) (ix3 b k q)) (V (Proc.devRef .tc main_arg3) (ix1 b)) := by
  after_reads_at

/-- The detections' classes. -/
theorem v240_at (b : Fin 8) (k : Fin 300) (p : Fin 1000) (h : V (Proc.devRef .tc main_indices_46) (ix2 b k) = BitVec.ofNat 32 p.val) :
    after hostOps0_24 V (Proc.devRef .tc main_v240) (ix2 b k) = V (Proc.devRef .tc main_v133) (ix2 b p) := by
  after_reads_at
  rw [h]
  rw [guard_one p.val 999 1000 (by omega) (by decide)]
  refine line_at _ _ _ b k p ?_ (by decide)
  show Scalar.select (IntOp.cmpi .slt (V (Proc.devRef .tc main_indices_46) (ix2 b k)) 0#32) (IntOp.addi (V (Proc.devRef .tc main_indices_46) (ix2 b k)) 1000#32)
    (V (Proc.devRef .tc main_indices_46) (ix2 b k)) = _
  rw [h]
  exact wrap _ _ (by omega)

/-- The result: corners, score and class, or zeros. -/
theorem v252_at (b : Fin 8) (k : Fin 300) (t : Fin 6) (l : ℕ) (hl : l < 80) (h : V (Proc.devRef .tc main_v240) (ix2 b k) = BitVec.ofNat 32 l) :
    after hostOps0_25 V (Proc.devRef .tc main_v252) (ix3 b k t) =
    masked (if ht : t.val < 4 then V (Proc.devRef .tc main_v239) (ix3 b k ⟨t.val, ht⟩) else if t.val = 4 then V (Proc.devRef .tc main_values_45) (ix2 b k) else ((l : ℝ) : EReal))
      (V (Proc.devRef .tc main_values_45) (ix2 b k)) := by
  by_cases ht : t.val < 4
  · rw [dif_pos ht]
    after_reads_at
    rw [dif_pos (show t.val < 4 from ht)]
    after_reads_at
    rw [bit_word]
    rfl
  · rw [dif_neg ht]
    by_cases h4 : t.val = 4
    · rw [if_pos h4]
      after_reads_at
      rw [dif_neg (show ¬ t.val < 4 from ht), dif_pos (show t.val - 4 < 1 by omega)]
      after_reads_at
      rw [bit_word]
      rfl
    · rw [if_neg h4]
      after_reads_at
      rw [dif_neg (show ¬ t.val < 4 from ht), dif_neg (show ¬ t.val - 4 < 1 by omega)]
      after_reads_at
      rw [bit_word, h, Ker.word_real l (by omega)]
      rfl

end Reads

section Post
variable (A : Valuation τ sig (Elt Ideal))

/-- What stretch 19 writes. -/
abbrev post19_W : List (Ref sig .tc) := [main_cst_44]

/-- It writes nothing else. -/
theorem post19_writes : (hostOps0_19 : List (HloOp τ sig (Elt Ideal))).Forall fun op => op.writes ⊆ (post19_W.map (Proc.devRef (τ := τ) .tc)).toFinset :=
  StableHlo.forall_writes_sub_of_map rfl

/-- The contents after stretch 19. -/
def Y19 : Valuation τ sig (Elt Ideal) := after hostOps0_19 A

/-- What stretch 19 leaves. -/
theorem Y19_of (r : Ref sig .tc) (h : r ∉ post19_W) : Y19 A (Proc.devRef .tc r) = A (Proc.devRef .tc r) :=
  after_of_writes_sub hostOps0_19 _ post19_writes h

/-- What stretch 20 writes. -/
abbrev post20_W : List (Ref sig .tc) := [main_call9_v0, main_call9_v1, main_v234]

/-- It writes nothing else. -/
theorem post20_writes : (hostOps0_20 : List (HloOp τ sig (Elt Ideal))).Forall fun op => op.writes ⊆ (post20_W.map (Proc.devRef (τ := τ) .tc)).toFinset :=
  StableHlo.forall_writes_sub_of_map rfl

/-- The contents after stretch 20. -/
def Y20 : Valuation τ sig (Elt Ideal) := after hostOps0_20 (Y19 A)

/-- What stretch 20 leaves. -/
theorem Y20_of (r : Ref sig .tc) (h : r ∉ post20_W) : Y20 A (Proc.devRef .tc r) = Y19 A (Proc.devRef .tc r) :=
  after_of_writes_sub hostOps0_20 _ post20_writes h

/-- What stretch 21 writes. -/
abbrev post21_W : List (Ref sig .tc) := [main_values_45, main_indices_46, main_v235]

/-- It writes nothing else. -/
theorem post21_writes : (hostOps0_21 : List (HloOp τ sig (Elt Ideal))).Forall fun op => op.writes ⊆ (post21_W.map (Proc.devRef (τ := τ) .tc)).toFinset :=
  StableHlo.forall_writes_sub_of_map rfl

/-- The contents after stretch 21. -/
def Y21 : Valuation τ sig (Elt Ideal) := after hostOps0_21 (Y20 A)

/-- What stretch 21 leaves. -/
theorem Y21_of (r : Ref sig .tc) (h : r ∉ post21_W) : Y21 A (Proc.devRef .tc r) = Y20 A (Proc.devRef .tc r) :=
  after_of_writes_sub hostOps0_21 _ post21_writes h

/-- What stretch 22 writes. -/
abbrev post22_W : List (Ref sig .tc) := [main_call10_c, main_call10_v0, main_call10_v1, main_call10_c_0, main_call10_v2, main_call10_v3, main_call10_v4, main_call10_c_1, main_call10_c_2, main_call10_v5, main_call10_v6, main_call10_v7, main_call10_v8, main_call10_v9, main_call10_v10, main_call10_c_3, main_call10_v11, main_call10_v12, main_call10_v13, main_call10_cst, main_call10_v14, main_v236]

/-- It writes nothing else. -/
theorem post22_writes : (hostOps0_22 : List (HloOp τ sig (Elt Ideal))).Forall fun op => op.writes ⊆ (post22_W.map (Proc.devRef (τ := τ) .tc)).toFinset :=
  StableHlo.forall_writes_sub_of_map rfl

/-- The contents after stretch 22. -/
def Y22 : Valuation τ sig (Elt Ideal) := after hostOps0_22 (Y21 A)

/-- What stretch 22 leaves. -/
theorem Y22_of (r : Ref sig .tc) (h : r ∉ post22_W) : Y22 A (Proc.devRef .tc r) = Y21 A (Proc.devRef .tc r) :=
  after_of_writes_sub hostOps0_22 _ post22_writes h

/-- What stretch 23 writes. -/
abbrev post23_W : List (Ref sig .tc) := [main_v237, main_v238, main_v239]

/-- It writes nothing else. -/
theorem post23_writes : (hostOps0_23 : List (HloOp τ sig (Elt Ideal))).Forall fun op => op.writes ⊆ (post23_W.map (Proc.devRef (τ := τ) .tc)).toFinset :=
  StableHlo.forall_writes_sub_of_map rfl

/-- The contents after stretch 23. -/
def Y23 : Valuation τ sig (Elt Ideal) := after hostOps0_23 (Y22 A)

/-- What stretch 23 leaves. -/
theorem Y23_of (r : Ref sig .tc) (h : r ∉ post23_W) : Y23 A (Proc.devRef .tc r) = Y22 A (Proc.devRef .tc r) :=
  after_of_writes_sub hostOps0_23 _ post23_writes h

/-- What stretch 24 writes. -/
abbrev post24_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_c_4, main_call11_v14, main_v240]

/-- It writes nothing else. -/
theorem post24_writes : (hostOps0_24 : List (HloOp τ sig (Elt Ideal))).Forall fun op => op.writes ⊆ (post24_W.map (Proc.devRef (τ := τ) .tc)).toFinset :=
  StableHlo.forall_writes_sub_of_map rfl

/-- The contents after stretch 24. -/
def Y24 : Valuation τ sig (Elt Ideal) := after hostOps0_24 (Y23 A)

/-- What stretch 24 leaves. -/
theorem Y24_of (r : Ref sig .tc) (h : r ∉ post24_W) : Y24 A (Proc.devRef .tc r) = Y23 A (Proc.devRef .tc r) :=
  after_of_writes_sub hostOps0_24 _ post24_writes h

/-- What stretch 25 writes. -/
abbrev post25_W : List (Ref sig .tc) := [main_v241, main_cst_47, main_v242, main_v243, main_v244, main_v245, main_v246, main_v247, main_v248, main_v249, main_v250, main_v251, main_v252]

/-- It writes nothing else. -/
theorem post25_writes : (hostOps0_25 : List (HloOp τ sig (Elt Ideal))).Forall fun op => op.writes ⊆ (post25_W.map (Proc.devRef (τ := τ) .tc)).toFinset :=
  StableHlo.forall_writes_sub_of_map rfl

/-- The contents after stretch 25. -/
def Y25 : Valuation τ sig (Elt Ideal) := after hostOps0_25 (Y24 A)

/-- What stretch 25 leaves. -/
theorem Y25_of (r : Ref sig .tc) (h : r ∉ post25_W) : Y25 A (Proc.devRef .tc r) = Y24 A (Proc.devRef .tc r) :=
  after_of_writes_sub hostOps0_25 _ post25_writes h

/-- The result, read off what the loop leaves. -/
theorem post_at (b : Fin 8) (F : Fin 2016000 → EReal) (C : Fin 25200 → Fin 4 → EReal) (P : Fin 1000 → Fin 2016000) (z : EReal)
    (hk : ∀ j, (if (A (Proc.devRef .tc main_v233_3) (ix2 b j)) = 1#1 then F (P j) else neg1) = left F C P j)
    (hk' : ∀ j, ∃ (Q : Prop) (_ : Decidable Q), A (Proc.devRef .tc main_v233_3) (ix2 b j) = BitVec.ofBool (decide Q))
    (hv : ∀ j, A (Proc.devRef .tc main_values) (ix2 b j) = F (P j)) (hl : ∀ j, A (Proc.devRef .tc main_v133) (ix2 b j) = BitVec.ofNat 32 ((P j).val % 80))
    (hc : ∀ j q, A (Proc.devRef .tc main_v172) (ix3 b j q) = C ⟨(P j).val / 80, by omega⟩ q) (hz : A (Proc.devRef .tc main_arg3) (ix1 b) = z)
    (k : Fin 300) (t : Fin 6) : Y25 A (Proc.devRef .tc main_v252) (ix3 b k t) = detection F C P z k t := by
  have hs : ∀ j, Y20 A (Proc.devRef .tc main_v234) (ix2 b j) = left F C P j := fun j => by
    obtain ⟨Q, hQ, e⟩ := hk' j
    refine (v234_at (Y19 A) b j Q (F (P j)) ?_ ?_ (cst44_at A)).trans ?_
    · rw [Y19_of A main_v233_3 (by decide)]
      exact e
    · rw [Y19_of A main_values (by decide)]
      exact hv j
    · rw [← hk j, e]
      by_cases hq : Q
      · rw [if_pos hq, decide_eq_true hq]
        exact (if_pos rfl).symm
      · rw [if_neg hq, decide_eq_false hq]
        exact (if_neg off_ne_on).symm
  have hb : ∀ q : Fin 4, Y24 A (Proc.devRef .tc main_v239) (ix3 b k q) = Ideal.div (C ⟨(P (best (left F C P) (k.castLE (by decide)))).val / 80, by omega⟩ q) z := fun q => by
    rw [Y24_of A main_v239 (by decide)]
    refine (v239_at (Y22 A) b k q).trans ?_
    rw [Y22_of A main_arg3 (by decide), Y21_of A main_arg3 (by decide), Y20_of A main_arg3 (by decide), Y19_of A main_arg3 (by decide), hz]
    refine congrArg (fun x => Ideal.div x z) ((v236_at (Y21 A) b k q (best (left F C P) (k.castLE (by decide))) (v235_at (Y20 A) b _ hs k)).trans ?_)
    rw [Y21_of A main_v172 (by decide), Y20_of A main_v172 (by decide), Y19_of A main_v172 (by decide)]
    exact hc _ q
  have hn : Y24 A (Proc.devRef .tc main_v240) (ix2 b k) = BitVec.ofNat 32 ((P (best (left F C P) (k.castLE (by decide)))).val % 80) := by
    refine (v240_at (Y23 A) b k (best (left F C P) (k.castLE (by decide))) ?_).trans ?_
    · rw [Y23_of A main_indices_46 (by decide), Y22_of A main_indices_46 (by decide)]
      exact indices46_at (Y20 A) b _ hs k
    · rw [Y23_of A main_v133 (by decide), Y22_of A main_v133 (by decide), Y21_of A main_v133 (by decide), Y20_of A main_v133 (by decide), Y19_of A main_v133 (by decide)]
      exact hl _
  have hw : Y24 A (Proc.devRef .tc main_values_45) (ix2 b k) = left F C P (best (left F C P) (k.castLE (by decide))) := by
    rw [Y24_of A main_values_45 (by decide), Y23_of A main_values_45 (by decide), Y22_of A main_values_45 (by decide)]
    exact values45_at (Y20 A) b _ hs k
  refine (v252_at (Y24 A) b k t _ (Nat.mod_lt _ (by decide)) hn).trans ?_
  rw [hw]
  unfold detection entry
  by_cases ht : t.val < 4
  · rw [dif_pos ht, dif_pos ht, hb]
  · rw [dif_neg ht, dif_neg ht]

/-- The stretches after the loop, one after another. -/
theorem post_eq : afterL postI A = Y25 A := rfl

open Classical in
/-- The result, when the loop leaves the pairs kept. -/
theorem post_kept (b : Fin 8) (F : Fin 2016000 → EReal) (C : Fin 25200 → Fin 4 → EReal) (P : Fin 1000 → Fin 2016000) (z : EReal)
    (hk : ∀ j, A (Proc.devRef .tc main_v233_3) (ix2 b j) = BitVec.ofBool (decide (kept (supP C P) (startP F P) 1000 j.val)))
    (hv : ∀ j, A (Proc.devRef .tc main_values) (ix2 b j) = F (P j)) (hl : ∀ j, A (Proc.devRef .tc main_v133) (ix2 b j) = BitVec.ofNat 32 ((P j).val % 80))
    (hc : ∀ j q, A (Proc.devRef .tc main_v172) (ix3 b j q) = C ⟨(P j).val / 80, by omega⟩ q) (hz : A (Proc.devRef .tc main_arg3) (ix1 b) = z)
    (k : Fin 300) (t : Fin 6) : afterL postI A (Proc.devRef .tc main_v252) (ix3 b k t) = detection F C P z k t := by
  rw [post_eq]
  refine post_at A b F C P z (fun j => ?_) (fun j => ⟨_, _, hk j⟩) hv hl hc hz k t
  rw [hk j]
  unfold left
  by_cases h : kept (supP C P) (startP F P) 1000 j.val
  · rw [if_pos h, decide_eq_true h]
    exact if_pos rfl
  · rw [if_neg h, decide_eq_false h]
    exact if_neg off_ne_on

open Classical in
/-- The same from the contents the trips leave, the loop's last test included. -/
theorem tail_kept (T E : Valuation τ sig (Elt Ideal)) (b : Fin 8) (F : Fin 2016000 → EReal) (C : Fin 25200 → Fin 4 → EReal) (P : Fin 1000 → Fin 2016000) (z : EReal)
    (hT : ∀ r, r ∉ condOps_W ++ while0Ops0_W → T (Proc.devRef .tc r) = E (Proc.devRef .tc r))
    (hk : ∀ j, T (Proc.devRef .tc main_v233_3) (ix2 b j) = BitVec.ofBool (decide (kept (supP C P) (startP F P) 1000 j.val)))
    (hv : ∀ j, E (Proc.devRef .tc main_values) (ix2 b j) = F (P j)) (hl : ∀ j, E (Proc.devRef .tc main_v133) (ix2 b j) = BitVec.ofNat 32 ((P j).val % 80))
    (hc : ∀ j q, E (Proc.devRef .tc main_v172) (ix3 b j q) = C ⟨(P j).val / 80, by omega⟩ q) (hz : E (Proc.devRef .tc main_arg3) (ix1 b) = z)
    (k : Fin 300) (t : Fin 6) : afterL postI (after condOps T) (Proc.devRef .tc main_v252) (ix3 b k t) = detection F C P z k t := by
  refine post_kept (after condOps T) b F C P z (fun j => ?_) (fun j => ?_) (fun j => ?_) (fun j q => ?_) ?_ k t
  · rw [cond_of T main_v233_3 (by decide)]
    exact hk j
  · rw [cond_of T main_values (by decide), hT main_values (by decide)]
    exact hv j
  · rw [cond_of T main_v133 (by decide), hT main_v133 (by decide)]
    exact hl j
  · rw [cond_of T main_v172 (by decide), hT main_v172 (by decide)]
    exact hc j q
  · rw [cond_of T main_arg3 (by decide), hT main_arg3 (by decide)]
    exact hz

end Post

section Whole
variable (m : (ℓ : Loc nD τ sig) → Buf (Elt Ideal) ℓ) (c : Dev nD)

/-- The contents at launch. -/
abbrev L : Valuation τ sig (Elt Ideal) := launchContents m c

/-- The contents the loop starts from. -/
theorem entry_eq (r : Ref sig .tc) : entryContents preI m c (Proc.devRef .tc r) = X18 (L m c) (Proc.devRef .tc r) := congrFun (X_entry (L m c)) _

/-- The loop's test reads no more than the trips do. -/
theorem cond_sub (r : Ref sig .tc) (h : r ∉ condOps_W ++ while0Ops0_W) (k : ℕ) :
    atTrip condOps bodyI (entryContents preI m) k c (Proc.devRef .tc r) = X18 (L m c) (Proc.devRef .tc r) :=
  (trips_of _ c r (fun h' => h (List.mem_append_left _ h')) (fun h' => h (List.mem_append_right _ h')) k).trans (entry_eq m c r)

/-- The scale factor, as launched. -/
theorem x18_scale (V : Valuation τ sig (Elt Ideal)) : X18 V (Proc.devRef .tc main_arg3) = V (Proc.devRef .tc main_arg3) :=
  (congrFun (X_entry V).symm _).trans (pre_args V main_arg3 (by decide))

/-- The reference's result is the detections of its chosen pairs. -/
theorem result_at (b : Fin 8) (k : Fin 300) (t : Fin 6) : finalContents condOps preI bodyI postI 1000 m c (Proc.devRef .tc main_v252) (ix3 b k t) =
    detection (VF (L m c) b) (VC (L m c) b) (VP (L m c) b) (L m c (Proc.devRef .tc main_arg3) (ix1 b)) k t :=
  tail_kept (atTrip condOps bodyI (entryContents preI m) 1000 c) (X18 (L m c)) b (VF (L m c) b) (VC (L m c) b) (VP (L m c) b) _
    (fun r h => cond_sub m c r h 1000)
    (loop_keep (entryContents preI m) c (L m c) (entry_eq m c) b) (x18_values (L m c) b) (x18_v133 (L m c) b) (x18_v172 (L m c) b)
    (congrFun (x18_scale (L m c)) (ix1 b)) k t

end Whole
end Cert.Proof.Ref
-- ==== Proof.Pre.lean ====
/- The precondition, read: in every image the thousandth best score is above the next one, or does not pass the threshold. -/
module

public import proofs.«01_k».proof.Defs
public import proofs.«01_k».proof.Proof.Ref4

@[expose] public section
noncomputable section
namespace Cert.Proof.Pre
open Idealize.ShloMosaic Idealize.ShloMosaic.TcCoe Idealize.ShloMosaic.StableHlo Idealize.ShloMosaic.Tactic
open Cert.ReferenceIdeal Cert.ReferenceIdeal.Gen Cert.ReferenceIdeal.Value
open Cert.Proof.Model Cert.Proof.Select Cert.Proof.Take
set_option maxRecDepth 100000

/-- The predicate's side conditions hold. -/
instance facts : Cert.Pre_cut_untied.Facts where
  bcast_S_S8x80x80x3x85 := @Cert.ReferenceIdeal.Gen.bcast_S_S8x80x80x3x85
  bcast_S80_S80x80_0 := @Cert.ReferenceIdeal.Gen.bcast_S80_S80x80_0
  bcast_S80_S80x80_1 := @Cert.ReferenceIdeal.Gen.bcast_S80_S80x80_1
  bcast_S80x80_S80x80x1_0_1 := @Cert.ReferenceIdeal.Gen.bcast_S80x80_S80x80x1_0_1
  concatenates_S80x80x1_S80x80x1_S80x80x2_d2 := @Cert.ReferenceIdeal.Gen.concatenates_S80x80x1_S80x80x1_S80x80x2_d2
  bcast_S80x80x2_S1x80x80x1x2_1_2_4 := @Cert.ReferenceIdeal.Gen.bcast_S80x80x2_S1x80x80x1x2_1_2_4
  slices_S8x80x80x3x85_S8x80x80x3x2_0_0_0_0_0 := @Cert.ReferenceIdeal.Gen.slices_S8x80x80x3x85_S8x80x80x3x2_0_0_0_0_0
  bcast_S_S8x80x80x3x2 := @Cert.ReferenceIdeal.Gen.bcast_S_S8x80x80x3x2
  bcast_S1x80x80x1x2_S8x80x80x3x2_0_1_2_3_4 := @Cert.ReferenceIdeal.Gen.bcast_S1x80x80x1x2_S8x80x80x3x2_0_1_2_3_4
  slices_S8x80x80x3x85_S8x80x80x3x2_0_0_0_0_2 := @Cert.ReferenceIdeal.Gen.slices_S8x80x80x3x85_S8x80x80x3x2_0_0_0_0_2
  bcast_S3x2_S1x1x1x3x2_3_4 := @Cert.ReferenceIdeal.Gen.bcast_S3x2_S1x1x1x3x2_3_4
  bcast_S1x1x1x3x2_S8x80x80x3x2_0_1_2_3_4 := @Cert.ReferenceIdeal.Gen.bcast_S1x1x1x3x2_S8x80x80x3x2_0_1_2_3_4
  slices_S8x80x80x3x85_S8x80x80x3x1_0_0_0_0_4 := @Cert.ReferenceIdeal.Gen.slices_S8x80x80x3x85_S8x80x80x3x1_0_0_0_0_4
  slices_S8x80x80x3x85_S8x80x80x3x80_0_0_0_0_5 := @Cert.ReferenceIdeal.Gen.slices_S8x80x80x3x85_S8x80x80x3x80_0_0_0_0_5
  bcast_S_S8x80x80x3x1 := @Cert.ReferenceIdeal.Gen.bcast_S_S8x80x80x3x1
  bcast_S8x80x80x3x1_S8x80x80x3x80_0_1_2_3_4 := @Cert.ReferenceIdeal.Gen.bcast_S8x80x80x3x1_S8x80x80x3x80_0_1_2_3_4
  concatenates_S8x80x80x3x2_S8x80x80x3x2_S8x80x80x3x4_d4 := @Cert.ReferenceIdeal.Gen.concatenates_S8x80x80x3x2_S8x80x80x3x2_S8x80x80x3x4_d4
  shapeCasts_S8x80x80x3x4_S8x19200x4 := @Cert.ReferenceIdeal.Gen.shapeCasts_S8x80x80x3x4_S8x19200x4
  shapeCasts_S8x80x80x3x80_S8x19200x80 := @Cert.ReferenceIdeal.Gen.shapeCasts_S8x80x80x3x80_S8x19200x80
  bcast_S_S8x40x40x3x85 := @Cert.ReferenceIdeal.Gen.bcast_S_S8x40x40x3x85
  bcast_S40_S40x40_0 := @Cert.ReferenceIdeal.Gen.bcast_S40_S40x40_0
  bcast_S40_S40x40_1 := @Cert.ReferenceIdeal.Gen.bcast_S40_S40x40_1
  bcast_S40x40_S40x40x1_0_1 := @Cert.ReferenceIdeal.Gen.bcast_S40x40_S40x40x1_0_1
  concatenates_S40x40x1_S40x40x1_S40x40x2_d2 := @Cert.ReferenceIdeal.Gen.concatenates_S40x40x1_S40x40x1_S40x40x2_d2
  bcast_S40x40x2_S1x40x40x1x2_1_2_4 := @Cert.ReferenceIdeal.Gen.bcast_S40x40x2_S1x40x40x1x2_1_2_4
  slices_S8x40x40x3x85_S8x40x40x3x2_0_0_0_0_0 := @Cert.ReferenceIdeal.Gen.slices_S8x40x40x3x85_S8x40x40x3x2_0_0_0_0_0
  bcast_S_S8x40x40x3x2 := @Cert.ReferenceIdeal.Gen.bcast_S_S8x40x40x3x2
  bcast_S1x40x40x1x2_S8x40x40x3x2_0_1_2_3_4 := @Cert.ReferenceIdeal.Gen.bcast_S1x40x40x1x2_S8x40x40x3x2_0_1_2_3_4
  slices_S8x40x40x3x85_S8x40x40x3x2_0_0_0_0_2 := @Cert.ReferenceIdeal.Gen.slices_S8x40x40x3x85_S8x40x40x3x2_0_0_0_0_2
  bcast_S1x1x1x3x2_S8x40x40x3x2_0_1_2_3_4 := @Cert.ReferenceIdeal.Gen.bcast_S1x1x1x3x2_S8x40x40x3x2_0_1_2_3_4
  slices_S8x40x40x3x85_S8x40x40x3x1_0_0_0_0_4 := @Cert.ReferenceIdeal.Gen.slices_S8x40x40x3x85_S8x40x40x3x1_0_0_0_0_4
  slices_S8x40x40x3x85_S8x40x40x3x80_0_0_0_0_5 := @Cert.ReferenceIdeal.Gen.slices_S8x40x40x3x85_S8x40x40x3x80_0_0_0_0_5
  bcast_S_S8x40x40x3x1 := @Cert.ReferenceIdeal.Gen.bcast_S_S8x40x40x3x1
  bcast_S8x40x40x3x1_S8x40x40x3x80_0_1_2_3_4 := @Cert.ReferenceIdeal.Gen.bcast_S8x40x40x3x1_S8x40x40x3x80_0_1_2_3_4
  concatenates_S8x40x40x3x2_S8x40x40x3x2_S8x40x40x3x4_d4 := @Cert.ReferenceIdeal.Gen.concatenates_S8x40x40x3x2_S8x40x40x3x2_S8x40x40x3x4_d4
  shapeCasts_S8x40x40x3x4_S8x4800x4 := @Cert.ReferenceIdeal.Gen.shapeCasts_S8x40x40x3x4_S8x4800x4
  shapeCasts_S8x40x40x3x80_S8x4800x80 := @Cert.ReferenceIdeal.Gen.shapeCasts_S8x40x40x3x80_S8x4800x80
  bcast_S_S8x20x20x3x85 := @Cert.ReferenceIdeal.Gen.bcast_S_S8x20x20x3x85
  bcast_S20_S20x20_0 := @Cert.ReferenceIdeal.Gen.bcast_S20_S20x20_0
  bcast_S20_S20x20_1 := @Cert.ReferenceIdeal.Gen.bcast_S20_S20x20_1
  bcast_S20x20_S20x20x1_0_1 := @Cert.ReferenceIdeal.Gen.bcast_S20x20_S20x20x1_0_1
  concatenates_S20x20x1_S20x20x1_S20x20x2_d2 := @Cert.ReferenceIdeal.Gen.concatenates_S20x20x1_S20x20x1_S20x20x2_d2
  bcast_S20x20x2_S1x20x20x1x2_1_2_4 := @Cert.ReferenceIdeal.Gen.bcast_S20x20x2_S1x20x20x1x2_1_2_4
  slices_S8x20x20x3x85_S8x20x20x3x2_0_0_0_0_0 := @Cert.ReferenceIdeal.Gen.slices_S8x20x20x3x85_S8x20x20x3x2_0_0_0_0_0
  bcast_S_S8x20x20x3x2 := @Cert.ReferenceIdeal.Gen.bcast_S_S8x20x20x3x2
  bcast_S1x20x20x1x2_S8x20x20x3x2_0_1_2_3_4 := @Cert.ReferenceIdeal.Gen.bcast_S1x20x20x1x2_S8x20x20x3x2_0_1_2_3_4
  slices_S8x20x20x3x85_S8x20x20x3x2_0_0_0_0_2 := @Cert.ReferenceIdeal.Gen.slices_S8x20x20x3x85_S8x20x20x3x2_0_0_0_0_2
  bcast_S1x1x1x3x2_S8x20x20x3x2_0_1_2_3_4 := @Cert.ReferenceIdeal.Gen.bcast_S1x1x1x3x2_S8x20x20x3x2_0_1_2_3_4
  slices_S8x20x20x3x85_S8x20x20x3x1_0_0_0_0_4 := @Cert.ReferenceIdeal.Gen.slices_S8x20x20x3x85_S8x20x20x3x1_0_0_0_0_4
  slices_S8x20x20x3x85_S8x20x20x3x80_0_0_0_0_5 := @Cert.ReferenceIdeal.Gen.slices_S8x20x20x3x85_S8x20x20x3x80_0_0_0_0_5
  bcast_S_S8x20x20x3x1 := @Cert.ReferenceIdeal.Gen.bcast_S_S8x20x20x3x1
  bcast_S8x20x20x3x1_S8x20x20x3x80_0_1_2_3_4 := @Cert.ReferenceIdeal.Gen.bcast_S8x20x20x3x1_S8x20x20x3x80_0_1_2_3_4
  concatenates_S8x20x20x3x2_S8x20x20x3x2_S8x20x20x3x4_d4 := @Cert.ReferenceIdeal.Gen.concatenates_S8x20x20x3x2_S8x20x20x3x2_S8x20x20x3x4_d4
  shapeCasts_S8x20x20x3x4_S8x1200x4 := @Cert.ReferenceIdeal.Gen.shapeCasts_S8x20x20x3x4_S8x1200x4
  shapeCasts_S8x20x20x3x80_S8x1200x80 := @Cert.ReferenceIdeal.Gen.shapeCasts_S8x20x20x3x80_S8x1200x80
  concatenates_S8x19200x80_S8x4800x80_S8x1200x80_S8x25200x80_d1 := @Cert.ReferenceIdeal.Gen.concatenates_S8x19200x80_S8x4800x80_S8x1200x80_S8x25200x80_d1
  shapeCasts_S8x25200x80_S8x2016000 := @Cert.ReferenceIdeal.Gen.shapeCasts_S8x25200x80_S8x2016000
  bcast_S_S8x2016000 := @Cert.ReferenceIdeal.Gen.bcast_S_S8x2016000
  sliceFits_S8x2016000_S8x1001 := by decide
  slices_S8x1001_S8x1_0_1000 := by decide
  slices_S8x1001_S8x1_0_999 := by decide
  bcast_S_S8x1 := by decide

/-- The predicate from the scores on. -/
def tail (x : FVec Ideal S8x2016000 .f32) : IVec Cert.Pre_cut_untied.S8x1 1 :=
  let y : FVec Ideal S8x2016000 .f32 := Cert.Pre_cut_untied.fn_where (F := Ideal) (cmpf .ogt x (broadcastInDim S8x2016000 ![] Cert.Pre_cut_untied.Facts.bcast_S_S8x2016000 (constant S_ .f32 0x3E800000#32))) x
    (constant S_ .f32 0xBF800000#32)
  let v : FVec Ideal Cert.Pre_cut_untied.S8x1001 .f32 := (Host.topK Cert.Pre_cut_untied.S8x1001 1 (FloatOps.cmpfTotal .gt) y Cert.Pre_cut_untied.Facts.sliceFits_S8x2016000_S8x1001).1
  ori (cmpf .olt (extractStridedSlice Cert.Pre_cut_untied.S8x1 ![0, 1000] v Cert.Pre_cut_untied.Facts.slices_S8x1001_S8x1_0_1000)
      (extractStridedSlice Cert.Pre_cut_untied.S8x1 ![0, 999] v Cert.Pre_cut_untied.Facts.slices_S8x1001_S8x1_0_999))
    (cmpf .ole (extractStridedSlice Cert.Pre_cut_untied.S8x1 ![0, 999] v Cert.Pre_cut_untied.Facts.slices_S8x1001_S8x1_0_999)
      (broadcastInDim Cert.Pre_cut_untied.S8x1 ![] Cert.Pre_cut_untied.Facts.bcast_S_S8x1 (constant S_ .f32 0x3E800000#32)))

set_option maxHeartbeats 4000000 in
/-- The predicate's scores are the reference's. -/
theorem fn_eq (V : Valuation τ sig (Elt Ideal)) : Cert.Pre_cut_untied.fn (F := Ideal) (V (Proc.devRef .tc main_arg0)) (V (Proc.devRef .tc main_arg1))
    (V (Proc.devRef .tc main_arg2)) (V (Proc.devRef .tc main_arg3)) = tail (after hostOps0 V (Proc.devRef .tc main_v128)) := by
  after_reads_simp
  rfl

/-- Two bits, one of them set. -/
theorem either (A B : Prop) [Decidable A] [Decidable B] (h : IntOp.ori (BitVec.ofBool (decide A)) (BitVec.ofBool (decide B)) = 1#1) : A ∨ B := by
  by_cases hA : A
  · exact Or.inl hA
  · by_cases hB : B
    · exact Or.inr hB
    · simp [hA, hB, IntOp.ori] at h

/-- The masked scores the predicate ranks. -/
theorem mask_at (x : FVec Ideal S8x2016000 .f32) (b : Fin 8) (q : Fin 2016000) :
    Cert.Pre_cut_untied.fn_where (F := Ideal) (cmpf .ogt x (broadcastInDim S8x2016000 ![] Cert.Pre_cut_untied.Facts.bcast_S_S8x2016000 (constant S_ .f32 0x3E800000#32))) x
      (constant S_ .f32 0xBF800000#32) (ix2 b q) = if quarter < x (ix2 b q) then x (ix2 b q) else neg1 := by
  refine Eq.trans ?_ (WordCmp.select_decide (quarter < x (ix2 b q)) (x (ix2 b q)) neg1)
  unfold Cert.Pre_cut_untied.fn_where
  simp only [id]
  pointwise
  rfl

/-- The comparisons at an image, for any ranked scores. -/
theorem cmp_at (v : FVec Ideal Cert.Pre_cut_untied.S8x1001 .f32) (b : Fin 8) (h1 h2 h3) :
    (ori (cmpf .olt (extractStridedSlice Cert.Pre_cut_untied.S8x1 ![0, 1000] v h1) (extractStridedSlice Cert.Pre_cut_untied.S8x1 ![0, 999] v h2))
      (cmpf .ole (extractStridedSlice Cert.Pre_cut_untied.S8x1 ![0, 999] v h2) (broadcastInDim Cert.Pre_cut_untied.S8x1 ![] h3 (constant S_ .f32 0x3E800000#32)))) (ix2 b (0 : Fin 1)) =
    IntOp.ori (BitVec.ofBool (decide (v (ix2 b (1000 : Fin 1001)) < v (ix2 b (999 : Fin 1001))))) (BitVec.ofBool (decide (v (ix2 b (999 : Fin 1001)) ≤ quarter))) := by
  pointwise
  rfl

/-- The predicate at an image. -/
theorem tail_at (x : FVec Ideal S8x2016000 .f32) (b : Fin 8) (F : Fin 2016000 → EReal) (hF : ∀ q, (if quarter < x (ix2 b q) then x (ix2 b q) else neg1) = F q)
    (h : tail x (ix2 b (0 : Fin 1)) = 1#1) :
    F (best F ⟨1000, by decide⟩) < F (best F ⟨999, by decide⟩) ∨ F (best F ⟨999, by decide⟩) ≤ quarter := by
  have hv : ∀ j : Fin 1001, (Host.topK Cert.Pre_cut_untied.S8x1001 1 (FloatOps.cmpfTotal (F := Ideal) (φ := .f32) .gt) (Cert.Pre_cut_untied.fn_where (F := Ideal)
      (cmpf .ogt x (broadcastInDim S8x2016000 ![] Cert.Pre_cut_untied.Facts.bcast_S_S8x2016000 (constant S_ .f32 0x3E800000#32))) x (constant S_ .f32 0xBF800000#32))
      Cert.Pre_cut_untied.Facts.sliceFits_S8x2016000_S8x1001).1 (ix2 b j) = F (best F (j.castLE (by decide))) := fun j =>
    ((topK_at _ Cert.Pre_cut_untied.Facts.sliceFits_S8x2016000_S8x1001 b j (by decide)).1).trans
      (congrArg (fun f => f (best f (j.castLE (by decide) : Fin 2016000))) (funext fun q => (mask_at x b q).trans (hF q)))
  have e := (cmp_at _ b _ _ _).symm.trans h
  rw [hv, hv] at e
  exact either _ _ e

end Cert.Proof.Pre
-- ==== Proof.Value.lean ====
/- Kernel and reference compared: where the precondition holds, both leave the detections of the thousand best pairs. -/
module

public import proofs.«01_k».proof.Proof.KernelRun
public import proofs.«01_k».proof.Proof.KHost6
public import proofs.«01_k».proof.Proof.Ref6
public import proofs.«01_k».proof.Proof.RefFrame
public import proofs.«01_k».proof.Proof.Pre

@[expose] public section
noncomputable section
namespace Cert.Proof.Value
open Idealize.ShloMosaic Idealize.ShloMosaic.TcCoe Idealize.ShloMosaic.StableHlo Idealize.ShloMosaic.Tactic Idealize.SL.Sem
open Cert.Proof.Model Cert.Proof.Select
set_option maxRecDepth 100000

/-- The thousand best pairs. -/
def top (F : Fin 2016000 → EReal) (j : Fin 1000) : Fin 2016000 := best F (j.castLE (by decide))

/-- An image's detections, from its raw boxes and its scale. -/
def out (R : Fin 25200 → Fin 85 → EReal) (z : EReal) (k : Fin 300) (t : Fin 6) : EReal := detection (scores R) (corners R) (top (scores R)) z k t

/-- No tie at the cut: the thousandth best score is above the next one, or does not pass the threshold. -/
def Untied (F : Fin 2016000 → EReal) : Prop := F (best F ⟨1000, by decide⟩) < F (best F ⟨999, by decide⟩) ∨ F (best F ⟨999, by decide⟩) ≤ quarter

/-- A score passes the threshold or is minus one. -/
theorem scores_cases (R : Fin 25200 → Fin 85 → EReal) (a : Fin 2016000) : scores R a = neg1 ∨ quarter < scores R a := (score_cases _ _).symm

/-- What the kernel's two picks and last sort choose, against the thousand best pairs. -/
theorem picked_top (F : Fin 2016000 → EReal) (hF : ∀ a, F a = neg1 ∨ quarter < F a) (h : Untied F) (r0 : Fin 19200 → Fin 19200) (r1 : Fin 4800 → Fin 4800)
    (ec : Fin 341760 → Fin 341760)
    (e0 : r0 = best (fun i => Finset.fold max ⊥ (fun l : Fin 80 => F (flat ⟨i.val, by omega⟩ l)) Finset.univ))
    (e1 : r1 = best (fun i => Finset.fold max ⊥ (fun l : Fin 80 => F (flat ⟨19200 + i.val, by omega⟩ l)) Finset.univ))
    (e2 : ec = best (fun p => F (cand r0 r1 p))) (e3 : Fin 1000 → Fin 1000) (h3 : Function.Injective e3)
    (hb : ∀ i j : Fin 1000, i < j → Before F (cand r0 r1 (ec ((e3 i).castLE (by decide)))) (cand r0 r1 (ec ((e3 j).castLE (by decide))))) (j : Fin 1000) :
    F (cand r0 r1 (ec ((e3 j).castLE (by decide)))) = F (top F j) ∧ (quarter < F (top F j) → cand r0 r1 (ec ((e3 j).castLE (by decide))) = top F j) :=
  picked F hF (best F) rfl h r0 r1 (by rw [e0]; exact best_sorted _) (by rw [e1]; exact best_sorted _) ec (by rw [e2]; exact best_sorted _) e3 h3 hb j

section Kernel
open Cert.KernelIdeal Cert.KernelIdeal.Gen Cert.Proof.Ker
variable (m : (ℓ : Loc nD τ sig) → Buf (Elt Ideal) ℓ) (ρ : Dev nD → PrngReg) (c : Dev nD)

/-- The first level's order, by its definition. -/
theorem rank0_def (b : Fin 8) : rank0 m c b = best (fun i => Finset.fold max ⊥ (fun l : Fin 80 => KF m c b (flat ⟨i.val, by omega⟩ l)) Finset.univ) := by
  unfold rank0
  rfl

/-- The second level's order, by its definition. -/
theorem rank1_def (b : Fin 8) : rank1 m c b = best (fun i => Finset.fold max ⊥ (fun l : Fin 80 => KF m c b (flat ⟨19200 + i.val, by omega⟩ l)) Finset.univ) := by
  unfold rank1
  rfl

/-- The candidates' order, by its definition. -/
theorem cands_def (b : Fin 8) : cands m c b = best (fun p => KF m c b (cand (rank0 m c b) (rank1 m c b) p)) := by
  unfold cands
  rfl

/-- The kernel's result, where no tie is cut. -/
theorem kernel_at (b : Fin 8) (h : Untied (KF m c b)) (k : Fin 300) (t : Fin 6) : W34 m ρ c (Proc.devRef .tc main_v92) (ix3 b k t) =
    out (KR m c b) (m ((c : Thread nD τ).loc main_arg3) (ix1 b)) k t := by
  obtain ⟨e3, hinj, hbef, hK⟩ := chosen m ρ c b
  refine (result_at m ρ c b (fun j => cand (rank0 m c b) (rank1 m c b) (cands m c b ((e3 j).castLE (by decide)))) (fun j => (hK j).1) (fun j => (hK j).2) k t).trans ?_
  exact detection_congr (picked_top (KF m c b) (scores_cases (KR m c b)) h _ _ _ (rank0_def m c b) (rank1_def m c b) (cands_def m c b) e3 hinj hbef) _ k t

end Kernel

section Reference
open Cert.ReferenceIdeal Cert.ReferenceIdeal.Gen Cert.ReferenceIdeal.Value Cert.Proof.Ref

/-- The reference's result. -/
theorem reference_at (m : (ℓ : Loc nD τ sig) → Buf (Elt Ideal) ℓ) (c : Dev nD) (b : Fin 8) (k : Fin 300) (t : Fin 6) :
    finalContents condOps preI bodyI postI 1000 m c (Proc.devRef .tc main_v252) (ix3 b k t) =
    out (VR (L m c) b) (L m c (Proc.devRef .tc main_arg3) (ix1 b)) k t := Ref.result_at m c b k t

/-- The predicate says that no tie is cut. -/
theorem untied_of (V : Valuation τ sig (Elt Ideal)) (h : Cert.Pre_cut_untied.fn (F := Ideal) (V (Proc.devRef .tc main_arg0)) (V (Proc.devRef .tc main_arg1))
    (V (Proc.devRef .tc main_arg2)) (V (Proc.devRef .tc main_arg3)) = fun _ => 1#1) (b : Fin 8) : Untied (VF V b) := by
  rw [Pre.fn_eq V] at h
  refine Pre.tail_at (after hostOps0 V (Proc.devRef .tc main_v128)) b (VF V b) (fun q => ?_) (congrFun h _)
  rw [v128_at V b q]
  exact (v131_at (X0 V) b q _ (v130_at V b q) (v128_at V b q) (cst24_at V)).symm.trans (x1_v131 V b q)

end Reference

section Both
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h0 h1 h2 in
/-- Equal arguments, equal raw boxes. -/
theorem raw_eq (b : Fin 8) : Ref.VR (Ref.L m' c) b = Ker.KR m c b := by
  have e : ∀ (x0 y0 : Cert.ReferenceIdeal.S8x80x80x3x85.Idx → EReal) (x1 y1 : Cert.ReferenceIdeal.S8x40x40x3x85.Idx → EReal) (x2 y2 : Cert.ReferenceIdeal.S8x20x20x3x85.Idx → EReal),
      x0 = y0 → x1 = y1 → x2 = y2 → Model.R x0 x1 x2 b = Model.R y0 y1 y2 b := by
    rintro _ _ _ _ _ _ rfl rfl rfl
    rfl
  exact e _ _ _ _ _ _ h0 h1 h2

include h0 h1 h2 h3 in
/-- Equal results, entry by entry. -/
theorem entry_eq (hp : Cert.Pre_cut_untied.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) (b : Fin 8) (k : Fin 300) (t : Fin 6) :
    finalContents Cert.ReferenceIdeal.Value.condOps Cert.ReferenceIdeal.Value.preI Cert.ReferenceIdeal.Value.bodyI Cert.ReferenceIdeal.Value.postI 1000 m' c
      (Proc.devRef .tc Cert.ReferenceIdeal.main_v252) (ix3 b k t) =
    Cert.KernelIdeal.Gen.W34 m g c (Proc.devRef .tc Cert.KernelIdeal.main_v92) (ix3 b k t) := by
  have eR := raw_eq m m' c h0 h1 h2 b
  have hp' : Cert.Pre_cut_untied.fn (F := Ideal) (Ref.L m' c (Proc.devRef .tc Cert.ReferenceIdeal.main_arg0)) (Ref.L m' c (Proc.devRef .tc Cert.ReferenceIdeal.main_arg1))
      (Ref.L m' c (Proc.devRef .tc Cert.ReferenceIdeal.main_arg2)) (Ref.L m' c (Proc.devRef .tc Cert.ReferenceIdeal.main_arg3)) = fun _ => 1#1 := by
    have e : ∀ (x0 y0 : Cert.ReferenceIdeal.S8x80x80x3x85.Idx → EReal) (x1 y1 : Cert.ReferenceIdeal.S8x40x40x3x85.Idx → EReal) (x2 y2 : Cert.ReferenceIdeal.S8x20x20x3x85.Idx → EReal)
        (x3 y3 : Cert.ReferenceIdeal.S8.Idx → EReal), x0 = y0 → x1 = y1 → x2 = y2 → x3 = y3 →
        Cert.Pre_cut_untied.fn (F := Ideal) x0 x1 x2 x3 = Cert.Pre_cut_untied.fn (F := Ideal) y0 y1 y2 y3 := by
      rintro _ _ _ _ _ _ _ _ rfl rfl rfl rfl
      rfl
    exact (e _ _ _ _ _ _ _ _ h0 h1 h2 h3).trans hp
  have hu : Untied (Ker.KF m c b) := by
    have h := untied_of (Ref.L m' c) hp' b
    unfold Ref.VF at h
    rw [eR] at h
    exact h
  refine (reference_at m' c b k t).trans (Eq.trans ?_ (kernel_at m g c b hu k t).symm)
  rw [eR]
  exact congrArg (fun z => out (Ker.KR m c b) z k t) (congrFun h3 (ix1 b))

include h0 h1 h2 h3 in
/-- Equal results. -/
theorem result_eq (hp : Cert.Pre_cut_untied.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    finalContents Cert.ReferenceIdeal.Value.condOps Cert.ReferenceIdeal.Value.preI Cert.ReferenceIdeal.Value.bodyI Cert.ReferenceIdeal.Value.postI 1000 m' c
      (Proc.devRef .tc Cert.ReferenceIdeal.main_v252) =
    Cert.KernelIdeal.Gen.W34 m g c (Proc.devRef .tc Cert.KernelIdeal.main_v92) := by
  have e : ∀ x y : Cert.ReferenceIdeal.S8x300x6.Idx → EReal, (∀ b k t, x (ix3 b k t) = y (ix3 b k t)) → x = y := fun x y h => funext fun i => by
    rw [eq_ix3 i]
    exact h _ _ _
  exact e _ _ (entry_eq m g m' c h0 h1 h2 h3 hp)

end Both
end Cert.Proof.Value
-- ==== Proof.lean ====
/- The proof of the claim: both programs run and leave their arguments as launched, and where the precondition holds the kernel's
   result is the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- Equal results on equal arguments, where the precondition holds. -/
theorem algebraic : Cert.algebraic_KernelIdeal_ReferenceIdeal_pre_cut_untied (hKernelIdeal := Cert.KernelIdeal.Gen.facts)
    (hReferenceIdeal := Cert.ReferenceIdeal.Gen.facts) (hPre_cut_untied := Cert.Proof.Pre.facts) := fun m g m' g' hp ha =>
  ⟨fun c => Cert.KernelIdeal.Gen.W34 m g c (Proc.devRef .tc Cert.KernelIdeal.main_v92), Cert.Proof.Ker.run_result m g,
    (θ_run _ _ _).mono (fun r h c =>
      ⟨(h c Cert.ReferenceIdeal.main_v252 rfl).trans (Value.result_eq m g m' c (ha c).1 (ha c).2.1 (ha c).2.2.1 (ha c).2.2.2 (hp c)),
       (h c Cert.ReferenceIdeal.main_arg0 rfl).trans (Ref.final_args m' c Cert.ReferenceIdeal.main_arg0 (by decide)),
       (h c Cert.ReferenceIdeal.main_arg1 rfl).trans (Ref.final_args m' c Cert.ReferenceIdeal.main_arg1 (by decide)),
       (h c Cert.ReferenceIdeal.main_arg2 rfl).trans (Ref.final_args m' c Cert.ReferenceIdeal.main_arg2 (by decide)),
       (h c Cert.ReferenceIdeal.main_arg3 rfl).trans (Ref.final_args m' c Cert.ReferenceIdeal.main_arg3 (by decide))⟩)
      (Cert.ReferenceIdeal.Value.run_fold m' g')⟩

/-- Everything claimed: the two programs run and keep their arguments, the idealized kernel is the kernel's, and the results agree. -/
theorem claim : Cert.Claim := ⟨Cert.Kernel.Gen.facts, Cert.KernelIdeal.Gen.facts, Cert.ReferenceIdeal.Gen.facts, Cert.Proof.Pre.facts,
  fun m ρ _ => Cert.Kernel.Gen.frame m ρ,
  fun m ρ _ => Cert.KernelIdeal.Gen.frame m ρ,
  fun m ρ _ => Cert.KernelIdeal.Gen.frame m ρ,
  fun m ρ _ => Cert.Proof.Ref.frame m ρ,
  fun m ρ _ => Cert.Proof.Ref.frame m ρ,
  trivial,
  algebraic⟩

end Cert.Proof

end
